-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQRefIdeal (m : (ℓ : Loc Cert.ProjQRefIdeal.nD Cert.ProjQRefIdeal.τ Cert.ProjQRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_ProjRkv (m : (ℓ : Loc Cert.ProjRkv.nD Cert.ProjRkv.τ Cert.ProjRkv.sig) → Buf (Elt Bits) ℓ) : Prop :=
  True

def Pre_ProjRkvIdeal (m : (ℓ : Loc Cert.ProjRkvIdeal.nD Cert.ProjRkvIdeal.τ Cert.ProjRkvIdeal.sig) → Buf (Elt Ideal) ℓ) : Prop :=
  True

def Pre_ProjRkvRefIdeal (m : (ℓ : Loc Cert.ProjRkvRefIdeal.nD Cert.ProjRkvRefIdeal.τ Cert.ProjRkvRefIdeal.sig) → Buf (Elt Ideal) ℓ) : Prop :=
  True

def Pre_ProjLo (m : (ℓ : Loc Cert.ProjLo.nD Cert.ProjLo.τ Cert.ProjLo.sig) → Buf (Elt Bits) ℓ) : Prop :=
  True

def Pre_ProjLoIdeal (m : (ℓ : Loc Cert.ProjLoIdeal.nD Cert.ProjLoIdeal.τ Cert.ProjLoIdeal.sig) → Buf (Elt Ideal) ℓ) : Prop :=
  True

def Pre_ProjLoRefIdeal (m : (ℓ : Loc Cert.ProjLoRefIdeal.nD Cert.ProjLoRefIdeal.τ Cert.ProjLoRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_UpQ (m : (ℓ : Loc Cert.UpQ.nD Cert.UpQ.τ Cert.UpQ.sig) → Buf (Elt Bits) ℓ) : Prop :=
  True

def Pre_UpQIdeal (m : (ℓ : Loc Cert.UpQIdeal.nD Cert.UpQIdeal.τ Cert.UpQIdeal.sig) → Buf (Elt Ideal) ℓ) : Prop :=
  True

def Pre_UpQRefIdeal (m : (ℓ : Loc Cert.UpQRefIdeal.nD Cert.UpQRefIdeal.τ Cert.UpQRefIdeal.sig) → Buf (Elt Ideal) ℓ) : Prop :=
  True

def Pre_UpKv (m : (ℓ : Loc Cert.UpKv.nD Cert.UpKv.τ Cert.UpKv.sig) → Buf (Elt Bits) ℓ) : Prop :=
  True

def Pre_UpKvIdeal (m : (ℓ : Loc Cert.UpKvIdeal.nD Cert.UpKvIdeal.τ Cert.UpKvIdeal.sig) → Buf (Elt Ideal) ℓ) : Prop :=
  True

def Pre_UpKvRefIdeal (m : (ℓ : Loc Cert.UpKvRefIdeal.nD Cert.UpKvRefIdeal.τ Cert.UpKvRefIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModRefIdeal (m : (ℓ : Loc Cert.NormModRefIdeal.nD Cert.NormModRefIdeal.τ Cert.NormModRefIdeal.sig) → Buf (Elt Ideal) ℓ) : Prop :=
  True

def Pre_NormPlain (m : (ℓ : Loc Cert.NormPlain.nD Cert.NormPlain.τ Cert.NormPlain.sig) → Buf (Elt Bits) ℓ) : Prop :=
  True

def Pre_NormPlainIdeal (m : (ℓ : Loc Cert.NormPlainIdeal.nD Cert.NormPlainIdeal.τ Cert.NormPlainIdeal.sig) → Buf (Elt Ideal) ℓ) : Prop :=
  True

def Pre_NormPlainRefIdeal (m : (ℓ : Loc Cert.NormPlainRefIdeal.nD Cert.NormPlainRefIdeal.τ Cert.NormPlainRefIdeal.sig) → Buf (Elt Ideal) ℓ) : Prop :=
  True

def Pre_Cond (m : (ℓ : Loc Cert.Cond.nD Cert.Cond.τ Cert.Cond.sig) → Buf (Elt Bits) ℓ) : Prop :=
  True

def Pre_CondIdeal (m : (ℓ : Loc Cert.CondIdeal.nD Cert.CondIdeal.τ Cert.CondIdeal.sig) → Buf (Elt Ideal) ℓ) : Prop :=
  True

def Pre_CondRefIdeal (m : (ℓ : Loc Cert.CondRefIdeal.nD Cert.CondRefIdeal.τ Cert.CondRefIdeal.sig) → Buf (Elt Ideal) ℓ) : Prop :=
  True

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepRefIdeal (m : (ℓ : Loc Cert.MlaPrepRefIdeal.nD Cert.MlaPrepRefIdeal.τ Cert.MlaPrepRefIdeal.sig) → Buf (Elt Ideal) ℓ) : Prop :=
  True

def Pre_RwkvPrep (m : (ℓ : Loc Cert.RwkvPrep.nD Cert.RwkvPrep.τ Cert.RwkvPrep.sig) → Buf (Elt Bits) ℓ) : Prop :=
  True

def Pre_RwkvPrepIdeal (m : (ℓ : Loc Cert.RwkvPrepIdeal.nD Cert.RwkvPrepIdeal.τ Cert.RwkvPrepIdeal.sig) → Buf (Elt Ideal) ℓ) : Prop :=
  True

def Pre_RwkvPrepRefIdeal (m : (ℓ : Loc Cert.RwkvPrepRefIdeal.nD Cert.RwkvPrepRefIdeal.τ Cert.RwkvPrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ r.2.sem = fun _ => 0)

def quiescent_ProjQRefIdeal [hProjQRefIdeal : Cert.ProjQRefIdeal.Facts] : Prop :=
  ∀ (m : (ℓ : Loc Cert.ProjQRefIdeal.nD Cert.ProjQRefIdeal.τ Cert.ProjQRefIdeal.sig) → Buf (Elt Ideal) ℓ) (g : Dev Cert.ProjQRefIdeal.nD → PrngReg), Pre_ProjQRefIdeal m →
    θ_run (Cert.ProjQRefIdeal.defs (F := Ideal)) (onTc (τ := Cert.ProjQRefIdeal.τ) (Cert.ProjQRefIdeal.main (F := Ideal))) ⟨m, fun _ => 0, g⟩ (fun r => (∀ c : Dev Cert.ProjQRefIdeal.nD,
      r.2.mem ((c.tc : Thread Cert.ProjQRefIdeal.nD Cert.ProjQRefIdeal.τ).loc Cert.ProjQRefIdeal.main_arg0) = m ((c.tc : Thread Cert.ProjQRefIdeal.nD Cert.ProjQRefIdeal.τ).loc Cert.ProjQRefIdeal.main_arg0)
      ∧ r.2.mem ((c.tc : Thread Cert.ProjQRefIdeal.nD Cert.ProjQRefIdeal.τ).loc Cert.ProjQRefIdeal.main_arg1) = m ((c.tc : Thread Cert.ProjQRefIdeal.nD Cert.ProjQRefIdeal.τ).loc Cert.ProjQRefIdeal.main_arg1))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1))
      ∧ r.2.sem = fun _ => 0)

def quiescent_ProjRkv [hProjRkv : Cert.ProjRkv.Facts] : Prop :=
  ∀ (m : (ℓ : Loc Cert.ProjRkv.nD Cert.ProjRkv.τ Cert.ProjRkv.sig) → Buf (Elt Bits) ℓ) (g : Dev Cert.ProjRkv.nD → PrngReg), Pre_ProjRkv m →
    θ_run (Cert.ProjRkv.defs (F := Bits)) (onTc (τ := Cert.ProjRkv.τ) (Cert.ProjRkv.main (F := Bits))) ⟨m, fun _ => 0, g⟩ (fun r => (∀ c : Dev Cert.ProjRkv.nD,
      r.2.mem ((c.tc : Thread Cert.ProjRkv.nD Cert.ProjRkv.τ).loc Cert.ProjRkv.main_arg0) = m ((c.tc : Thread Cert.ProjRkv.nD Cert.ProjRkv.τ).loc Cert.ProjRkv.main_arg0)
      ∧ r.2.mem ((c.tc : Thread Cert.ProjRkv.nD Cert.ProjRkv.τ).loc Cert.ProjRkv.main_arg1) = m ((c.tc : Thread Cert.ProjRkv.nD Cert.ProjRkv.τ).loc Cert.ProjRkv.main_arg1))
      ∧ r.2.sem = fun _ => 0)

def quiescent_ProjRkvIdeal [hProjRkvIdeal : Cert.ProjRkvIdeal.Facts] : Prop :=
  ∀ (m : (ℓ : Loc Cert.ProjRkvIdeal.nD Cert.ProjRkvIdeal.τ Cert.ProjRkvIdeal.sig) → Buf (Elt Ideal) ℓ) (g : Dev Cert.ProjRkvIdeal.nD → PrngReg), Pre_ProjRkvIdeal m →
    θ_run (Cert.ProjRkvIdeal.defs (F := Ideal)) (onTc (τ := Cert.ProjRkvIdeal.τ) (Cert.ProjRkvIdeal.main (F := Ideal))) ⟨m, fun _ => 0, g⟩ (fun r => (∀ c : Dev Cert.ProjRkvIdeal.nD,
      r.2.mem ((c.tc : Thread Cert.ProjRkvIdeal.nD Cert.ProjRkvIdeal.τ).loc Cert.ProjRkvIdeal.main_arg0) = m ((c.tc : Thread Cert.ProjRkvIdeal.nD Cert.ProjRkvIdeal.τ).loc Cert.ProjRkvIdeal.main_arg0)
      ∧ r.2.mem ((c.tc : Thread Cert.ProjRkvIdeal.nD Cert.ProjRkvIdeal.τ).loc Cert.ProjRkvIdeal.main_arg1) = m ((c.tc : Thread Cert.ProjRkvIdeal.nD Cert.ProjRkvIdeal.τ).loc Cert.ProjRkvIdeal.main_arg1))
      ∧ r.2.sem = fun _ => 0)

def quiescent_ProjRkvRefIdeal [hProjRkvRefIdeal : Cert.ProjRkvRefIdeal.Facts] : Prop :=
  ∀ (m : (ℓ : Loc Cert.ProjRkvRefIdeal.nD Cert.ProjRkvRefIdeal.τ Cert.ProjRkvRefIdeal.sig) → Buf (Elt Ideal) ℓ) (g : Dev Cert.ProjRkvRefIdeal.nD → PrngReg), Pre_ProjRkvRefIdeal m →
    θ_run (Cert.ProjRkvRefIdeal.defs (F := Ideal)) (onTc (τ := Cert.ProjRkvRefIdeal.τ) (Cert.ProjRkvRefIdeal.main (F := Ideal))) ⟨m, fun _ => 0, g⟩ (fun r => (∀ c : Dev Cert.ProjRkvRefIdeal.nD,
      r.2.mem ((c.tc : Thread Cert.ProjRkvRefIdeal.nD Cert.ProjRkvRefIdeal.τ).loc Cert.ProjRkvRefIdeal.main_arg0) = m ((c.tc : Thread Cert.ProjRkvRefIdeal.nD Cert.ProjRkvRefIdeal.τ).loc Cert.ProjRkvRefIdeal.main_arg0)
      ∧ r.2.mem ((c.tc : Thread Cert.ProjRkvRefIdeal.nD Cert.ProjRkvRefIdeal.τ).loc Cert.ProjRkvRefIdeal.main_arg1) = m ((c.tc : Thread Cert.ProjRkvRefIdeal.nD Cert.ProjRkvRefIdeal.τ).loc Cert.ProjRkvRefIdeal.main_arg1))
      ∧ r.2.sem = fun _ => 0)

def quiescent_ProjLo [hProjLo : Cert.ProjLo.Facts] : Prop :=
  ∀ (m : (ℓ : Loc Cert.ProjLo.nD Cert.ProjLo.τ Cert.ProjLo.sig) → Buf (Elt Bits) ℓ) (g : Dev Cert.ProjLo.nD → PrngReg), Pre_ProjLo m →
    θ_run (Cert.ProjLo.defs (F := Bits)) (onTc (τ := Cert.ProjLo.τ) (Cert.ProjLo.main (F := Bits))) ⟨m, fun _ => 0, g⟩ (fun r => (∀ c : Dev Cert.ProjLo.nD,
      r.2.mem ((c.tc : Thread Cert.ProjLo.nD Cert.ProjLo.τ).loc Cert.ProjLo.main_arg0) = m ((c.tc : Thread Cert.ProjLo.nD Cert.ProjLo.τ).loc Cert.ProjLo.main_arg0)
      ∧ r.2.mem ((c.tc : Thread Cert.ProjLo.nD Cert.ProjLo.τ).loc Cert.ProjLo.main_arg1) = m ((c.tc : Thread Cert.ProjLo.nD Cert.ProjLo.τ).loc Cert.ProjLo.main_arg1))
      ∧ r.2.sem = fun _ => 0)

def quiescent_ProjLoIdeal [hProjLoIdeal : Cert.ProjLoIdeal.Facts] : Prop :=
  ∀ (m : (ℓ : Loc Cert.ProjLoIdeal.nD Cert.ProjLoIdeal.τ Cert.ProjLoIdeal.sig) → Buf (Elt Ideal) ℓ) (g : Dev Cert.ProjLoIdeal.nD → PrngReg), Pre_ProjLoIdeal m →
    θ_run (Cert.ProjLoIdeal.defs (F := Ideal)) (onTc (τ := Cert.ProjLoIdeal.τ) (Cert.ProjLoIdeal.main (F := Ideal))) ⟨m, fun _ => 0, g⟩ (fun r => (∀ c : Dev Cert.ProjLoIdeal.nD,
      r.2.mem ((c.tc : Thread Cert.ProjLoIdeal.nD Cert.ProjLoIdeal.τ).loc Cert.ProjLoIdeal.main_arg0) = m ((c.tc : Thread Cert.ProjLoIdeal.nD Cert.ProjLoIdeal.τ).loc Cert.ProjLoIdeal.main_arg0)
      ∧ r.2.mem ((c.tc : Thread Cert.ProjLoIdeal.nD Cert.ProjLoIdeal.τ).loc Cert.ProjLoIdeal.main_arg1) = m ((c.tc : Thread Cert.ProjLoIdeal.nD Cert.ProjLoIdeal.τ).loc Cert.ProjLoIdeal.main_arg1))
      ∧ r.2.sem = fun _ => 0)

def quiescent_ProjLoRefIdeal [hProjLoRefIdeal : Cert.ProjLoRefIdeal.Facts] : Prop :=
  ∀ (m : (ℓ : Loc Cert.ProjLoRefIdeal.nD Cert.ProjLoRefIdeal.τ Cert.ProjLoRefIdeal.sig) → Buf (Elt Ideal) ℓ) (g : Dev Cert.ProjLoRefIdeal.nD → PrngReg), Pre_ProjLoRefIdeal m →
    θ_run (Cert.ProjLoRefIdeal.defs (F := Ideal)) (onTc (τ := Cert.ProjLoRefIdeal.τ) (Cert.ProjLoRefIdeal.main (F := Ideal))) ⟨m, fun _ => 0, g⟩ (fun r => (∀ c : Dev Cert.ProjLoRefIdeal.nD,
      r.2.mem ((c.tc : Thread Cert.ProjLoRefIdeal.nD Cert.ProjLoRefIdeal.τ).loc Cert.ProjLoRefIdeal.main_arg0) = m ((c.tc : Thread Cert.ProjLoRefIdeal.nD Cert.ProjLoRefIdeal.τ).loc Cert.ProjLoRefIdeal.main_arg0)
      ∧ r.2.mem ((c.tc : Thread Cert.ProjLoRefIdeal.nD Cert.ProjLoRefIdeal.τ).loc Cert.ProjLoRefIdeal.main_arg1) = m ((c.tc : Thread Cert.ProjLoRefIdeal.nD Cert.ProjLoRefIdeal.τ).loc Cert.ProjLoRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_UpQ [hUpQ : Cert.UpQ.Facts] : Prop :=
  ∀ (m : (ℓ : Loc Cert.UpQ.nD Cert.UpQ.τ Cert.UpQ.sig) → Buf (Elt Bits) ℓ) (g : Dev Cert.UpQ.nD → PrngReg), Pre_UpQ m →
    θ_run (Cert.UpQ.defs (F := Bits)) (onTc (τ := Cert.UpQ.τ) (Cert.UpQ.main (F := Bits))) ⟨m, fun _ => 0, g⟩ (fun r => (∀ c : Dev Cert.UpQ.nD,
      r.2.mem ((c.tc : Thread Cert.UpQ.nD Cert.UpQ.τ).loc Cert.UpQ.main_arg0) = m ((c.tc : Thread Cert.UpQ.nD Cert.UpQ.τ).loc Cert.UpQ.main_arg0)
      ∧ r.2.mem ((c.tc : Thread Cert.UpQ.nD Cert.UpQ.τ).loc Cert.UpQ.main_arg1) = m ((c.tc : Thread Cert.UpQ.nD Cert.UpQ.τ).loc Cert.UpQ.main_arg1))
      ∧ r.2.sem = fun _ => 0)

def quiescent_UpQIdeal [hUpQIdeal : Cert.UpQIdeal.Facts] : Prop :=
  ∀ (m : (ℓ : Loc Cert.UpQIdeal.nD Cert.UpQIdeal.τ Cert.UpQIdeal.sig) → Buf (Elt Ideal) ℓ) (g : Dev Cert.UpQIdeal.nD → PrngReg), Pre_UpQIdeal m →
    θ_run (Cert.UpQIdeal.defs (F := Ideal)) (onTc (τ := Cert.UpQIdeal.τ) (Cert.UpQIdeal.main (F := Ideal))) ⟨m, fun _ => 0, g⟩ (fun r => (∀ c : Dev Cert.UpQIdeal.nD,
      r.2.mem ((c.tc : Thread Cert.UpQIdeal.nD Cert.UpQIdeal.τ).loc Cert.UpQIdeal.main_arg0) = m ((c.tc : Thread Cert.UpQIdeal.nD Cert.UpQIdeal.τ).loc Cert.UpQIdeal.main_arg0)
      ∧ r.2.mem ((c.tc : Thread Cert.UpQIdeal.nD Cert.UpQIdeal.τ).loc Cert.UpQIdeal.main_arg1) = m ((c.tc : Thread Cert.UpQIdeal.nD Cert.UpQIdeal.τ).loc Cert.UpQIdeal.main_arg1))
      ∧ r.2.sem = fun _ => 0)

def quiescent_UpQRefIdeal [hUpQRefIdeal : Cert.UpQRefIdeal.Facts] : Prop :=
  ∀ (m : (ℓ : Loc Cert.UpQRefIdeal.nD Cert.UpQRefIdeal.τ Cert.UpQRefIdeal.sig) → Buf (Elt Ideal) ℓ) (g : Dev Cert.UpQRefIdeal.nD → PrngReg), Pre_UpQRefIdeal m →
    θ_run (Cert.UpQRefIdeal.defs (F := Ideal)) (onTc (τ := Cert.UpQRefIdeal.τ) (Cert.UpQRefIdeal.main (F := Ideal))) ⟨m, fun _ => 0, g⟩ (fun r => (∀ c : Dev Cert.UpQRefIdeal.nD,
      r.2.mem ((c.tc : Thread Cert.UpQRefIdeal.nD Cert.UpQRefIdeal.τ).loc Cert.UpQRefIdeal.main_arg0) = m ((c.tc : Thread Cert.UpQRefIdeal.nD Cert.UpQRefIdeal.τ).loc Cert.UpQRefIdeal.main_arg0)
      ∧ r.2.mem ((c.tc : Thread Cert.UpQRefIdeal.nD Cert.UpQRefIdeal.τ).loc Cert.UpQRefIdeal.main_arg1) = m ((c.tc : Thread Cert.UpQRefIdeal.nD Cert.UpQRefIdeal.τ).loc Cert.UpQRefIdeal.main_arg1))
      ∧ r.2.sem = fun _ => 0)

def quiescent_UpKv [hUpKv : Cert.UpKv.Facts] : Prop :=
  ∀ (m : (ℓ : Loc Cert.UpKv.nD Cert.UpKv.τ Cert.UpKv.sig) → Buf (Elt Bits) ℓ) (g : Dev Cert.UpKv.nD → PrngReg), Pre_UpKv m →
    θ_run (Cert.UpKv.defs (F := Bits)) (onTc (τ := Cert.UpKv.τ) (Cert.UpKv.main (F := Bits))) ⟨m, fun _ => 0, g⟩ (fun r => (∀ c : Dev Cert.UpKv.nD,
      r.2.mem ((c.tc : Thread Cert.UpKv.nD Cert.UpKv.τ).loc Cert.UpKv.main_arg0) = m ((c.tc : Thread Cert.UpKv.nD Cert.UpKv.τ).loc Cert.UpKv.main_arg0)
      ∧ r.2.mem ((c.tc : Thread Cert.UpKv.nD Cert.UpKv.τ).loc Cert.UpKv.main_arg1) = m ((c.tc : Thread Cert.UpKv.nD Cert.UpKv.τ).loc Cert.UpKv.main_arg1))
      ∧ r.2.sem = fun _ => 0)

def quiescent_UpKvIdeal [hUpKvIdeal : Cert.UpKvIdeal.Facts] : Prop :=
  ∀ (m : (ℓ : Loc Cert.UpKvIdeal.nD Cert.UpKvIdeal.τ Cert.UpKvIdeal.sig) → Buf (Elt Ideal) ℓ) (g : Dev Cert.UpKvIdeal.nD → PrngReg), Pre_UpKvIdeal m →
    θ_run (Cert.UpKvIdeal.defs (F := Ideal)) (onTc (τ := Cert.UpKvIdeal.τ) (Cert.UpKvIdeal.main (F := Ideal))) ⟨m, fun _ => 0, g⟩ (fun r => (∀ c : Dev Cert.UpKvIdeal.nD,
      r.2.mem ((c.tc : Thread Cert.UpKvIdeal.nD Cert.UpKvIdeal.τ).loc Cert.UpKvIdeal.main_arg0) = m ((c.tc : Thread Cert.UpKvIdeal.nD Cert.UpKvIdeal.τ).loc Cert.UpKvIdeal.main_arg0)
      ∧ r.2.mem ((c.tc : Thread Cert.UpKvIdeal.nD Cert.UpKvIdeal.τ).loc Cert.UpKvIdeal.main_arg1) = m ((c.tc : Thread Cert.UpKvIdeal.nD Cert.UpKvIdeal.τ).loc Cert.UpKvIdeal.main_arg1))
      ∧ r.2.sem = fun _ => 0)

def quiescent_UpKvRefIdeal [hUpKvRefIdeal : Cert.UpKvRefIdeal.Facts] : Prop :=
  ∀ (m : (ℓ : Loc Cert.UpKvRefIdeal.nD Cert.UpKvRefIdeal.τ Cert.UpKvRefIdeal.sig) → Buf (Elt Ideal) ℓ) (g : Dev Cert.UpKvRefIdeal.nD → PrngReg), Pre_UpKvRefIdeal m →
    θ_run (Cert.UpKvRefIdeal.defs (F := Ideal)) (onTc (τ := Cert.UpKvRefIdeal.τ) (Cert.UpKvRefIdeal.main (F := Ideal))) ⟨m, fun _ => 0, g⟩ (fun r => (∀ c : Dev Cert.UpKvRefIdeal.nD,
      r.2.mem ((c.tc : Thread Cert.UpKvRefIdeal.nD Cert.UpKvRefIdeal.τ).loc Cert.UpKvRefIdeal.main_arg0) = m ((c.tc : Thread Cert.UpKvRefIdeal.nD Cert.UpKvRefIdeal.τ).loc Cert.UpKvRefIdeal.main_arg0)
      ∧ r.2.mem ((c.tc : Thread Cert.UpKvRefIdeal.nD Cert.UpKvRefIdeal.τ).loc Cert.UpKvRefIdeal.main_arg1) = m ((c.tc : Thread Cert.UpKvRefIdeal.nD Cert.UpKvRefIdeal.τ).loc Cert.UpKvRefIdeal.main_arg1))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModRefIdeal [hNormModRefIdeal : Cert.NormModRefIdeal.Facts] : Prop :=
  ∀ (m : (ℓ : Loc Cert.NormModRefIdeal.nD Cert.NormModRefIdeal.τ Cert.NormModRefIdeal.sig) → Buf (Elt Ideal) ℓ) (g : Dev Cert.NormModRefIdeal.nD → PrngReg), Pre_NormModRefIdeal m →
    θ_run (Cert.NormModRefIdeal.defs (F := Ideal)) (onTc (τ := Cert.NormModRefIdeal.τ) (Cert.NormModRefIdeal.main (F := Ideal))) ⟨m, fun _ => 0, g⟩ (fun r => (∀ c : Dev Cert.NormModRefIdeal.nD,
      r.2.mem ((c.tc : Thread Cert.NormModRefIdeal.nD Cert.NormModRefIdeal.τ).loc Cert.NormModRefIdeal.main_arg0) = m ((c.tc : Thread Cert.NormModRefIdeal.nD Cert.NormModRefIdeal.τ).loc Cert.NormModRefIdeal.main_arg0)
      ∧ r.2.mem ((c.tc : Thread Cert.NormModRefIdeal.nD Cert.NormModRefIdeal.τ).loc Cert.NormModRefIdeal.main_arg1) = m ((c.tc : Thread Cert.NormModRefIdeal.nD Cert.NormModRefIdeal.τ).loc Cert.NormModRefIdeal.main_arg1)
      ∧ r.2.mem ((c.tc : Thread Cert.NormModRefIdeal.nD Cert.NormModRefIdeal.τ).loc Cert.NormModRefIdeal.main_arg2) = m ((c.tc : Thread Cert.NormModRefIdeal.nD Cert.NormModRefIdeal.τ).loc Cert.NormModRefIdeal.main_arg2)
      ∧ r.2.mem ((c.tc : Thread Cert.NormModRefIdeal.nD Cert.NormModRefIdeal.τ).loc Cert.NormModRefIdeal.main_arg3) = m ((c.tc : Thread Cert.NormModRefIdeal.nD Cert.NormModRefIdeal.τ).loc Cert.NormModRefIdeal.main_arg3))
      ∧ r.2.sem = fun _ => 0)

def quiescent_NormPlain [hNormPlain : Cert.NormPlain.Facts] : Prop :=
  ∀ (m : (ℓ : Loc Cert.NormPlain.nD Cert.NormPlain.τ Cert.NormPlain.sig) → Buf (Elt Bits) ℓ) (g : Dev Cert.NormPlain.nD → PrngReg), Pre_NormPlain m →
    θ_run (Cert.NormPlain.defs (F := Bits)) (onTc (τ := Cert.NormPlain.τ) (Cert.NormPlain.main (F := Bits))) ⟨m, fun _ => 0, g⟩ (fun r => (∀ c : Dev Cert.NormPlain.nD,
      r.2.mem ((c.tc : Thread Cert.NormPlain.nD Cert.NormPlain.τ).loc Cert.NormPlain.main_arg0) = m ((c.tc : Thread Cert.NormPlain.nD Cert.NormPlain.τ).loc Cert.NormPlain.main_arg0)
      ∧ r.2.mem ((c.tc : Thread Cert.NormPlain.nD Cert.NormPlain.τ).loc Cert.NormPlain.main_arg1) = m ((c.tc : Thread Cert.NormPlain.nD Cert.NormPlain.τ).loc Cert.NormPlain.main_arg1))
      ∧ r.2.sem = fun _ => 0)

def quiescent_NormPlainIdeal [hNormPlainIdeal : Cert.NormPlainIdeal.Facts] : Prop :=
  ∀ (m : (ℓ : Loc Cert.NormPlainIdeal.nD Cert.NormPlainIdeal.τ Cert.NormPlainIdeal.sig) → Buf (Elt Ideal) ℓ) (g : Dev Cert.NormPlainIdeal.nD → PrngReg), Pre_NormPlainIdeal m →
    θ_run (Cert.NormPlainIdeal.defs (F := Ideal)) (onTc (τ := Cert.NormPlainIdeal.τ) (Cert.NormPlainIdeal.main (F := Ideal))) ⟨m, fun _ => 0, g⟩ (fun r => (∀ c : Dev Cert.NormPlainIdeal.nD,
      r.2.mem ((c.tc : Thread Cert.NormPlainIdeal.nD Cert.NormPlainIdeal.τ).loc Cert.NormPlainIdeal.main_arg0) = m ((c.tc : Thread Cert.NormPlainIdeal.nD Cert.NormPlainIdeal.τ).loc Cert.NormPlainIdeal.main_arg0)
      ∧ r.2.mem ((c.tc : Thread Cert.NormPlainIdeal.nD Cert.NormPlainIdeal.τ).loc Cert.NormPlainIdeal.main_arg1) = m ((c.tc : Thread Cert.NormPlainIdeal.nD Cert.NormPlainIdeal.τ).loc Cert.NormPlainIdeal.main_arg1))
      ∧ r.2.sem = fun _ => 0)

def quiescent_NormPlainRefIdeal [hNormPlainRefIdeal : Cert.NormPlainRefIdeal.Facts] : Prop :=
  ∀ (m : (ℓ : Loc Cert.NormPlainRefIdeal.nD Cert.NormPlainRefIdeal.τ Cert.NormPlainRefIdeal.sig) → Buf (Elt Ideal) ℓ) (g : Dev Cert.NormPlainRefIdeal.nD → PrngReg), Pre_NormPlainRefIdeal m →
    θ_run (Cert.NormPlainRefIdeal.defs (F := Ideal)) (onTc (τ := Cert.NormPlainRefIdeal.τ) (Cert.NormPlainRefIdeal.main (F := Ideal))) ⟨m, fun _ => 0, g⟩ (fun r => (∀ c : Dev Cert.NormPlainRefIdeal.nD,
      r.2.mem ((c.tc : Thread Cert.NormPlainRefIdeal.nD Cert.NormPlainRefIdeal.τ).loc Cert.NormPlainRefIdeal.main_arg0) = m ((c.tc : Thread Cert.NormPlainRefIdeal.nD Cert.NormPlainRefIdeal.τ).loc Cert.NormPlainRefIdeal.main_arg0)
      ∧ r.2.mem ((c.tc : Thread Cert.NormPlainRefIdeal.nD Cert.NormPlainRefIdeal.τ).loc Cert.NormPlainRefIdeal.main_arg1) = m ((c.tc : Thread Cert.NormPlainRefIdeal.nD Cert.NormPlainRefIdeal.τ).loc Cert.NormPlainRefIdeal.main_arg1))
      ∧ r.2.sem = fun _ => 0)

def quiescent_Cond [hCond : Cert.Cond.Facts] : Prop :=
  ∀ (m : (ℓ : Loc Cert.Cond.nD Cert.Cond.τ Cert.Cond.sig) → Buf (Elt Bits) ℓ) (g : Dev Cert.Cond.nD → PrngReg), Pre_Cond m →
    θ_run (Cert.Cond.defs (F := Bits)) (onTc (τ := Cert.Cond.τ) (Cert.Cond.main (F := Bits))) ⟨m, fun _ => 0, g⟩ (fun r => (∀ c : Dev Cert.Cond.nD,
      r.2.mem ((c.tc : Thread Cert.Cond.nD Cert.Cond.τ).loc Cert.Cond.main_arg0) = m ((c.tc : Thread Cert.Cond.nD Cert.Cond.τ).loc Cert.Cond.main_arg0)
      ∧ r.2.mem ((c.tc : Thread Cert.Cond.nD Cert.Cond.τ).loc Cert.Cond.main_arg1) = m ((c.tc : Thread Cert.Cond.nD Cert.Cond.τ).loc Cert.Cond.main_arg1))
      ∧ r.2.sem = fun _ => 0)

def quiescent_CondIdeal [hCondIdeal : Cert.CondIdeal.Facts] : Prop :=
  ∀ (m : (ℓ : Loc Cert.CondIdeal.nD Cert.CondIdeal.τ Cert.CondIdeal.sig) → Buf (Elt Ideal) ℓ) (g : Dev Cert.CondIdeal.nD → PrngReg), Pre_CondIdeal m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0)
      ∧ r.2.mem ((c.tc : Thread Cert.CondIdeal.nD Cert.CondIdeal.τ).loc Cert.CondIdeal.main_arg1) = m ((c.tc : Thread Cert.CondIdeal.nD Cert.CondIdeal.τ).loc Cert.CondIdeal.main_arg1))
      ∧ r.2.sem = fun _ => 0)

def quiescent_CondRefIdeal [hCondRefIdeal : Cert.CondRefIdeal.Facts] : Prop :=
  ∀ (m : (ℓ : Loc Cert.CondRefIdeal.nD Cert.CondRefIdeal.τ Cert.CondRefIdeal.sig) → Buf (Elt Ideal) ℓ) (g : Dev Cert.CondRefIdeal.nD → PrngReg), Pre_CondRefIdeal m →
    θ_run (Cert.CondRefIdeal.defs (F := Ideal)) (onTc (τ := Cert.CondRefIdeal.τ) (Cert.CondRefIdeal.main (F := Ideal))) ⟨m, fun _ => 0, g⟩ (fun r => (∀ c : Dev Cert.CondRefIdeal.nD,
      r.2.mem ((c.tc : Thread Cert.CondRefIdeal.nD Cert.CondRefIdeal.τ).loc Cert.CondRefIdeal.main_arg0) = m ((c.tc : Thread Cert.CondRefIdeal.nD Cert.CondRefIdeal.τ).loc Cert.CondRefIdeal.main_arg0)
      ∧ r.2.mem ((c.tc : Thread Cert.CondRefIdeal.nD Cert.CondRefIdeal.τ).loc Cert.CondRefIdeal.main_arg1) = m ((c.tc : Thread Cert.CondRefIdeal.nD Cert.CondRefIdeal.τ).loc Cert.CondRefIdeal.main_arg1))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4))
      ∧ r.2.sem = fun _ => 0)

def quiescent_MlaPrepRefIdeal [hMlaPrepRefIdeal : Cert.MlaPrepRefIdeal.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4))
      ∧ r.2.sem = fun _ => 0)

def quiescent_RwkvPrep [hRwkvPrep : Cert.RwkvPrep.Facts] : Prop :=
  ∀ (m : (ℓ : Loc Cert.RwkvPrep.nD Cert.RwkvPrep.τ Cert.RwkvPrep.sig) → Buf (Elt Bits) ℓ) (g : Dev Cert.RwkvPrep.nD → PrngReg), Pre_RwkvPrep m →
    θ_run (Cert.RwkvPrep.defs (F := Bits)) (onTc (τ := Cert.RwkvPrep.τ) (Cert.RwkvPrep.main (F := Bits))) ⟨m, fun _ => 0, g⟩ (fun r => (∀ c : Dev Cert.RwkvPrep.nD,
      r.2.mem ((c.tc : Thread Cert.RwkvPrep.nD Cert.RwkvPrep.τ).loc Cert.RwkvPrep.main_arg0) = m ((c.tc : Thread Cert.RwkvPrep.nD Cert.RwkvPrep.τ).loc Cert.RwkvPrep.main_arg0)
      ∧ r.2.mem ((c.tc : Thread Cert.RwkvPrep.nD Cert.RwkvPrep.τ).loc Cert.RwkvPrep.main_arg1) = m ((c.tc : Thread Cert.RwkvPrep.nD Cert.RwkvPrep.τ).loc Cert.RwkvPrep.main_arg1)
      ∧ r.2.mem ((c.tc : Thread Cert.RwkvPrep.nD Cert.RwkvPrep.τ).loc Cert.RwkvPrep.main_arg2) = m ((c.tc : Thread Cert.RwkvPrep.nD Cert.RwkvPrep.τ).loc Cert.RwkvPrep.main_arg2)
      ∧ r.2.mem ((c.tc : Thread Cert.RwkvPrep.nD Cert.RwkvPrep.τ).loc Cert.RwkvPrep.main_arg3) = m ((c.tc : Thread Cert.RwkvPrep.nD Cert.RwkvPrep.τ).loc Cert.RwkvPrep.main_arg3)
      ∧ r.2.mem ((c.tc : Thread Cert.RwkvPrep.nD Cert.RwkvPrep.τ).loc Cert.RwkvPrep.main_arg4) = m ((c.tc : Thread Cert.RwkvPrep.nD Cert.RwkvPrep.τ).loc Cert.RwkvPrep.main_arg4)
      ∧ r.2.mem ((c.tc : Thread Cert.RwkvPrep.nD Cert.RwkvPrep.τ).loc Cert.RwkvPrep.main_arg5) = m ((c.tc : Thread Cert.RwkvPrep.nD Cert.RwkvPrep.τ).loc Cert.RwkvPrep.main_arg5)
      ∧ r.2.mem ((c.tc : Thread Cert.RwkvPrep.nD Cert.RwkvPrep.τ).loc Cert.RwkvPrep.main_arg6) = m ((c.tc : Thread Cert.RwkvPrep.nD Cert.RwkvPrep.τ).loc Cert.RwkvPrep.main_arg6)
      ∧ r.2.mem ((c.tc : Thread Cert.RwkvPrep.nD Cert.RwkvPrep.τ).loc Cert.RwkvPrep.main_arg7) = m ((c.tc : Thread Cert.RwkvPrep.nD Cert.RwkvPrep.τ).loc Cert.RwkvPrep.main_arg7))
      ∧ r.2.sem = fun _ => 0)

def quiescent_RwkvPrepIdeal [hRwkvPrepIdeal : Cert.RwkvPrepIdeal.Facts] : Prop :=
  ∀ (m : (ℓ : Loc Cert.RwkvPrepIdeal.nD Cert.RwkvPrepIdeal.τ Cert.RwkvPrepIdeal.sig) → Buf (Elt Ideal) ℓ) (g : Dev Cert.RwkvPrepIdeal.nD → PrngReg), Pre_RwkvPrepIdeal m →
    θ_run (Cert.RwkvPrepIdeal.defs (F := Ideal)) (onTc (τ := Cert.RwkvPrepIdeal.τ) (Cert.RwkvPrepIdeal.main (F := Ideal))) ⟨m, fun _ => 0, g⟩ (fun r => (∀ c : Dev Cert.RwkvPrepIdeal.nD,
      r.2.mem ((c.tc : Thread Cert.RwkvPrepIdeal.nD Cert.RwkvPrepIdeal.τ).loc Cert.RwkvPrepIdeal.main_arg0) = m ((c.tc : Thread Cert.RwkvPrepIdeal.nD Cert.RwkvPrepIdeal.τ).loc Cert.RwkvPrepIdeal.main_arg0)
      ∧ r.2.mem ((c.tc : Thread Cert.RwkvPrepIdeal.nD Cert.RwkvPrepIdeal.τ).loc Cert.RwkvPrepIdeal.main_arg1) = m ((c.tc : Thread Cert.RwkvPrepIdeal.nD Cert.RwkvPrepIdeal.τ).loc Cert.RwkvPrepIdeal.main_arg1)
      ∧ r.2.mem ((c.tc : Thread Cert.RwkvPrepIdeal.nD Cert.RwkvPrepIdeal.τ).loc Cert.RwkvPrepIdeal.main_arg2) = m ((c.tc : Thread Cert.RwkvPrepIdeal.nD Cert.RwkvPrepIdeal.τ).loc Cert.RwkvPrepIdeal.main_arg2)
      ∧ r.2.mem ((c.tc : Thread Cert.RwkvPrepIdeal.nD Cert.RwkvPrepIdeal.τ).loc Cert.RwkvPrepIdeal.main_arg3) = m ((c.tc : Thread Cert.RwkvPrepIdeal.nD Cert.RwkvPrepIdeal.τ).loc Cert.RwkvPrepIdeal.main_arg3)
      ∧ r.2.mem ((c.tc : Thread Cert.RwkvPrepIdeal.nD Cert.RwkvPrepIdeal.τ).loc Cert.RwkvPrepIdeal.main_arg4) = m ((c.tc : Thread Cert.RwkvPrepIdeal.nD Cert.RwkvPrepIdeal.τ).loc Cert.RwkvPrepIdeal.main_arg4)
      ∧ r.2.mem ((c.tc : Thread Cert.RwkvPrepIdeal.nD Cert.RwkvPrepIdeal.τ).loc Cert.RwkvPrepIdeal.main_arg5) = m ((c.tc : Thread Cert.RwkvPrepIdeal.nD Cert.RwkvPrepIdeal.τ).loc Cert.RwkvPrepIdeal.main_arg5)
      ∧ r.2.mem ((c.tc : Thread Cert.RwkvPrepIdeal.nD Cert.RwkvPrepIdeal.τ).loc Cert.RwkvPrepIdeal.main_arg6) = m ((c.tc : Thread Cert.RwkvPrepIdeal.nD Cert.RwkvPrepIdeal.τ).loc Cert.RwkvPrepIdeal.main_arg6)
      ∧ r.2.mem ((c.tc : Thread Cert.RwkvPrepIdeal.nD Cert.RwkvPrepIdeal.τ).loc Cert.RwkvPrepIdeal.main_arg7) = m ((c.tc : Thread Cert.RwkvPrepIdeal.nD Cert.RwkvPrepIdeal.τ).loc Cert.RwkvPrepIdeal.main_arg7))
      ∧ r.2.sem = fun _ => 0)

def quiescent_RwkvPrepRefIdeal [hRwkvPrepRefIdeal : Cert.RwkvPrepRefIdeal.Facts] : Prop :=
  ∀ (m : (ℓ : Loc Cert.RwkvPrepRefIdeal.nD Cert.RwkvPrepRefIdeal.τ Cert.RwkvPrepRefIdeal.sig) → Buf (Elt Ideal) ℓ) (g : Dev Cert.RwkvPrepRefIdeal.nD → PrngReg), Pre_RwkvPrepRefIdeal m →
    θ_run (Cert.RwkvPrepRefIdeal.defs (F := Ideal)) (onTc (τ := Cert.RwkvPrepRefIdeal.τ) (Cert.RwkvPrepRefIdeal.main (F := Ideal))) ⟨m, fun _ => 0, g⟩ (fun r => (∀ c : Dev Cert.RwkvPrepRefIdeal.nD,
      r.2.mem ((c.tc : Thread Cert.RwkvPrepRefIdeal.nD Cert.RwkvPrepRefIdeal.τ).loc Cert.RwkvPrepRefIdeal.main_arg0) = m ((c.tc : Thread Cert.RwkvPrepRefIdeal.nD Cert.RwkvPrepRefIdeal.τ).loc Cert.RwkvPrepRefIdeal.main_arg0)
      ∧ r.2.mem ((c.tc : Thread Cert.RwkvPrepRefIdeal.nD Cert.RwkvPrepRefIdeal.τ).loc Cert.RwkvPrepRefIdeal.main_arg1) = m ((c.tc : Thread Cert.RwkvPrepRefIdeal.nD Cert.RwkvPrepRefIdeal.τ).loc Cert.RwkvPrepRefIdeal.main_arg1)
      ∧ r.2.mem ((c.tc : Thread Cert.RwkvPrepRefIdeal.nD Cert.RwkvPrepRefIdeal.τ).loc Cert.RwkvPrepRefIdeal.main_arg2) = m ((c.tc : Thread Cert.RwkvPrepRefIdeal.nD Cert.RwkvPrepRefIdeal.τ).loc Cert.RwkvPrepRefIdeal.main_arg2)
      ∧ r.2.mem ((c.tc : Thread Cert.RwkvPrepRefIdeal.nD Cert.RwkvPrepRefIdeal.τ).loc Cert.RwkvPrepRefIdeal.main_arg3) = m ((c.tc : Thread Cert.RwkvPrepRefIdeal.nD Cert.RwkvPrepRefIdeal.τ).loc Cert.RwkvPrepRefIdeal.main_arg3)
      ∧ r.2.mem ((c.tc : Thread Cert.RwkvPrepRefIdeal.nD Cert.RwkvPrepRefIdeal.τ).loc Cert.RwkvPrepRefIdeal.main_arg4) = m ((c.tc : Thread Cert.RwkvPrepRefIdeal.nD Cert.RwkvPrepRefIdeal.τ).loc Cert.RwkvPrepRefIdeal.main_arg4)
      ∧ r.2.mem ((c.tc : Thread Cert.RwkvPrepRefIdeal.nD Cert.RwkvPrepRefIdeal.τ).loc Cert.RwkvPrepRefIdeal.main_arg5) = m ((c.tc : Thread Cert.RwkvPrepRefIdeal.nD Cert.RwkvPrepRefIdeal.τ).loc Cert.RwkvPrepRefIdeal.main_arg5)
      ∧ r.2.mem ((c.tc : Thread Cert.RwkvPrepRefIdeal.nD Cert.RwkvPrepRefIdeal.τ).loc Cert.RwkvPrepRefIdeal.main_arg6) = m ((c.tc : Thread Cert.RwkvPrepRefIdeal.nD Cert.RwkvPrepRefIdeal.τ).loc Cert.RwkvPrepRefIdeal.main_arg6)
      ∧ r.2.mem ((c.tc : Thread Cert.RwkvPrepRefIdeal.nD Cert.RwkvPrepRefIdeal.τ).loc Cert.RwkvPrepRefIdeal.main_arg7) = m ((c.tc : Thread Cert.RwkvPrepRefIdeal.nD Cert.RwkvPrepRefIdeal.τ).loc Cert.RwkvPrepRefIdeal.main_arg7))
      ∧ r.2.sem = fun _ => 0)

def preserves_Kernel_KernelIdeal : Prop :=
  IdealRules.named_const.Statement Cert.KernelIdeal.κ "q_factor" .f32 0x3E0293EE#32 (((Real.log 2)⁻¹ * (Real.sqrt 128)⁻¹ : ℝ) : EReal)
  ∧ IdealRules.named_const.Statement Cert.KernelIdeal.κ "log2_e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v6) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v10) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v2)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v2) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v3) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_ProjQ_ProjQIdeal : Prop :=
  True

def algebraic_ProjQIdeal_ProjQRefIdeal [hProjQIdeal : Cert.ProjQIdeal.Facts] [hProjQRefIdeal : Cert.ProjQRefIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQRefIdeal.nD Cert.ProjQRefIdeal.τ Cert.ProjQRefIdeal.sig) → Buf (Elt Ideal) ℓ) (g' : Dev Cert.ProjQRefIdeal.nD → PrngReg), Pre_ProjQIdeal m →
    (∀ c : Dev Cert.ProjQIdeal.nD,
      m' ((c.tc : Thread Cert.ProjQRefIdeal.nD Cert.ProjQRefIdeal.τ).loc Cert.ProjQRefIdeal.main_arg0) = m ((c.tc : Thread Cert.ProjQIdeal.nD Cert.ProjQIdeal.τ).loc Cert.ProjQIdeal.main_arg0)
      ∧ m' ((c.tc : Thread Cert.ProjQRefIdeal.nD Cert.ProjQRefIdeal.τ).loc Cert.ProjQRefIdeal.main_arg1) = m ((c.tc : Thread Cert.ProjQIdeal.nD Cert.ProjQIdeal.τ).loc Cert.ProjQIdeal.main_arg1)) →
    ∃ (v0 : (c : Dev Cert.ProjQIdeal.nD) → Buf (Elt Ideal) ((c.tc : Thread Cert.ProjQIdeal.nD Cert.ProjQIdeal.τ).loc Cert.ProjQIdeal.main_v6)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v6) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ θ_run (Cert.ProjQRefIdeal.defs (F := Ideal)) (onTc (τ := Cert.ProjQRefIdeal.τ) (Cert.ProjQRefIdeal.main (F := Ideal))) ⟨m', fun _ => 0, g'⟩ (fun r => ∀ c : Dev Cert.ProjQRefIdeal.nD,
          r.2.mem ((c.tc : Thread Cert.ProjQRefIdeal.nD Cert.ProjQRefIdeal.τ).loc Cert.ProjQRefIdeal.main_v7) = v0 c
          ∧ r.2.mem ((c.tc : Thread Cert.ProjQRefIdeal.nD Cert.ProjQRefIdeal.τ).loc Cert.ProjQRefIdeal.main_arg0) = m' ((c.tc : Thread Cert.ProjQRefIdeal.nD Cert.ProjQRefIdeal.τ).loc Cert.ProjQRefIdeal.main_arg0)
          ∧ r.2.mem ((c.tc : Thread Cert.ProjQRefIdeal.nD Cert.ProjQRefIdeal.τ).loc Cert.ProjQRefIdeal.main_arg1) = m' ((c.tc : Thread Cert.ProjQRefIdeal.nD Cert.ProjQRefIdeal.τ).loc Cert.ProjQRefIdeal.main_arg1))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)) →
    ∃ (v0 : (c : Dev Cert.ProjSIdeal.nD) → Buf (Elt Ideal) ((c.tc : Thread Cert.ProjSIdeal.nD Cert.ProjSIdeal.τ).loc Cert.ProjSIdeal.main_v5)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v5) = v0 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v5) = v0 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1))

def preserves_ProjRkv_ProjRkvIdeal : Prop :=
  True

def algebraic_ProjRkvIdeal_ProjRkvRefIdeal [hProjRkvIdeal : Cert.ProjRkvIdeal.Facts] [hProjRkvRefIdeal : Cert.ProjRkvRefIdeal.Facts] : Prop :=
  ∀ (m : (ℓ : Loc Cert.ProjRkvIdeal.nD Cert.ProjRkvIdeal.τ Cert.ProjRkvIdeal.sig) → Buf (Elt Ideal) ℓ) (g : Dev Cert.ProjRkvIdeal.nD → PrngReg)
    (m' : (ℓ : Loc Cert.ProjRkvRefIdeal.nD Cert.ProjRkvRefIdeal.τ Cert.ProjRkvRefIdeal.sig) → Buf (Elt Ideal) ℓ) (g' : Dev Cert.ProjRkvRefIdeal.nD → PrngReg), Pre_ProjRkvIdeal m →
    (∀ c : Dev Cert.ProjRkvIdeal.nD,
      m' ((c.tc : Thread Cert.ProjRkvRefIdeal.nD Cert.ProjRkvRefIdeal.τ).loc Cert.ProjRkvRefIdeal.main_arg0) = m ((c.tc : Thread Cert.ProjRkvIdeal.nD Cert.ProjRkvIdeal.τ).loc Cert.ProjRkvIdeal.main_arg0)
      ∧ m' ((c.tc : Thread Cert.ProjRkvRefIdeal.nD Cert.ProjRkvRefIdeal.τ).loc Cert.ProjRkvRefIdeal.main_arg1) = m ((c.tc : Thread Cert.ProjRkvIdeal.nD Cert.ProjRkvIdeal.τ).loc Cert.ProjRkvIdeal.main_arg1)) →
    ∃ (v0 : (c : Dev Cert.ProjRkvIdeal.nD) → Buf (Elt Ideal) ((c.tc : Thread Cert.ProjRkvIdeal.nD Cert.ProjRkvIdeal.τ).loc Cert.ProjRkvIdeal.main_v2)),
      θ_run (Cert.ProjRkvIdeal.defs (F := Ideal)) (onTc (τ := Cert.ProjRkvIdeal.τ) (Cert.ProjRkvIdeal.main (F := Ideal))) ⟨m, fun _ => 0, g⟩ (fun r => ∀ c : Dev Cert.ProjRkvIdeal.nD,
          r.2.mem ((c.tc : Thread Cert.ProjRkvIdeal.nD Cert.ProjRkvIdeal.τ).loc Cert.ProjRkvIdeal.main_v2) = v0 c
          ∧ r.2.mem ((c.tc : Thread Cert.ProjRkvIdeal.nD Cert.ProjRkvIdeal.τ).loc Cert.ProjRkvIdeal.main_arg0) = m ((c.tc : Thread Cert.ProjRkvIdeal.nD Cert.ProjRkvIdeal.τ).loc Cert.ProjRkvIdeal.main_arg0)
          ∧ r.2.mem ((c.tc : Thread Cert.ProjRkvIdeal.nD Cert.ProjRkvIdeal.τ).loc Cert.ProjRkvIdeal.main_arg1) = m ((c.tc : Thread Cert.ProjRkvIdeal.nD Cert.ProjRkvIdeal.τ).loc Cert.ProjRkvIdeal.main_arg1))
      ∧ θ_run (Cert.ProjRkvRefIdeal.defs (F := Ideal)) (onTc (τ := Cert.ProjRkvRefIdeal.τ) (Cert.ProjRkvRefIdeal.main (F := Ideal))) ⟨m', fun _ => 0, g'⟩ (fun r => ∀ c : Dev Cert.ProjRkvRefIdeal.nD,
          r.2.mem ((c.tc : Thread Cert.ProjRkvRefIdeal.nD Cert.ProjRkvRefIdeal.τ).loc Cert.ProjRkvRefIdeal.main_v3) = v0 c
          ∧ r.2.mem ((c.tc : Thread Cert.ProjRkvRefIdeal.nD Cert.ProjRkvRefIdeal.τ).loc Cert.ProjRkvRefIdeal.main_arg0) = m' ((c.tc : Thread Cert.ProjRkvRefIdeal.nD Cert.ProjRkvRefIdeal.τ).loc Cert.ProjRkvRefIdeal.main_arg0)
          ∧ r.2.mem ((c.tc : Thread Cert.ProjRkvRefIdeal.nD Cert.ProjRkvRefIdeal.τ).loc Cert.ProjRkvRefIdeal.main_arg1) = m' ((c.tc : Thread Cert.ProjRkvRefIdeal.nD Cert.ProjRkvRefIdeal.τ).loc Cert.ProjRkvRefIdeal.main_arg1))

def preserves_ProjLo_ProjLoIdeal : Prop :=
  True

def algebraic_ProjLoIdeal_ProjLoRefIdeal [hProjLoIdeal : Cert.ProjLoIdeal.Facts] [hProjLoRefIdeal : Cert.ProjLoRefIdeal.Facts] : Prop :=
  ∀ (m : (ℓ : Loc Cert.ProjLoIdeal.nD Cert.ProjLoIdeal.τ Cert.ProjLoIdeal.sig) → Buf (Elt Ideal) ℓ) (g : Dev Cert.ProjLoIdeal.nD → PrngReg)
    (m' : (ℓ : Loc Cert.ProjLoRefIdeal.nD Cert.ProjLoRefIdeal.τ Cert.ProjLoRefIdeal.sig) → Buf (Elt Ideal) ℓ) (g' : Dev Cert.ProjLoRefIdeal.nD → PrngReg), Pre_ProjLoIdeal m →
    (∀ c : Dev Cert.ProjLoIdeal.nD,
      m' ((c.tc : Thread Cert.ProjLoRefIdeal.nD Cert.ProjLoRefIdeal.τ).loc Cert.ProjLoRefIdeal.main_arg0) = m ((c.tc : Thread Cert.ProjLoIdeal.nD Cert.ProjLoIdeal.τ).loc Cert.ProjLoIdeal.main_arg0)
      ∧ m' ((c.tc : Thread Cert.ProjLoRefIdeal.nD Cert.ProjLoRefIdeal.τ).loc Cert.ProjLoRefIdeal.main_arg1) = m ((c.tc : Thread Cert.ProjLoIdeal.nD Cert.ProjLoIdeal.τ).loc Cert.ProjLoIdeal.main_arg1)) →
    ∃ (v0 : (c : Dev Cert.ProjLoIdeal.nD) → Buf (Elt Ideal) ((c.tc : Thread Cert.ProjLoIdeal.nD Cert.ProjLoIdeal.τ).loc Cert.ProjLoIdeal.main_v3)),
      θ_run (Cert.ProjLoIdeal.defs (F := Ideal)) (onTc (τ := Cert.ProjLoIdeal.τ) (Cert.ProjLoIdeal.main (F := Ideal))) ⟨m, fun _ => 0, g⟩ (fun r => ∀ c : Dev Cert.ProjLoIdeal.nD,
          r.2.mem ((c.tc : Thread Cert.ProjLoIdeal.nD Cert.ProjLoIdeal.τ).loc Cert.ProjLoIdeal.main_v3) = v0 c
          ∧ r.2.mem ((c.tc : Thread Cert.ProjLoIdeal.nD Cert.ProjLoIdeal.τ).loc Cert.ProjLoIdeal.main_arg0) = m ((c.tc : Thread Cert.ProjLoIdeal.nD Cert.ProjLoIdeal.τ).loc Cert.ProjLoIdeal.main_arg0)
          ∧ r.2.mem ((c.tc : Thread Cert.ProjLoIdeal.nD Cert.ProjLoIdeal.τ).loc Cert.ProjLoIdeal.main_arg1) = m ((c.tc : Thread Cert.ProjLoIdeal.nD Cert.ProjLoIdeal.τ).loc Cert.ProjLoIdeal.main_arg1))
      ∧ θ_run (Cert.ProjLoRefIdeal.defs (F := Ideal)) (onTc (τ := Cert.ProjLoRefIdeal.τ) (Cert.ProjLoRefIdeal.main (F := Ideal))) ⟨m', fun _ => 0, g'⟩ (fun r => ∀ c : Dev Cert.ProjLoRefIdeal.nD,
          r.2.mem ((c.tc : Thread Cert.ProjLoRefIdeal.nD Cert.ProjLoRefIdeal.τ).loc Cert.ProjLoRefIdeal.main_v3) = v0 c
          ∧ r.2.mem ((c.tc : Thread Cert.ProjLoRefIdeal.nD Cert.ProjLoRefIdeal.τ).loc Cert.ProjLoRefIdeal.main_arg0) = m' ((c.tc : Thread Cert.ProjLoRefIdeal.nD Cert.ProjLoRefIdeal.τ).loc Cert.ProjLoRefIdeal.main_arg0)
          ∧ r.2.mem ((c.tc : Thread Cert.ProjLoRefIdeal.nD Cert.ProjLoRefIdeal.τ).loc Cert.ProjLoRefIdeal.main_arg1) = m' ((c.tc : Thread Cert.ProjLoRefIdeal.nD Cert.ProjLoRefIdeal.τ).loc Cert.ProjLoRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v11) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_UpQ_UpQIdeal : Prop :=
  True

def algebraic_UpQIdeal_UpQRefIdeal [hUpQIdeal : Cert.UpQIdeal.Facts] [hUpQRefIdeal : Cert.UpQRefIdeal.Facts] : Prop :=
  ∀ (m : (ℓ : Loc Cert.UpQIdeal.nD Cert.UpQIdeal.τ Cert.UpQIdeal.sig) → Buf (Elt Ideal) ℓ) (g : Dev Cert.UpQIdeal.nD → PrngReg)
    (m' : (ℓ : Loc Cert.UpQRefIdeal.nD Cert.UpQRefIdeal.τ Cert.UpQRefIdeal.sig) → Buf (Elt Ideal) ℓ) (g' : Dev Cert.UpQRefIdeal.nD → PrngReg), Pre_UpQIdeal m →
    (∀ c : Dev Cert.UpQIdeal.nD,
      m' ((c.tc : Thread Cert.UpQRefIdeal.nD Cert.UpQRefIdeal.τ).loc Cert.UpQRefIdeal.main_arg0) = m ((c.tc : Thread Cert.UpQIdeal.nD Cert.UpQIdeal.τ).loc Cert.UpQIdeal.main_arg0)
      ∧ m' ((c.tc : Thread Cert.UpQRefIdeal.nD Cert.UpQRefIdeal.τ).loc Cert.UpQRefIdeal.main_arg1) = m ((c.tc : Thread Cert.UpQIdeal.nD Cert.UpQIdeal.τ).loc Cert.UpQIdeal.main_arg1)) →
    ∃ (v0 : (c : Dev Cert.UpQIdeal.nD) → Buf (Elt Ideal) ((c.tc : Thread Cert.UpQIdeal.nD Cert.UpQIdeal.τ).loc Cert.UpQIdeal.main_v6)),
      θ_run (Cert.UpQIdeal.defs (F := Ideal)) (onTc (τ := Cert.UpQIdeal.τ) (Cert.UpQIdeal.main (F := Ideal))) ⟨m, fun _ => 0, g⟩ (fun r => ∀ c : Dev Cert.UpQIdeal.nD,
          r.2.mem ((c.tc : Thread Cert.UpQIdeal.nD Cert.UpQIdeal.τ).loc Cert.UpQIdeal.main_v6) = v0 c
          ∧ r.2.mem ((c.tc : Thread Cert.UpQIdeal.nD Cert.UpQIdeal.τ).loc Cert.UpQIdeal.main_arg0) = m ((c.tc : Thread Cert.UpQIdeal.nD Cert.UpQIdeal.τ).loc Cert.UpQIdeal.main_arg0)
          ∧ r.2.mem ((c.tc : Thread Cert.UpQIdeal.nD Cert.UpQIdeal.τ).loc Cert.UpQIdeal.main_arg1) = m ((c.tc : Thread Cert.UpQIdeal.nD Cert.UpQIdeal.τ).loc Cert.UpQIdeal.main_arg1))
      ∧ θ_run (Cert.UpQRefIdeal.defs (F := Ideal)) (onTc (τ := Cert.UpQRefIdeal.τ) (Cert.UpQRefIdeal.main (F := Ideal))) ⟨m', fun _ => 0, g'⟩ (fun r => ∀ c : Dev Cert.UpQRefIdeal.nD,
          r.2.mem ((c.tc : Thread Cert.UpQRefIdeal.nD Cert.UpQRefIdeal.τ).loc Cert.UpQRefIdeal.main_v7) = v0 c
          ∧ r.2.mem ((c.tc : Thread Cert.UpQRefIdeal.nD Cert.UpQRefIdeal.τ).loc Cert.UpQRefIdeal.main_arg0) = m' ((c.tc : Thread Cert.UpQRefIdeal.nD Cert.UpQRefIdeal.τ).loc Cert.UpQRefIdeal.main_arg0)
          ∧ r.2.mem ((c.tc : Thread Cert.UpQRefIdeal.nD Cert.UpQRefIdeal.τ).loc Cert.UpQRefIdeal.main_arg1) = m' ((c.tc : Thread Cert.UpQRefIdeal.nD Cert.UpQRefIdeal.τ).loc Cert.UpQRefIdeal.main_arg1))

def preserves_UpKv_UpKvIdeal : Prop :=
  True

def algebraic_UpKvIdeal_UpKvRefIdeal [hUpKvIdeal : Cert.UpKvIdeal.Facts] [hUpKvRefIdeal : Cert.UpKvRefIdeal.Facts] : Prop :=
  ∀ (m : (ℓ : Loc Cert.UpKvIdeal.nD Cert.UpKvIdeal.τ Cert.UpKvIdeal.sig) → Buf (Elt Ideal) ℓ) (g : Dev Cert.UpKvIdeal.nD → PrngReg)
    (m' : (ℓ : Loc Cert.UpKvRefIdeal.nD Cert.UpKvRefIdeal.τ Cert.UpKvRefIdeal.sig) → Buf (Elt Ideal) ℓ) (g' : Dev Cert.UpKvRefIdeal.nD → PrngReg), Pre_UpKvIdeal m →
    (∀ c : Dev Cert.UpKvIdeal.nD,
      m' ((c.tc : Thread Cert.UpKvRefIdeal.nD Cert.UpKvRefIdeal.τ).loc Cert.UpKvRefIdeal.main_arg0) = m ((c.tc : Thread Cert.UpKvIdeal.nD Cert.UpKvIdeal.τ).loc Cert.UpKvIdeal.main_arg0)
      ∧ m' ((c.tc : Thread Cert.UpKvRefIdeal.nD Cert.UpKvRefIdeal.τ).loc Cert.UpKvRefIdeal.main_arg1) = m ((c.tc : Thread Cert.UpKvIdeal.nD Cert.UpKvIdeal.τ).loc Cert.UpKvIdeal.main_arg1)) →
    ∃ (v0 : (c : Dev Cert.UpKvIdeal.nD) → Buf (Elt Ideal) ((c.tc : Thread Cert.UpKvIdeal.nD Cert.UpKvIdeal.τ).loc Cert.UpKvIdeal.main_v1)),
      θ_run (Cert.UpKvIdeal.defs (F := Ideal)) (onTc (τ := Cert.UpKvIdeal.τ) (Cert.UpKvIdeal.main (F := Ideal))) ⟨m, fun _ => 0, g⟩ (fun r => ∀ c : Dev Cert.UpKvIdeal.nD,
          r.2.mem ((c.tc : Thread Cert.UpKvIdeal.nD Cert.UpKvIdeal.τ).loc Cert.UpKvIdeal.main_v1) = v0 c
          ∧ r.2.mem ((c.tc : Thread Cert.UpKvIdeal.nD Cert.UpKvIdeal.τ).loc Cert.UpKvIdeal.main_arg0) = m ((c.tc : Thread Cert.UpKvIdeal.nD Cert.UpKvIdeal.τ).loc Cert.UpKvIdeal.main_arg0)
          ∧ r.2.mem ((c.tc : Thread Cert.UpKvIdeal.nD Cert.UpKvIdeal.τ).loc Cert.UpKvIdeal.main_arg1) = m ((c.tc : Thread Cert.UpKvIdeal.nD Cert.UpKvIdeal.τ).loc Cert.UpKvIdeal.main_arg1))
      ∧ θ_run (Cert.UpKvRefIdeal.defs (F := Ideal)) (onTc (τ := Cert.UpKvRefIdeal.τ) (Cert.UpKvRefIdeal.main (F := Ideal))) ⟨m', fun _ => 0, g'⟩ (fun r => ∀ c : Dev Cert.UpKvRefIdeal.nD,
          r.2.mem ((c.tc : Thread Cert.UpKvRefIdeal.nD Cert.UpKvRefIdeal.τ).loc Cert.UpKvRefIdeal.main_v4) = v0 c
          ∧ r.2.mem ((c.tc : Thread Cert.UpKvRefIdeal.nD Cert.UpKvRefIdeal.τ).loc Cert.UpKvRefIdeal.main_arg0) = m' ((c.tc : Thread Cert.UpKvRefIdeal.nD Cert.UpKvRefIdeal.τ).loc Cert.UpKvRefIdeal.main_arg0)
          ∧ r.2.mem ((c.tc : Thread Cert.UpKvRefIdeal.nD Cert.UpKvRefIdeal.τ).loc Cert.UpKvRefIdeal.main_arg1) = m' ((c.tc : Thread Cert.UpKvRefIdeal.nD Cert.UpKvRefIdeal.τ).loc Cert.UpKvRefIdeal.main_arg1))

def preserves_NormMod_NormModIdeal : Prop :=
  True

def algebraic_NormModIdeal_NormModRefIdeal [hNormModIdeal : Cert.NormModIdeal.Facts] [hNormModRefIdeal : Cert.NormModRefIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModRefIdeal.nD Cert.NormModRefIdeal.τ Cert.NormModRefIdeal.sig) → Buf (Elt Ideal) ℓ) (g' : Dev Cert.NormModRefIdeal.nD → PrngReg), Pre_NormModIdeal m →
    (∀ c : Dev Cert.NormModIdeal.nD,
      m' ((c.tc : Thread Cert.NormModRefIdeal.nD Cert.NormModRefIdeal.τ).loc Cert.NormModRefIdeal.main_arg0) = m ((c.tc : Thread Cert.NormModIdeal.nD Cert.NormModIdeal.τ).loc Cert.NormModIdeal.main_arg0)
      ∧ m' ((c.tc : Thread Cert.NormModRefIdeal.nD Cert.NormModRefIdeal.τ).loc Cert.NormModRefIdeal.main_arg1) = m ((c.tc : Thread Cert.NormModIdeal.nD Cert.NormModIdeal.τ).loc Cert.NormModIdeal.main_arg1)
      ∧ m' ((c.tc : Thread Cert.NormModRefIdeal.nD Cert.NormModRefIdeal.τ).loc Cert.NormModRefIdeal.main_arg2) = m ((c.tc : Thread Cert.NormModIdeal.nD Cert.NormModIdeal.τ).loc Cert.NormModIdeal.main_arg2)
      ∧ m' ((c.tc : Thread Cert.NormModRefIdeal.nD Cert.NormModRefIdeal.τ).loc Cert.NormModRefIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v3)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v3) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModRefIdeal.defs (F := Ideal)) (onTc (τ := Cert.NormModRefIdeal.τ) (Cert.NormModRefIdeal.main (F := Ideal))) ⟨m', fun _ => 0, g'⟩ (fun r => ∀ c : Dev Cert.NormModRefIdeal.nD,
          r.2.mem ((c.tc : Thread Cert.NormModRefIdeal.nD Cert.NormModRefIdeal.τ).loc Cert.NormModRefIdeal.main_v23) = v0 c
          ∧ r.2.mem ((c.tc : Thread Cert.NormModRefIdeal.nD Cert.NormModRefIdeal.τ).loc Cert.NormModRefIdeal.main_arg0) = m' ((c.tc : Thread Cert.NormModRefIdeal.nD Cert.NormModRefIdeal.τ).loc Cert.NormModRefIdeal.main_arg0)
          ∧ r.2.mem ((c.tc : Thread Cert.NormModRefIdeal.nD Cert.NormModRefIdeal.τ).loc Cert.NormModRefIdeal.main_arg1) = m' ((c.tc : Thread Cert.NormModRefIdeal.nD Cert.NormModRefIdeal.τ).loc Cert.NormModRefIdeal.main_arg1)
          ∧ r.2.mem ((c.tc : Thread Cert.NormModRefIdeal.nD Cert.NormModRefIdeal.τ).loc Cert.NormModRefIdeal.main_arg2) = m' ((c.tc : Thread Cert.NormModRefIdeal.nD Cert.NormModRefIdeal.τ).loc Cert.NormModRefIdeal.main_arg2)
          ∧ r.2.mem ((c.tc : Thread Cert.NormModRefIdeal.nD Cert.NormModRefIdeal.τ).loc Cert.NormModRefIdeal.main_arg3) = m' ((c.tc : Thread Cert.NormModRefIdeal.nD Cert.NormModRefIdeal.τ).loc Cert.NormModRefIdeal.main_arg3))

def preserves_NormPlain_NormPlainIdeal : Prop :=
  True

def algebraic_NormPlainIdeal_NormPlainRefIdeal [hNormPlainIdeal : Cert.NormPlainIdeal.Facts] [hNormPlainRefIdeal : Cert.NormPlainRefIdeal.Facts] : Prop :=
  ∀ (m : (ℓ : Loc Cert.NormPlainIdeal.nD Cert.NormPlainIdeal.τ Cert.NormPlainIdeal.sig) → Buf (Elt Ideal) ℓ) (g : Dev Cert.NormPlainIdeal.nD → PrngReg)
    (m' : (ℓ : Loc Cert.NormPlainRefIdeal.nD Cert.NormPlainRefIdeal.τ Cert.NormPlainRefIdeal.sig) → Buf (Elt Ideal) ℓ) (g' : Dev Cert.NormPlainRefIdeal.nD → PrngReg), Pre_NormPlainIdeal m →
    (∀ c : Dev Cert.NormPlainIdeal.nD,
      m' ((c.tc : Thread Cert.NormPlainRefIdeal.nD Cert.NormPlainRefIdeal.τ).loc Cert.NormPlainRefIdeal.main_arg0) = m ((c.tc : Thread Cert.NormPlainIdeal.nD Cert.NormPlainIdeal.τ).loc Cert.NormPlainIdeal.main_arg0)
      ∧ m' ((c.tc : Thread Cert.NormPlainRefIdeal.nD Cert.NormPlainRefIdeal.τ).loc Cert.NormPlainRefIdeal.main_arg1) = m ((c.tc : Thread Cert.NormPlainIdeal.nD Cert.NormPlainIdeal.τ).loc Cert.NormPlainIdeal.main_arg1)) →
    ∃ (v0 : (c : Dev Cert.NormPlainIdeal.nD) → Buf (Elt Ideal) ((c.tc : Thread Cert.NormPlainIdeal.nD Cert.NormPlainIdeal.τ).loc Cert.NormPlainIdeal.main_v1)),
      θ_run (Cert.NormPlainIdeal.defs (F := Ideal)) (onTc (τ := Cert.NormPlainIdeal.τ) (Cert.NormPlainIdeal.main (F := Ideal))) ⟨m, fun _ => 0, g⟩ (fun r => ∀ c : Dev Cert.NormPlainIdeal.nD,
          r.2.mem ((c.tc : Thread Cert.NormPlainIdeal.nD Cert.NormPlainIdeal.τ).loc Cert.NormPlainIdeal.main_v1) = v0 c
          ∧ r.2.mem ((c.tc : Thread Cert.NormPlainIdeal.nD Cert.NormPlainIdeal.τ).loc Cert.NormPlainIdeal.main_arg0) = m ((c.tc : Thread Cert.NormPlainIdeal.nD Cert.NormPlainIdeal.τ).loc Cert.NormPlainIdeal.main_arg0)
          ∧ r.2.mem ((c.tc : Thread Cert.NormPlainIdeal.nD Cert.NormPlainIdeal.τ).loc Cert.NormPlainIdeal.main_arg1) = m ((c.tc : Thread Cert.NormPlainIdeal.nD Cert.NormPlainIdeal.τ).loc Cert.NormPlainIdeal.main_arg1))
      ∧ θ_run (Cert.NormPlainRefIdeal.defs (F := Ideal)) (onTc (τ := Cert.NormPlainRefIdeal.τ) (Cert.NormPlainRefIdeal.main (F := Ideal))) ⟨m', fun _ => 0, g'⟩ (fun r => ∀ c : Dev Cert.NormPlainRefIdeal.nD,
          r.2.mem ((c.tc : Thread Cert.NormPlainRefIdeal.nD Cert.NormPlainRefIdeal.τ).loc Cert.NormPlainRefIdeal.main_v12) = v0 c
          ∧ r.2.mem ((c.tc : Thread Cert.NormPlainRefIdeal.nD Cert.NormPlainRefIdeal.τ).loc Cert.NormPlainRefIdeal.main_arg0) = m' ((c.tc : Thread Cert.NormPlainRefIdeal.nD Cert.NormPlainRefIdeal.τ).loc Cert.NormPlainRefIdeal.main_arg0)
          ∧ r.2.mem ((c.tc : Thread Cert.NormPlainRefIdeal.nD Cert.NormPlainRefIdeal.τ).loc Cert.NormPlainRefIdeal.main_arg1) = m' ((c.tc : Thread Cert.NormPlainRefIdeal.nD Cert.NormPlainRefIdeal.τ).loc Cert.NormPlainRefIdeal.main_arg1))

def preserves_Cond_CondIdeal : Prop :=
  True

def algebraic_CondIdeal_CondRefIdeal [hCondIdeal : Cert.CondIdeal.Facts] [hCondRefIdeal : Cert.CondRefIdeal.Facts] : Prop :=
  ∀ (m : (ℓ : Loc Cert.CondIdeal.nD Cert.CondIdeal.τ Cert.CondIdeal.sig) → Buf (Elt Ideal) ℓ) (g : Dev Cert.CondIdeal.nD → PrngReg)
    (m' : (ℓ : Loc Cert.CondRefIdeal.nD Cert.CondRefIdeal.τ Cert.CondRefIdeal.sig) → Buf (Elt Ideal) ℓ) (g' : Dev Cert.CondRefIdeal.nD → PrngReg), Pre_CondIdeal m →
    (∀ c : Dev Cert.CondIdeal.nD,
      m' ((c.tc : Thread Cert.CondRefIdeal.nD Cert.CondRefIdeal.τ).loc Cert.CondRefIdeal.main_arg0) = m ((c.tc : Thread Cert.CondIdeal.nD Cert.CondIdeal.τ).loc Cert.CondIdeal.main_arg0)
      ∧ m' ((c.tc : Thread Cert.CondRefIdeal.nD Cert.CondRefIdeal.τ).loc Cert.CondRefIdeal.main_arg1) = m ((c.tc : Thread Cert.CondIdeal.nD Cert.CondIdeal.τ).loc Cert.CondIdeal.main_arg1)) →
    ∃ (v0 : (c : Dev Cert.CondIdeal.nD) → Buf (Elt Ideal) ((c.tc : Thread Cert.CondIdeal.nD Cert.CondIdeal.τ).loc Cert.CondIdeal.main_v11)),
      θ_run (Cert.CondIdeal.defs (F := Ideal)) (onTc (τ := Cert.CondIdeal.τ) (Cert.CondIdeal.main (F := Ideal))) ⟨m, fun _ => 0, g⟩ (fun r => ∀ c : Dev Cert.CondIdeal.nD,
          r.2.mem ((c.tc : Thread Cert.CondIdeal.nD Cert.CondIdeal.τ).loc Cert.CondIdeal.main_v11) = v0 c
          ∧ r.2.mem ((c.tc : Thread Cert.CondIdeal.nD Cert.CondIdeal.τ).loc Cert.CondIdeal.main_arg0) = m ((c.tc : Thread Cert.CondIdeal.nD Cert.CondIdeal.τ).loc Cert.CondIdeal.main_arg0)
          ∧ r.2.mem ((c.tc : Thread Cert.CondIdeal.nD Cert.CondIdeal.τ).loc Cert.CondIdeal.main_arg1) = m ((c.tc : Thread Cert.CondIdeal.nD Cert.CondIdeal.τ).loc Cert.CondIdeal.main_arg1))
      ∧ θ_run (Cert.CondRefIdeal.defs (F := Ideal)) (onTc (τ := Cert.CondRefIdeal.τ) (Cert.CondRefIdeal.main (F := Ideal))) ⟨m', fun _ => 0, g'⟩ (fun r => ∀ c : Dev Cert.CondRefIdeal.nD,
          r.2.mem ((c.tc : Thread Cert.CondRefIdeal.nD Cert.CondRefIdeal.τ).loc Cert.CondRefIdeal.main_v2) = v0 c
          ∧ r.2.mem ((c.tc : Thread Cert.CondRefIdeal.nD Cert.CondRefIdeal.τ).loc Cert.CondRefIdeal.main_arg0) = m' ((c.tc : Thread Cert.CondRefIdeal.nD Cert.CondRefIdeal.τ).loc Cert.CondRefIdeal.main_arg0)
          ∧ r.2.mem ((c.tc : Thread Cert.CondRefIdeal.nD Cert.CondRefIdeal.τ).loc Cert.CondRefIdeal.main_arg1) = m' ((c.tc : Thread Cert.CondRefIdeal.nD Cert.CondRefIdeal.τ).loc Cert.CondRefIdeal.main_arg1))

def preserves_MlaPrep_MlaPrepIdeal : Prop :=
  True

def algebraic_MlaPrepIdeal_MlaPrepRefIdeal [hMlaPrepIdeal : Cert.MlaPrepIdeal.Facts] [hMlaPrepRefIdeal : Cert.MlaPrepRefIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepRefIdeal.nD Cert.MlaPrepRefIdeal.τ Cert.MlaPrepRefIdeal.sig) → Buf (Elt Ideal) ℓ) (g' : Dev Cert.MlaPrepRefIdeal.nD → PrngReg), Pre_MlaPrepIdeal m →
    (∀ c : Dev Cert.MlaPrepIdeal.nD,
      m' ((c.tc : Thread Cert.MlaPrepRefIdeal.nD Cert.MlaPrepRefIdeal.τ).loc Cert.MlaPrepRefIdeal.main_arg0) = m ((c.tc : Thread Cert.MlaPrepIdeal.nD Cert.MlaPrepIdeal.τ).loc Cert.MlaPrepIdeal.main_arg0)
      ∧ m' ((c.tc : Thread Cert.MlaPrepRefIdeal.nD Cert.MlaPrepRefIdeal.τ).loc Cert.MlaPrepRefIdeal.main_arg1) = m ((c.tc : Thread Cert.MlaPrepIdeal.nD Cert.MlaPrepIdeal.τ).loc Cert.MlaPrepIdeal.main_arg1)
      ∧ m' ((c.tc : Thread Cert.MlaPrepRefIdeal.nD Cert.MlaPrepRefIdeal.τ).loc Cert.MlaPrepRefIdeal.main_arg2) = m ((c.tc : Thread Cert.MlaPrepIdeal.nD Cert.MlaPrepIdeal.τ).loc Cert.MlaPrepIdeal.main_arg2)
      ∧ m' ((c.tc : Thread Cert.MlaPrepRefIdeal.nD Cert.MlaPrepRefIdeal.τ).loc Cert.MlaPrepRefIdeal.main_arg3) = m ((c.tc : Thread Cert.MlaPrepIdeal.nD Cert.MlaPrepIdeal.τ).loc Cert.MlaPrepIdeal.main_arg3)
      ∧ m' ((c.tc : Thread Cert.MlaPrepRefIdeal.nD Cert.MlaPrepRefIdeal.τ).loc Cert.MlaPrepRefIdeal.main_arg4) = m ((c.tc : Thread Cert.MlaPrepIdeal.nD Cert.MlaPrepIdeal.τ).loc Cert.MlaPrepIdeal.main_arg4)) →
    ∃ (v0 : (c : Dev Cert.MlaPrepIdeal.nD) → Buf (Elt Ideal) ((c.tc : Thread Cert.MlaPrepIdeal.nD Cert.MlaPrepIdeal.τ).loc Cert.MlaPrepIdeal.main_v9_0)) (v1 : (c : Dev Cert.MlaPrepIdeal.nD) → Buf (Elt Ideal) ((c.tc : Thread Cert.MlaPrepIdeal.nD Cert.MlaPrepIdeal.τ).loc Cert.MlaPrepIdeal.main_v9_1)) (v2 : (c : Dev Cert.MlaPrepIdeal.nD) → Buf (Elt Ideal) ((c.tc : Thread Cert.MlaPrepIdeal.nD Cert.MlaPrepIdeal.τ).loc Cert.MlaPrepIdeal.main_v9_2)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v9_0) = v0 c
          ∧ r.2.mem ((c.tc : Thread Cert.MlaPrepIdeal.nD Cert.MlaPrepIdeal.τ).loc Cert.MlaPrepIdeal.main_v9_1) = v1 c
          ∧ r.2.mem ((c.tc : Thread Cert.MlaPrepIdeal.nD Cert.MlaPrepIdeal.τ).loc Cert.MlaPrepIdeal.main_v9_2) = v2 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4))
      ∧ θ_run (Cert.MlaPrepRefIdeal.defs (F := Ideal)) (onTc (τ := Cert.MlaPrepRefIdeal.τ) (Cert.MlaPrepRefIdeal.main (F := Ideal))) ⟨m', fun _ => 0, g'⟩ (fun r => ∀ c : Dev Cert.MlaPrepRefIdeal.nD,
          r.2.mem ((c.tc : Thread Cert.MlaPrepRefIdeal.nD Cert.MlaPrepRefIdeal.τ).loc Cert.MlaPrepRefIdeal.main_v35) = v0 c
          ∧ r.2.mem ((c.tc : Thread Cert.MlaPrepRefIdeal.nD Cert.MlaPrepRefIdeal.τ).loc Cert.MlaPrepRefIdeal.main_v50) = v1 c
          ∧ r.2.mem ((c.tc : Thread Cert.MlaPrepRefIdeal.nD Cert.MlaPrepRefIdeal.τ).loc Cert.MlaPrepRefIdeal.main_v51) = v2 c
          ∧ r.2.mem ((c.tc : Thread Cert.MlaPrepRefIdeal.nD Cert.MlaPrepRefIdeal.τ).loc Cert.MlaPrepRefIdeal.main_arg0) = m' ((c.tc : Thread Cert.MlaPrepRefIdeal.nD Cert.MlaPrepRefIdeal.τ).loc Cert.MlaPrepRefIdeal.main_arg0)
          ∧ r.2.mem ((c.tc : Thread Cert.MlaPrepRefIdeal.nD Cert.MlaPrepRefIdeal.τ).loc Cert.MlaPrepRefIdeal.main_arg1) = m' ((c.tc : Thread Cert.MlaPrepRefIdeal.nD Cert.MlaPrepRefIdeal.τ).loc Cert.MlaPrepRefIdeal.main_arg1)
          ∧ r.2.mem ((c.tc : Thread Cert.MlaPrepRefIdeal.nD Cert.MlaPrepRefIdeal.τ).loc Cert.MlaPrepRefIdeal.main_arg2) = m' ((c.tc : Thread Cert.MlaPrepRefIdeal.nD Cert.MlaPrepRefIdeal.τ).loc Cert.MlaPrepRefIdeal.main_arg2)
          ∧ r.2.mem ((c.tc : Thread Cert.MlaPrepRefIdeal.nD Cert.MlaPrepRefIdeal.τ).loc Cert.MlaPrepRefIdeal.main_arg3) = m' ((c.tc : Thread Cert.MlaPrepRefIdeal.nD Cert.MlaPrepRefIdeal.τ).loc Cert.MlaPrepRefIdeal.main_arg3)
          ∧ r.2.mem ((c.tc : Thread Cert.MlaPrepRefIdeal.nD Cert.MlaPrepRefIdeal.τ).loc Cert.MlaPrepRefIdeal.main_arg4) = m' ((c.tc : Thread Cert.MlaPrepRefIdeal.nD Cert.MlaPrepRefIdeal.τ).loc Cert.MlaPrepRefIdeal.main_arg4))

def preserves_RwkvPrep_RwkvPrepIdeal : Prop :=
  True

def algebraic_RwkvPrepIdeal_RwkvPrepRefIdeal [hRwkvPrepIdeal : Cert.RwkvPrepIdeal.Facts] [hRwkvPrepRefIdeal : Cert.RwkvPrepRefIdeal.Facts] : Prop :=
  ∀ (m : (ℓ : Loc Cert.RwkvPrepIdeal.nD Cert.RwkvPrepIdeal.τ Cert.RwkvPrepIdeal.sig) → Buf (Elt Ideal) ℓ) (g : Dev Cert.RwkvPrepIdeal.nD → PrngReg)
    (m' : (ℓ : Loc Cert.RwkvPrepRefIdeal.nD Cert.RwkvPrepRefIdeal.τ Cert.RwkvPrepRefIdeal.sig) → Buf (Elt Ideal) ℓ) (g' : Dev Cert.RwkvPrepRefIdeal.nD → PrngReg), Pre_RwkvPrepIdeal m →
    (∀ c : Dev Cert.RwkvPrepIdeal.nD,
      m' ((c.tc : Thread Cert.RwkvPrepRefIdeal.nD Cert.RwkvPrepRefIdeal.τ).loc Cert.RwkvPrepRefIdeal.main_arg0) = m ((c.tc : Thread Cert.RwkvPrepIdeal.nD Cert.RwkvPrepIdeal.τ).loc Cert.RwkvPrepIdeal.main_arg0)
      ∧ m' ((c.tc : Thread Cert.RwkvPrepRefIdeal.nD Cert.RwkvPrepRefIdeal.τ).loc Cert.RwkvPrepRefIdeal.main_arg1) = m ((c.tc : Thread Cert.RwkvPrepIdeal.nD Cert.RwkvPrepIdeal.τ).loc Cert.RwkvPrepIdeal.main_arg1)
      ∧ m' ((c.tc : Thread Cert.RwkvPrepRefIdeal.nD Cert.RwkvPrepRefIdeal.τ).loc Cert.RwkvPrepRefIdeal.main_arg2) = m ((c.tc : Thread Cert.RwkvPrepIdeal.nD Cert.RwkvPrepIdeal.τ).loc Cert.RwkvPrepIdeal.main_arg2)
      ∧ m' ((c.tc : Thread Cert.RwkvPrepRefIdeal.nD Cert.RwkvPrepRefIdeal.τ).loc Cert.RwkvPrepRefIdeal.main_arg3) = m ((c.tc : Thread Cert.RwkvPrepIdeal.nD Cert.RwkvPrepIdeal.τ).loc Cert.RwkvPrepIdeal.main_arg3)
      ∧ m' ((c.tc : Thread Cert.RwkvPrepRefIdeal.nD Cert.RwkvPrepRefIdeal.τ).loc Cert.RwkvPrepRefIdeal.main_arg4) = m ((c.tc : Thread Cert.RwkvPrepIdeal.nD Cert.RwkvPrepIdeal.τ).loc Cert.RwkvPrepIdeal.main_arg4)
      ∧ m' ((c.tc : Thread Cert.RwkvPrepRefIdeal.nD Cert.RwkvPrepRefIdeal.τ).loc Cert.RwkvPrepRefIdeal.main_arg5) = m ((c.tc : Thread Cert.RwkvPrepIdeal.nD Cert.RwkvPrepIdeal.τ).loc Cert.RwkvPrepIdeal.main_arg5)
      ∧ m' ((c.tc : Thread Cert.RwkvPrepRefIdeal.nD Cert.RwkvPrepRefIdeal.τ).loc Cert.RwkvPrepRefIdeal.main_arg6) = m ((c.tc : Thread Cert.RwkvPrepIdeal.nD Cert.RwkvPrepIdeal.τ).loc Cert.RwkvPrepIdeal.main_arg6)
      ∧ m' ((c.tc : Thread Cert.RwkvPrepRefIdeal.nD Cert.RwkvPrepRefIdeal.τ).loc Cert.RwkvPrepRefIdeal.main_arg7) = m ((c.tc : Thread Cert.RwkvPrepIdeal.nD Cert.RwkvPrepIdeal.τ).loc Cert.RwkvPrepIdeal.main_arg7)) →
    ∃ (v0 : (c : Dev Cert.RwkvPrepIdeal.nD) → Buf (Elt Ideal) ((c.tc : Thread Cert.RwkvPrepIdeal.nD Cert.RwkvPrepIdeal.τ).loc Cert.RwkvPrepIdeal.main_v9_0)) (v1 : (c : Dev Cert.RwkvPrepIdeal.nD) → Buf (Elt Ideal) ((c.tc : Thread Cert.RwkvPrepIdeal.nD Cert.RwkvPrepIdeal.τ).loc Cert.RwkvPrepIdeal.main_v9_1)) (v2 : (c : Dev Cert.RwkvPrepIdeal.nD) → Buf (Elt Ideal) ((c.tc : Thread Cert.RwkvPrepIdeal.nD Cert.RwkvPrepIdeal.τ).loc Cert.RwkvPrepIdeal.main_v9_2)) (v3 : (c : Dev Cert.RwkvPrepIdeal.nD) → Buf (Elt Ideal) ((c.tc : Thread Cert.RwkvPrepIdeal.nD Cert.RwkvPrepIdeal.τ).loc Cert.RwkvPrepIdeal.main_v9_3)) (v4 : (c : Dev Cert.RwkvPrepIdeal.nD) → Buf (Elt Ideal) ((c.tc : Thread Cert.RwkvPrepIdeal.nD Cert.RwkvPrepIdeal.τ).loc Cert.RwkvPrepIdeal.main_v9_4)) (v5 : (c : Dev Cert.RwkvPrepIdeal.nD) → Buf (Elt Ideal) ((c.tc : Thread Cert.RwkvPrepIdeal.nD Cert.RwkvPrepIdeal.τ).loc Cert.RwkvPrepIdeal.main_v9_5)),
      θ_run (Cert.RwkvPrepIdeal.defs (F := Ideal)) (onTc (τ := Cert.RwkvPrepIdeal.τ) (Cert.RwkvPrepIdeal.main (F := Ideal))) ⟨m, fun _ => 0, g⟩ (fun r => ∀ c : Dev Cert.RwkvPrepIdeal.nD,
          r.2.mem ((c.tc : Thread Cert.RwkvPrepIdeal.nD Cert.RwkvPrepIdeal.τ).loc Cert.RwkvPrepIdeal.main_v9_0) = v0 c
          ∧ r.2.mem ((c.tc : Thread Cert.RwkvPrepIdeal.nD Cert.RwkvPrepIdeal.τ).loc Cert.RwkvPrepIdeal.main_v9_1) = v1 c
          ∧ r.2.mem ((c.tc : Thread Cert.RwkvPrepIdeal.nD Cert.RwkvPrepIdeal.τ).loc Cert.RwkvPrepIdeal.main_v9_2) = v2 c
          ∧ r.2.mem ((c.tc : Thread Cert.RwkvPrepIdeal.nD Cert.RwkvPrepIdeal.τ).loc Cert.RwkvPrepIdeal.main_v9_3) = v3 c
          ∧ r.2.mem ((c.tc : Thread Cert.RwkvPrepIdeal.nD Cert.RwkvPrepIdeal.τ).loc Cert.RwkvPrepIdeal.main_v9_4) = v4 c
          ∧ r.2.mem ((c.tc : Thread Cert.RwkvPrepIdeal.nD Cert.RwkvPrepIdeal.τ).loc Cert.RwkvPrepIdeal.main_v9_5) = v5 c
          ∧ r.2.mem ((c.tc : Thread Cert.RwkvPrepIdeal.nD Cert.RwkvPrepIdeal.τ).loc Cert.RwkvPrepIdeal.main_arg0) = m ((c.tc : Thread Cert.RwkvPrepIdeal.nD Cert.RwkvPrepIdeal.τ).loc Cert.RwkvPrepIdeal.main_arg0)
          ∧ r.2.mem ((c.tc : Thread Cert.RwkvPrepIdeal.nD Cert.RwkvPrepIdeal.τ).loc Cert.RwkvPrepIdeal.main_arg1) = m ((c.tc : Thread Cert.RwkvPrepIdeal.nD Cert.RwkvPrepIdeal.τ).loc Cert.RwkvPrepIdeal.main_arg1)
          ∧ r.2.mem ((c.tc : Thread Cert.RwkvPrepIdeal.nD Cert.RwkvPrepIdeal.τ).loc Cert.RwkvPrepIdeal.main_arg2) = m ((c.tc : Thread Cert.RwkvPrepIdeal.nD Cert.RwkvPrepIdeal.τ).loc Cert.RwkvPrepIdeal.main_arg2)
          ∧ r.2.mem ((c.tc : Thread Cert.RwkvPrepIdeal.nD Cert.RwkvPrepIdeal.τ).loc Cert.RwkvPrepIdeal.main_arg3) = m ((c.tc : Thread Cert.RwkvPrepIdeal.nD Cert.RwkvPrepIdeal.τ).loc Cert.RwkvPrepIdeal.main_arg3)
          ∧ r.2.mem ((c.tc : Thread Cert.RwkvPrepIdeal.nD Cert.RwkvPrepIdeal.τ).loc Cert.RwkvPrepIdeal.main_arg4) = m ((c.tc : Thread Cert.RwkvPrepIdeal.nD Cert.RwkvPrepIdeal.τ).loc Cert.RwkvPrepIdeal.main_arg4)
          ∧ r.2.mem ((c.tc : Thread Cert.RwkvPrepIdeal.nD Cert.RwkvPrepIdeal.τ).loc Cert.RwkvPrepIdeal.main_arg5) = m ((c.tc : Thread Cert.RwkvPrepIdeal.nD Cert.RwkvPrepIdeal.τ).loc Cert.RwkvPrepIdeal.main_arg5)
          ∧ r.2.mem ((c.tc : Thread Cert.RwkvPrepIdeal.nD Cert.RwkvPrepIdeal.τ).loc Cert.RwkvPrepIdeal.main_arg6) = m ((c.tc : Thread Cert.RwkvPrepIdeal.nD Cert.RwkvPrepIdeal.τ).loc Cert.RwkvPrepIdeal.main_arg6)
          ∧ r.2.mem ((c.tc : Thread Cert.RwkvPrepIdeal.nD Cert.RwkvPrepIdeal.τ).loc Cert.RwkvPrepIdeal.main_arg7) = m ((c.tc : Thread Cert.RwkvPrepIdeal.nD Cert.RwkvPrepIdeal.τ).loc Cert.RwkvPrepIdeal.main_arg7))
      ∧ θ_run (Cert.RwkvPrepRefIdeal.defs (F := Ideal)) (onTc (τ := Cert.RwkvPrepRefIdeal.τ) (Cert.RwkvPrepRefIdeal.main (F := Ideal))) ⟨m', fun _ => 0, g'⟩ (fun r => ∀ c : Dev Cert.RwkvPrepRefIdeal.nD,
          r.2.mem ((c.tc : Thread Cert.RwkvPrepRefIdeal.nD Cert.RwkvPrepRefIdeal.τ).loc Cert.RwkvPrepRefIdeal.main_v54) = v0 c
          ∧ r.2.mem ((c.tc : Thread Cert.RwkvPrepRefIdeal.nD Cert.RwkvPrepRefIdeal.τ).loc Cert.RwkvPrepRefIdeal.main_v55) = v1 c
          ∧ r.2.mem ((c.tc : Thread Cert.RwkvPrepRefIdeal.nD Cert.RwkvPrepRefIdeal.τ).loc Cert.RwkvPrepRefIdeal.main_v56) = v2 c
          ∧ r.2.mem ((c.tc : Thread Cert.RwkvPrepRefIdeal.nD Cert.RwkvPrepRefIdeal.τ).loc Cert.RwkvPrepRefIdeal.main_v36) = v3 c
          ∧ r.2.mem ((c.tc : Thread Cert.RwkvPrepRefIdeal.nD Cert.RwkvPrepRefIdeal.τ).loc Cert.RwkvPrepRefIdeal.main_v46) = v4 c
          ∧ r.2.mem ((c.tc : Thread Cert.RwkvPrepRefIdeal.nD Cert.RwkvPrepRefIdeal.τ).loc Cert.RwkvPrepRefIdeal.main_v57) = v5 c
          ∧ r.2.mem ((c.tc : Thread Cert.RwkvPrepRefIdeal.nD Cert.RwkvPrepRefIdeal.τ).loc Cert.RwkvPrepRefIdeal.main_arg0) = m' ((c.tc : Thread Cert.RwkvPrepRefIdeal.nD Cert.RwkvPrepRefIdeal.τ).loc Cert.RwkvPrepRefIdeal.main_arg0)
          ∧ r.2.mem ((c.tc : Thread Cert.RwkvPrepRefIdeal.nD Cert.RwkvPrepRefIdeal.τ).loc Cert.RwkvPrepRefIdeal.main_arg1) = m' ((c.tc : Thread Cert.RwkvPrepRefIdeal.nD Cert.RwkvPrepRefIdeal.τ).loc Cert.RwkvPrepRefIdeal.main_arg1)
          ∧ r.2.mem ((c.tc : Thread Cert.RwkvPrepRefIdeal.nD Cert.RwkvPrepRefIdeal.τ).loc Cert.RwkvPrepRefIdeal.main_arg2) = m' ((c.tc : Thread Cert.RwkvPrepRefIdeal.nD Cert.RwkvPrepRefIdeal.τ).loc Cert.RwkvPrepRefIdeal.main_arg2)
          ∧ r.2.mem ((c.tc : Thread Cert.RwkvPrepRefIdeal.nD Cert.RwkvPrepRefIdeal.τ).loc Cert.RwkvPrepRefIdeal.main_arg3) = m' ((c.tc : Thread Cert.RwkvPrepRefIdeal.nD Cert.RwkvPrepRefIdeal.τ).loc Cert.RwkvPrepRefIdeal.main_arg3)
          ∧ r.2.mem ((c.tc : Thread Cert.RwkvPrepRefIdeal.nD Cert.RwkvPrepRefIdeal.τ).loc Cert.RwkvPrepRefIdeal.main_arg4) = m' ((c.tc : Thread Cert.RwkvPrepRefIdeal.nD Cert.RwkvPrepRefIdeal.τ).loc Cert.RwkvPrepRefIdeal.main_arg4)
          ∧ r.2.mem ((c.tc : Thread Cert.RwkvPrepRefIdeal.nD Cert.RwkvPrepRefIdeal.τ).loc Cert.RwkvPrepRefIdeal.main_arg5) = m' ((c.tc : Thread Cert.RwkvPrepRefIdeal.nD Cert.RwkvPrepRefIdeal.τ).loc Cert.RwkvPrepRefIdeal.main_arg5)
          ∧ r.2.mem ((c.tc : Thread Cert.RwkvPrepRefIdeal.nD Cert.RwkvPrepRefIdeal.τ).loc Cert.RwkvPrepRefIdeal.main_arg6) = m' ((c.tc : Thread Cert.RwkvPrepRefIdeal.nD Cert.RwkvPrepRefIdeal.τ).loc Cert.RwkvPrepRefIdeal.main_arg6)
          ∧ r.2.mem ((c.tc : Thread Cert.RwkvPrepRefIdeal.nD Cert.RwkvPrepRefIdeal.τ).loc Cert.RwkvPrepRefIdeal.main_arg7) = m' ((c.tc : Thread Cert.RwkvPrepRefIdeal.nD Cert.RwkvPrepRefIdeal.τ).loc Cert.RwkvPrepRefIdeal.main_arg7))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hProjA : Cert.ProjA.Facts) (hProjAIdeal : Cert.ProjAIdeal.Facts) (hProjARefIdeal : Cert.ProjARefIdeal.Facts) (hProjQ : Cert.ProjQ.Facts) (hProjQIdeal : Cert.ProjQIdeal.Facts) (hProjQRefIdeal : Cert.ProjQRefIdeal.Facts) (hProjS : Cert.ProjS.Facts) (hProjSIdeal : Cert.ProjSIdeal.Facts) (hProjSRefIdeal : Cert.ProjSRefIdeal.Facts) (hProjRkv : Cert.ProjRkv.Facts) (hProjRkvIdeal : Cert.ProjRkvIdeal.Facts) (hProjRkvRefIdeal : Cert.ProjRkvRefIdeal.Facts) (hProjLo : Cert.ProjLo.Facts) (hProjLoIdeal : Cert.ProjLoIdeal.Facts) (hProjLoRefIdeal : Cert.ProjLoRefIdeal.Facts) (hOutProj : Cert.OutProj.Facts) (hOutProjIdeal : Cert.OutProjIdeal.Facts) (hOutProjRefIdeal : Cert.OutProjRefIdeal.Facts) (hUpQ : Cert.UpQ.Facts) (hUpQIdeal : Cert.UpQIdeal.Facts) (hUpQRefIdeal : Cert.UpQRefIdeal.Facts) (hUpKv : Cert.UpKv.Facts) (hUpKvIdeal : Cert.UpKvIdeal.Facts) (hUpKvRefIdeal : Cert.UpKvRefIdeal.Facts) (hNormMod : Cert.NormMod.Facts) (hNormModIdeal : Cert.NormModIdeal.Facts) (hNormModRefIdeal : Cert.NormModRefIdeal.Facts) (hNormPlain : Cert.NormPlain.Facts) (hNormPlainIdeal : Cert.NormPlainIdeal.Facts) (hNormPlainRefIdeal : Cert.NormPlainRefIdeal.Facts) (hCond : Cert.Cond.Facts) (hCondIdeal : Cert.CondIdeal.Facts) (hCondRefIdeal : Cert.CondRefIdeal.Facts) (hMlaPrep : Cert.MlaPrep.Facts) (hMlaPrepIdeal : Cert.MlaPrepIdeal.Facts) (hMlaPrepRefIdeal : Cert.MlaPrepRefIdeal.Facts) (hRwkvPrep : Cert.RwkvPrep.Facts) (hRwkvPrepIdeal : Cert.RwkvPrepIdeal.Facts) (hRwkvPrepRefIdeal : Cert.RwkvPrepRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_ProjA (hProjA := hProjA)
    ∧ quiescent_ProjAIdeal (hProjAIdeal := hProjAIdeal)
    ∧ quiescent_ProjARefIdeal (hProjARefIdeal := hProjARefIdeal)
    ∧ quiescent_ProjQ (hProjQ := hProjQ)
    ∧ quiescent_ProjQIdeal (hProjQIdeal := hProjQIdeal)
    ∧ quiescent_ProjQRefIdeal (hProjQRefIdeal := hProjQRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_ProjRkv (hProjRkv := hProjRkv)
    ∧ quiescent_ProjRkvIdeal (hProjRkvIdeal := hProjRkvIdeal)
    ∧ quiescent_ProjRkvRefIdeal (hProjRkvRefIdeal := hProjRkvRefIdeal)
    ∧ quiescent_ProjLo (hProjLo := hProjLo)
    ∧ quiescent_ProjLoIdeal (hProjLoIdeal := hProjLoIdeal)
    ∧ quiescent_ProjLoRefIdeal (hProjLoRefIdeal := hProjLoRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_UpQ (hUpQ := hUpQ)
    ∧ quiescent_UpQIdeal (hUpQIdeal := hUpQIdeal)
    ∧ quiescent_UpQRefIdeal (hUpQRefIdeal := hUpQRefIdeal)
    ∧ quiescent_UpKv (hUpKv := hUpKv)
    ∧ quiescent_UpKvIdeal (hUpKvIdeal := hUpKvIdeal)
    ∧ quiescent_UpKvRefIdeal (hUpKvRefIdeal := hUpKvRefIdeal)
    ∧ quiescent_NormMod (hNormMod := hNormMod)
    ∧ quiescent_NormModIdeal (hNormModIdeal := hNormModIdeal)
    ∧ quiescent_NormModRefIdeal (hNormModRefIdeal := hNormModRefIdeal)
    ∧ quiescent_NormPlain (hNormPlain := hNormPlain)
    ∧ quiescent_NormPlainIdeal (hNormPlainIdeal := hNormPlainIdeal)
    ∧ quiescent_NormPlainRefIdeal (hNormPlainRefIdeal := hNormPlainRefIdeal)
    ∧ quiescent_Cond (hCond := hCond)
    ∧ quiescent_CondIdeal (hCondIdeal := hCondIdeal)
    ∧ quiescent_CondRefIdeal (hCondRefIdeal := hCondRefIdeal)
    ∧ quiescent_MlaPrep (hMlaPrep := hMlaPrep)
    ∧ quiescent_MlaPrepIdeal (hMlaPrepIdeal := hMlaPrepIdeal)
    ∧ quiescent_MlaPrepRefIdeal (hMlaPrepRefIdeal := hMlaPrepRefIdeal)
    ∧ quiescent_RwkvPrep (hRwkvPrep := hRwkvPrep)
    ∧ quiescent_RwkvPrepIdeal (hRwkvPrepIdeal := hRwkvPrepIdeal)
    ∧ quiescent_RwkvPrepRefIdeal (hRwkvPrepRefIdeal := hRwkvPrepRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_ProjA_ProjAIdeal
    ∧ algebraic_ProjAIdeal_ProjARefIdeal (hProjAIdeal := hProjAIdeal) (hProjARefIdeal := hProjARefIdeal)
    ∧ preserves_ProjQ_ProjQIdeal
    ∧ algebraic_ProjQIdeal_ProjQRefIdeal (hProjQIdeal := hProjQIdeal) (hProjQRefIdeal := hProjQRefIdeal)
    ∧ preserves_ProjS_ProjSIdeal
    ∧ algebraic_ProjSIdeal_ProjSRefIdeal (hProjSIdeal := hProjSIdeal) (hProjSRefIdeal := hProjSRefIdeal)
    ∧ preserves_ProjRkv_ProjRkvIdeal
    ∧ algebraic_ProjRkvIdeal_ProjRkvRefIdeal (hProjRkvIdeal := hProjRkvIdeal) (hProjRkvRefIdeal := hProjRkvRefIdeal)
    ∧ preserves_ProjLo_ProjLoIdeal
    ∧ algebraic_ProjLoIdeal_ProjLoRefIdeal (hProjLoIdeal := hProjLoIdeal) (hProjLoRefIdeal := hProjLoRefIdeal)
    ∧ preserves_OutProj_OutProjIdeal
    ∧ algebraic_OutProjIdeal_OutProjRefIdeal (hOutProjIdeal := hOutProjIdeal) (hOutProjRefIdeal := hOutProjRefIdeal)
    ∧ preserves_UpQ_UpQIdeal
    ∧ algebraic_UpQIdeal_UpQRefIdeal (hUpQIdeal := hUpQIdeal) (hUpQRefIdeal := hUpQRefIdeal)
    ∧ preserves_UpKv_UpKvIdeal
    ∧ algebraic_UpKvIdeal_UpKvRefIdeal (hUpKvIdeal := hUpKvIdeal) (hUpKvRefIdeal := hUpKvRefIdeal)
    ∧ preserves_NormMod_NormModIdeal
    ∧ algebraic_NormModIdeal_NormModRefIdeal (hNormModIdeal := hNormModIdeal) (hNormModRefIdeal := hNormModRefIdeal)
    ∧ preserves_NormPlain_NormPlainIdeal
    ∧ algebraic_NormPlainIdeal_NormPlainRefIdeal (hNormPlainIdeal := hNormPlainIdeal) (hNormPlainRefIdeal := hNormPlainRefIdeal)
    ∧ preserves_Cond_CondIdeal
    ∧ algebraic_CondIdeal_CondRefIdeal (hCondIdeal := hCondIdeal) (hCondRefIdeal := hCondRefIdeal)
    ∧ preserves_MlaPrep_MlaPrepIdeal
    ∧ algebraic_MlaPrepIdeal_MlaPrepRefIdeal (hMlaPrepIdeal := hMlaPrepIdeal) (hMlaPrepRefIdeal := hMlaPrepRefIdeal)
    ∧ preserves_RwkvPrep_RwkvPrepIdeal
    ∧ algebraic_RwkvPrepIdeal_RwkvPrepRefIdeal (hRwkvPrepIdeal := hRwkvPrepIdeal) (hRwkvPrepRefIdeal := hRwkvPrepRefIdeal)
-- ==== Pre_finite_scores.lean ====
abbrev S4x4096x6144 : Shape := ⟨3, ![4, 4096, 6144]⟩
abbrev S16x513 : Shape := ⟨2, ![16, 513]⟩
abbrev S4x4096x4096 : Shape := ⟨3, ![4, 4096, 4096]⟩
abbrev S_ : Shape := ⟨0, ![]⟩

class Facts : Prop where
  slices_S4x4096x6144_S4x4096x4096_0_0_0 : S4x4096x6144.Slices ![0, 0, 0] S4x4096x4096
  bcast_S_S4x4096x4096 : S_.BroadcastsInDim S4x4096x4096 (![] : Fin 0 → Fin S4x4096x4096.rank)
  bcast_S_S16x513 : S_.BroadcastsInDim S16x513 (![] : Fin 0 → Fin S16x513.rank)

variable [Facts]

def fn {F : FTy → Type} [FloatOps F] (main_arg0 : FVec F S4x4096x6144 .bf16) (main_arg1 : FVec F S16x513 .f32) : IVec S4x4096x4096 1 × IVec S16x513 1 :=
  let main_v0 : FVec F S4x4096x4096 .bf16 := (extractStridedSlice S4x4096x4096 ![0, 0, 0] · slices_S4x4096x6144_S4x4096x4096_0_0_0) main_arg0
  let main_v1 : FVec F S4x4096x4096 .bf16 := Host.absf main_v0
  let main_cst : FVec F S_ .bf16 := constant S_ .bf16 0x7F80#16
  let main_v2 : FVec F S4x4096x4096 .bf16 := broadcastInDim S4x4096x4096 ![] bcast_S_S4x4096x4096 main_cst
  let main_v3 : IVec S4x4096x4096 1 := cmpf .olt main_v1 main_v2
  let main_v4 : FVec F S16x513 .f32 := Host.absf main_arg1
  let main_cst_0 : FVec F S_ .f32 := constant S_ .f32 0x7F800000#32
  let main_v5 : FVec F S16x513 .f32 := broadcastInDim S16x513 ![] bcast_S_S16x513 main_cst_0
  let main_v6 : IVec S16x513 1 := cmpf .olt main_v4 main_v5
  (main_v3, main_v6)
-- ==== Kernel.lean ====
abbrev S4x4096x6144 : Shape := ⟨3, ![4, 4096, 6144]⟩
abbrev S16x513 : Shape := ⟨2, ![16, 513]⟩
abbrev S768 : Shape := ⟨1, ![768]⟩
abbrev S_ : Shape := ⟨0, ![]⟩
abbrev S768x1 : Shape := ⟨2, ![768, 1]⟩
abbrev S16x768 : Shape := ⟨2, ![16, 768]⟩
abbrev S16x769 : Shape := ⟨2, ![16, 769]⟩
abbrev S1x16x1x769 : Shape := ⟨4, ![1, 16, 1, 769]⟩
abbrev S1x16x128x769 : Shape := ⟨4, ![1, 16, 128, 769]⟩
abbrev S16x98432 : Shape := ⟨2, ![16, 98432]⟩
abbrev S16x98304 : Shape := ⟨2, ![16, 98304]⟩
abbrev S16x128x768 : Shape := ⟨3, ![16, 128, 768]⟩
abbrev S16x128x640 : Shape := ⟨3, ![16, 128, 640]⟩
abbrev S16x1x128x640 : Shape := ⟨4, ![16, 1, 128, 640]⟩
abbrev S16x5x128x640 : Shape := ⟨4, ![16, 5, 128, 640]⟩
abbrev S4x4096x2048 : Shape := ⟨3, ![4, 4096, 2048]⟩
abbrev S1x128x1024 : Shape := ⟨3, ![1, 128, 1024]⟩
abbrev S1x4096x1024 : Shape := ⟨3, ![1, 4096, 1024]⟩
abbrev S8x1x128x640 : Shape := ⟨4, ![8, 1, 128, 640]⟩
abbrev S128x640 : Shape := ⟨2, ![128, 640]⟩
abbrev S1x640x128 : Shape := ⟨3, ![1, 640, 128]⟩
abbrev S640x128 : Shape := ⟨2, ![640, 128]⟩
abbrev S1x128x128 : Shape := ⟨3, ![1, 128, 128]⟩
abbrev S128x128 : Shape := ⟨2, ![128, 128]⟩
abbrev S1x1x128x640 : Shape := ⟨4, ![1, 1, 128, 640]⟩
abbrev S128 : Shape := ⟨1, ![128]⟩
abbrev S128x1 : Shape := ⟨2, ![128, 1]⟩

abbrev nBuf : Space → Nat
  | .hbm => 94
  | .vmem => 10
  | .smem => 0
  | _ => 0

abbrev bufTy : (tb : Table) → Fin (tcTables nBuf tb) → BufTy
  | .hbm, ⟨0, _⟩ => ⟨S4x4096x6144, .bf16⟩
  | .hbm, ⟨1, _⟩ => ⟨S16x513, .f32⟩
  | .hbm, ⟨2, _⟩ => ⟨S768, .i32⟩
  | .hbm, ⟨3, _⟩ => ⟨S768, .i1⟩
  | .hbm, ⟨4, _⟩ => ⟨S768, .i32⟩
  | .hbm, ⟨5, _⟩ => ⟨S768, .i1⟩
  | .hbm, ⟨6, _⟩ => ⟨S768, .i32⟩
  | .hbm, ⟨7, _⟩ => ⟨S768, .i1⟩
  | .hbm, ⟨8, _⟩ => ⟨S768, .i32⟩
  | .hbm, ⟨9, _⟩ => ⟨S768, .i1⟩
  | .hbm, ⟨10, _⟩ => ⟨S768, .i32⟩
  | .hbm, ⟨11, _⟩ => ⟨S768, .i1⟩
  | .hbm, ⟨12, _⟩ => ⟨S_, .i32⟩
  | .hbm, ⟨13, _⟩ => ⟨S768, .i32⟩
  | .hbm, ⟨14, _⟩ => ⟨S768, .i32⟩
  | .hbm, ⟨15, _⟩ => ⟨S768, .i32⟩
  | .hbm, ⟨16, _⟩ => ⟨S768x1, .i32⟩
  | .hbm, ⟨17, _⟩ => ⟨S16x768, .f32⟩
  | .hbm, ⟨18, _⟩ => ⟨S_, .i32⟩
  | .hbm, ⟨19, _⟩ => ⟨S_, .f32⟩
  | .hbm, ⟨20, _⟩ => ⟨S16x769, .f32⟩
  | .hbm, ⟨21, _⟩ => ⟨S1x16x1x769, .f32⟩
  | .hbm, ⟨22, _⟩ => ⟨S1x16x128x769, .f32⟩
  | .hbm, ⟨23, _⟩ => ⟨S16x98432, .f32⟩
  | .hbm, ⟨24, _⟩ => ⟨S16x98304, .f32⟩
  | .hbm, ⟨25, _⟩ => ⟨S16x128x768, .f32⟩
  | .hbm, ⟨26, _⟩ => ⟨S16x128x640, .f32⟩
  | .hbm, ⟨27, _⟩ => ⟨S_, .i32⟩
  | .hbm, ⟨28, _⟩ => ⟨S768, .i32⟩
  | .hbm, ⟨29, _⟩ => ⟨S768, .i32⟩
  | .hbm, ⟨30, _⟩ => ⟨S768, .i32⟩
  | .hbm, ⟨31, _⟩ => ⟨S768x1, .i32⟩
  | .hbm, ⟨32, _⟩ => ⟨S16x768, .f32⟩
  | .hbm, ⟨33, _⟩ => ⟨S_, .i32⟩
  | .hbm, ⟨34, _⟩ => ⟨S_, .f32⟩
  | .hbm, ⟨35, _⟩ => ⟨S16x769, .f32⟩
  | .hbm, ⟨36, _⟩ => ⟨S1x16x1x769, .f32⟩
  | .hbm, ⟨37, _⟩ => ⟨S1x16x128x769, .f32⟩
  | .hbm, ⟨38, _⟩ => ⟨S16x98432, .f32⟩
  | .hbm, ⟨39, _⟩ => ⟨S16x98304, .f32⟩
  | .hbm, ⟨40, _⟩ => ⟨S16x128x768, .f32⟩
  | .hbm, ⟨41, _⟩ => ⟨S16x128x640, .f32⟩
  | .hbm, ⟨42, _⟩ => ⟨S_, .i32⟩
  | .hbm, ⟨43, _⟩ => ⟨S768, .i32⟩
  | .hbm, ⟨44, _⟩ => ⟨S768, .i32⟩
  | .hbm, ⟨45, _⟩ => ⟨S768, .i32⟩
  | .hbm, ⟨46, _⟩ => ⟨S768x1, .i32⟩
  | .hbm, ⟨47, _⟩ => ⟨S16x768, .f32⟩
  | .hbm, ⟨48, _⟩ => ⟨S_, .i32⟩
  | .hbm, ⟨49, _⟩ => ⟨S_, .f32⟩
  | .hbm, ⟨50, _⟩ => ⟨S16x769, .f32⟩
  | .hbm, ⟨51, _⟩ => ⟨S1x16x1x769, .f32⟩
  | .hbm, ⟨52, _⟩ => ⟨S1x16x128x769, .f32⟩
  | .hbm, ⟨53, _⟩ => ⟨S16x98432, .f32⟩
  | .hbm, ⟨54, _⟩ => ⟨S16x98304, .f32⟩
  | .hbm, ⟨55, _⟩ => ⟨S16x128x768, .f32⟩
  | .hbm, ⟨56, _⟩ => ⟨S16x128x640, .f32⟩
  | .hbm, ⟨57, _⟩ => ⟨S_, .i32⟩
  | .hbm, ⟨58, _⟩ => ⟨S768, .i32⟩
  | .hbm, ⟨59, _⟩ => ⟨S768, .i32⟩
  | .hbm, ⟨60, _⟩ => ⟨S768, .i32⟩
  | .hbm, ⟨61, _⟩ => ⟨S768x1, .i32⟩
  | .hbm, ⟨62, _⟩ => ⟨S16x768, .f32⟩
  | .hbm, ⟨63, _⟩ => ⟨S_, .i32⟩
  | .hbm, ⟨64, _⟩ => ⟨S_, .f32⟩
  | .hbm, ⟨65, _⟩ => ⟨S16x769, .f32⟩
  | .hbm, ⟨66, _⟩ => ⟨S1x16x1x769, .f32⟩
  | .hbm, ⟨67, _⟩ => ⟨S1x16x128x769, .f32⟩
  | .hbm, ⟨68, _⟩ => ⟨S16x98432, .f32⟩
  | .hbm, ⟨69, _⟩ => ⟨S16x98304, .f32⟩
  | .hbm, ⟨70, _⟩ => ⟨S16x128x768, .f32⟩
  | .hbm, ⟨71, _⟩ => ⟨S16x128x640, .f32⟩
  | .hbm, ⟨72, _⟩ => ⟨S_, .i32⟩
  | .hbm, ⟨73, _⟩ => ⟨S768, .i32⟩
  | .hbm, ⟨74, _⟩ => ⟨S768, .i32⟩
  | .hbm, ⟨75, _⟩ => ⟨S768, .i32⟩
  | .hbm, ⟨76, _⟩ => ⟨S768x1, .i32⟩
  | .hbm, ⟨77, _⟩ => ⟨S16x768, .f32⟩
  | .hbm, ⟨78, _⟩ => ⟨S_, .i32⟩
  | .hbm, ⟨79, _⟩ => ⟨S_, .f32⟩
  | .hbm, ⟨80, _⟩ => ⟨S16x769, .f32⟩
  | .hbm, ⟨81, _⟩ => ⟨S1x16x1x769, .f32⟩
  | .hbm, ⟨82, _⟩ => ⟨S1x16x128x769, .f32⟩
  | .hbm, ⟨83, _⟩ => ⟨S16x98432, .f32⟩
  | .hbm, ⟨84, _⟩ => ⟨S16x98304, .f32⟩
  | .hbm, ⟨85, _⟩ => ⟨S16x128x768, .f32⟩
  | .hbm, ⟨86, _⟩ => ⟨S16x128x640, .f32⟩
  | .hbm, ⟨87, _⟩ => ⟨S16x1x128x640, .f32⟩
  | .hbm, ⟨88, _⟩ => ⟨S16x1x128x640, .f32⟩
  | .hbm, ⟨89, _⟩ => ⟨S16x1x128x640, .f32⟩
  | .hbm, ⟨90, _⟩ => ⟨S16x1x128x640, .f32⟩
  | .hbm, ⟨91, _⟩ => ⟨S16x1x128x640, .f32⟩
  | .hbm, ⟨92, _⟩ => ⟨S16x5x128x640, .f32⟩
  | .hbm, ⟨93, _⟩ => ⟨S4x4096x2048, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S8x1x128x640, .f32⟩
  | .local _ .vmem, ⟨7, _⟩ => ⟨S8x1x128x640, .f32⟩
  | .local _ .vmem, ⟨8, _⟩ => ⟨S1x128x1024, .bf16⟩
  | .local _ .vmem, ⟨9, _⟩ => ⟨S1x128x1024, .bf16⟩
  | _, _ => ⟨S4x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_c_6 : Ref sig .tc := ⟨.hbm, 9, rfl⟩
abbrev main_c_7 : Ref sig .tc := ⟨.hbm, 10, rfl⟩
abbrev main_c_8 : Ref sig .tc := ⟨.hbm, 11, rfl⟩
abbrev main_c_9 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_10 : Ref sig .tc := ⟨.hbm, 18, rfl⟩
abbrev main_call0_v0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_12 : Ref sig .tc := ⟨.hbm, 33, rfl⟩
abbrev main_call1_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_13 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_14 : Ref sig .tc := ⟨.hbm, 48, rfl⟩
abbrev main_call2_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_15 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_16 : Ref sig .tc := ⟨.hbm, 63, rfl⟩
abbrev main_call3_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_17 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_18 : Ref sig .tc := ⟨.hbm, 78, rfl⟩
abbrev main_call4_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 32], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.subi v0 c512_i32
  let c0_i32 : BitVec 32 := 0#32
  let v2 : BitVec 32 := Scalar.maxsi v1 c0_i32
  v2
def k0_off1 (i : grid0.Coords) : Fin 3 → Nat :=
  let c0 : Index := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.subi v0 c512_i32
  let c0_i32 : BitVec 32 := 0#32
  let v2 : BitVec 32 := Scalar.maxsi v1 c0_i32
  let v3 : BitVec 32 := v2
  let v44 : Index := Scalar.indexCast v3
  let c0_9 : Index := 0#32
  ![0, v44.toNat, 0]
def k0_off2 (i : grid0.Coords) : Fin 3 → Nat :=
  let c0_10 : Index := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.subi v0 c512_i32
  let c0_i32 : BitVec 32 := 0#32
  let v2 : BitVec 32 := Scalar.maxsi v1 c0_i32
  let v3 : BitVec 32 := v2
  let v47 : Index := Scalar.indexCast v3
  let c128 : Index := 128#32
  ![0, v47.toNat, 128]
def k0_off3 (i : grid0.Coords) : Fin 3 → Nat :=
  let c0_11 : Index := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.subi v0 c512_i32
  let c0_i32 : BitVec 32 := 0#32
  let v2 : BitVec 32 := Scalar.maxsi v1 c0_i32
  let v3 : BitVec 32 := v2
  let v50 : Index := Scalar.indexCast v3
  let c256 : Index := 256#32
  ![0, v50.toNat, 256]
def k0_off4 (i : grid0.Coords) : Fin 3 → Nat :=
  let c0_12 : Index := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.subi v0 c512_i32
  let c0_i32 : BitVec 32 := 0#32
  let v2 : BitVec 32 := Scalar.maxsi v1 c0_i32
  let v3 : BitVec 32 := v2
  let v53 : Index := Scalar.indexCast v3
  let c384 : Index := 384#32
  ![0, v53.toNat, 384]
def k0_off5 (i : grid0.Coords) : Fin 3 → Nat :=
  let c0_13 : Index := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.subi v0 c512_i32
  let c0_i32 : BitVec 32 := 0#32
  let v2 : BitVec 32 := Scalar.maxsi v1 c0_i32
  let v3 : BitVec 32 := v2
  let v56 : Index := Scalar.indexCast v3
  let c512 : Index := 512#32
  ![0, v56.toNat, 512]
def k0_off6 (i : grid0.Coords) : Fin 3 → Nat :=
  let c0_14 : Index := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.subi v0 c512_i32
  let c0_i32 : BitVec 32 := 0#32
  let v2 : BitVec 32 := Scalar.maxsi v1 c0_i32
  let v3 : BitVec 32 := v2
  let v59 : Index := Scalar.indexCast v3
  let c640 : Index := 640#32
  ![0, v59.toNat, 640]
def k0_off7 (i : grid0.Coords) : Fin 3 → Nat :=
  let c0_15 : Index := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.subi v0 c512_i32
  let c0_i32 : BitVec 32 := 0#32
  let v2 : BitVec 32 := Scalar.maxsi v1 c0_i32
  let v3 : BitVec 32 := v2
  let v62 : Index := Scalar.indexCast v3
  let c768 : Index := 768#32
  ![0, v62.toNat, 768]
def k0_off8 (i : grid0.Coords) : Fin 3 → Nat :=
  let c0_16 : Index := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.subi v0 c512_i32
  let c0_i32 : BitVec 32 := 0#32
  let v2 : BitVec 32 := Scalar.maxsi v1 c0_i32
  let v3 : BitVec 32 := v2
  let v65 : Index := Scalar.indexCast v3
  let c896 : Index := 896#32
  ![0, v65.toNat, 896]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.minsi arg2 c4_i32
  let c0_i32 : BitVec 32 := 0#32
  let c0_i32_0 : BitVec 32 := 0#32
  let c0_i32_1 : BitVec 32 := 0#32
  ![arg1.toNat, v0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1x128x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2_e" => some (((Real.log 2)⁻¹ : ℝ) : EReal)
  | "mask" => some ⊥
  | "q_factor" => some (((Real.log 2)⁻¹ * (Real.sqrt 128)⁻¹ : ℝ) : EReal)
  | _ => none
-- ==== ReferenceIdeal.lean ====
abbrev S4x4096x6144 : Shape := ⟨3, ![4, 4096, 6144]⟩
abbrev S16x513 : Shape := ⟨2, ![16, 513]⟩
abbrev S4x4096x2048 : Shape := ⟨3, ![4, 4096, 2048]⟩
abbrev S4x4096x16x128 : Shape := ⟨4, ![4, 4096, 16, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S16x4096x4096 : Shape := ⟨3, ![16, 4096, 4096]⟩
abbrev S4x16x4096x4096 : Shape := ⟨4, ![4, 16, 4096, 4096]⟩
abbrev S1x16x4096x4096 : Shape := ⟨4, ![1, 16, 4096, 4096]⟩
abbrev S1x1x4096x4096 : Shape := ⟨4, ![1, 1, 4096, 4096]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩

abbrev nBuf : Space → Nat
  | .hbm => 99
  | .vmem => 0
  | .smem => 0
  | _ => 0

abbrev bufTy : (tb : Table) → Fin (tcTables nBuf tb) → BufTy
  | .hbm, ⟨0, _⟩ => ⟨S4x4096x6144, .bf16⟩
  | .hbm, ⟨1, _⟩ => ⟨S16x513, .f32⟩
  | .hbm, ⟨2, _⟩ => ⟨S4x4096x2048, .bf16⟩
  | .hbm, ⟨3, _⟩ => ⟨S4x4096x16x128, .bf16⟩
  | .hbm, ⟨4, _⟩ => ⟨S4x4096x16x128, .f32⟩
  | .hbm, ⟨5, _⟩ => ⟨S4x4096x2048, .bf16⟩
  | .hbm, ⟨6, _⟩ => ⟨S4x4096x16x128, .bf16⟩
  | .hbm, ⟨7, _⟩ => ⟨S4x4096x16x128, .f32⟩
  | .hbm, ⟨8, _⟩ => ⟨S4x4096x2048, .bf16⟩
  | .hbm, ⟨9, _⟩ => ⟨S4x4096x16x128, .bf16⟩
  | .hbm, ⟨10, _⟩ => ⟨S4x4096x16x128, .f32⟩
  | .hbm, ⟨11, _⟩ => ⟨S4096, .i32⟩
  | .hbm, ⟨12, _⟩ => ⟨S4096x1, .i32⟩
  | .hbm, ⟨13, _⟩ => ⟨S1x4096, .i32⟩
  | .hbm, ⟨14, _⟩ => ⟨S4096x4096, .i32⟩
  | .hbm, ⟨15, _⟩ => ⟨S4096x4096, .i32⟩
  | .hbm, ⟨16, _⟩ => ⟨S4096x4096, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S_, .i32⟩
  | .hbm, ⟨26, _⟩ => ⟨S4096x4096, .i32⟩
  | .hbm, ⟨27, _⟩ => ⟨S4096x4096, .i32⟩
  | .hbm, ⟨28, _⟩ => ⟨S_, .i32⟩
  | .hbm, ⟨29, _⟩ => ⟨S4096x4096, .i32⟩
  | .hbm, ⟨30, _⟩ => ⟨S4096x4096, .i1⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S4096x4096, .i32⟩
  | .hbm, ⟨35, _⟩ => ⟨S4096x4096x1, .i32⟩
  | .hbm, ⟨36, _⟩ => ⟨S16x4096x4096, .f32⟩
  | .hbm, ⟨37, _⟩ => ⟨S4x16x4096x4096, .f32⟩
  | .hbm, ⟨38, _⟩ => ⟨S_, .f32⟩
  | .hbm, ⟨39, _⟩ => ⟨S_, .f32⟩
  | .hbm, ⟨40, _⟩ => ⟨S4x16x4096x4096, .f32⟩
  | .hbm, ⟨41, _⟩ => ⟨S4x16x4096x4096, .f32⟩
  | .hbm, ⟨42, _⟩ => ⟨S1x16x4096x4096, .f32⟩
  | .hbm, ⟨43, _⟩ => ⟨S4x16x4096x4096, .f32⟩
  | .hbm, ⟨44, _⟩ => ⟨S4x16x4096x4096, .f32⟩
  | .hbm, ⟨45, _⟩ => ⟨S_, .i32⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S4096x1, .i32⟩
  | .hbm, ⟨64, _⟩ => ⟨S1x4096, .i32⟩
  | .hbm, ⟨65, _⟩ => ⟨S4096x4096, .i32⟩
  | .hbm, ⟨66, _⟩ => ⟨S4096x4096, .i32⟩
  | .hbm, ⟨67, _⟩ => ⟨S4096x4096, .i32⟩
  | .hbm, ⟨68, _⟩ => ⟨S_, .i32⟩
  | .hbm, ⟨69, _⟩ => ⟨S4096x4096, .i32⟩
  | .hbm, ⟨70, _⟩ => ⟨S4096x4096, .i1⟩
  | .hbm, ⟨71, _⟩ => ⟨S_, .i32⟩
  | .hbm, ⟨72, _⟩ => ⟨S4096x4096, .i32⟩
  | .hbm, ⟨73, _⟩ => ⟨S4096x4096, .i1⟩
  | .hbm, ⟨74, _⟩ => ⟨S4096x4096, .i1⟩
  | .hbm, ⟨75, _⟩ => ⟨S1x1x4096x4096, .i1⟩
  | .hbm, ⟨76, _⟩ => ⟨S_, .f32⟩
  | .hbm, ⟨77, _⟩ => ⟨S_, .f32⟩
  | .hbm, ⟨78, _⟩ => ⟨S4x16x4096x4096, .i1⟩
  | .hbm, ⟨79, _⟩ => ⟨S4x16x4096x4096, .f32⟩
  | .hbm, ⟨80, _⟩ => ⟨S4x16x4096x4096, .f32⟩
  | .hbm, ⟨81, _⟩ => ⟨S_, .f32⟩
  | .hbm, ⟨82, _⟩ => ⟨S4x16x4096, .f32⟩
  | .hbm, ⟨83, _⟩ => ⟨S_, .f32⟩
  | .hbm, ⟨84, _⟩ => ⟨S4x16x4096, .f32⟩
  | .hbm, ⟨85, _⟩ => ⟨S4x16x4096, .f32⟩
  | .hbm, ⟨86, _⟩ => ⟨S4x16x4096x1, .f32⟩
  | .hbm, ⟨87, _⟩ => ⟨S4x16x4096x4096, .f32⟩
  | .hbm, ⟨88, _⟩ => ⟨S4x16x4096x4096, .f32⟩
  | .hbm, ⟨89, _⟩ => ⟨S4x16x4096x4096, .f32⟩
  | .hbm, ⟨90, _⟩ => ⟨S_, .f32⟩
  | .hbm, ⟨91, _⟩ => ⟨S4x16x4096, .f32⟩
  | .hbm, ⟨92, _⟩ => ⟨S4x16x4096x1, .f32⟩
  | .hbm, ⟨93, _⟩ => ⟨S4x16x4096x4096, .f32⟩
  | .hbm, ⟨94, _⟩ => ⟨S4x16x4096x4096, .f32⟩
  | .hbm, ⟨95, _⟩ => ⟨S4x16x128x4096, .f32⟩
  | .hbm, ⟨96, _⟩ => ⟨S4x4096x16x128, .f32⟩
  | .hbm, ⟨97, _⟩ => ⟨S4x4096x2048, .f32⟩
  | .hbm, ⟨98, _⟩ => ⟨S4x4096x2048, .bf16⟩
  | _, _ => ⟨S4x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_c : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_0 : Ref sig .tc := ⟨.hbm, 59, rfl⟩
abbrev main_call1_v12 : Ref sig .tc := ⟨.hbm, 60, rfl⟩
abbrev main_call1_v13 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_5 : Ref sig .tc := ⟨.hbm, 68, rfl⟩
abbrev main_v38 : Ref sig .tc := ⟨.hbm, 69, rfl⟩
abbrev main_v39 : Ref sig .tc := ⟨.hbm, 70, rfl⟩
abbrev main_c_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v44 : Ref sig .tc := ⟨.hbm, 80, rfl⟩
abbrev main_cst_8 : Ref sig .tc := ⟨.hbm, 81, rfl⟩
abbrev main_v45 : Ref sig .tc := ⟨.hbm, 82, rfl⟩
abbrev main_cst_9 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_10 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩

abbrev nD : Nat := 1
abbrev τ : Topo := Topo.v7x

variable {F : FTy → Type} [FloatOps F]
-- ==== FfnUp.lean ====
abbrev S16384x4096 : Shape := ⟨2, ![16384, 4096]⟩
abbrev S4x4096x16384 : Shape := ⟨3, ![4, 4096, 16384]⟩
abbrev S16384x16384 : Shape := ⟨2, ![16384, 16384]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4x4096x16384, .f32⟩
  | .hbm, ⟨2, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S16384x4096 : Shape := ⟨2, ![16384, 4096]⟩
abbrev S4x4096x16384 : Shape := ⟨3, ![4, 4096, 16384]⟩
abbrev S1x4096x16384 : Shape := ⟨3, ![1, 4096, 16384]⟩
abbrev S4096x16384 : Shape := ⟨2, ![4096, 16384]⟩
abbrev S16384x16384 : Shape := ⟨2, ![16384, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x16384, .f32⟩
  | .hbm, ⟨2, _⟩ => ⟨S16384x4096, .f32⟩
  | .hbm, ⟨3, _⟩ => ⟨S1x4096x16384, .f32⟩
  | .hbm, ⟨4, _⟩ => ⟨S4096x16384, .f32⟩
  | .hbm, ⟨5, _⟩ => ⟨S16384x16384, .f32⟩
  | .hbm, ⟨6, _⟩ => ⟨S_, .f32⟩
  | .hbm, ⟨7, _⟩ => ⟨S16384x16384, .f32⟩
  | .hbm, ⟨8, _⟩ => ⟨S16384x16384, .f32⟩
  | .hbm, ⟨9, _⟩ => ⟨S16384x16384, .f32⟩
  | .hbm, ⟨10, _⟩ => ⟨S16384x16384, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnDown.lean ====
abbrev S16384x16384 : Shape := ⟨2, ![16384, 16384]⟩
abbrev S4x16384x4096 : Shape := ⟨3, ![4, 16384, 4096]⟩
abbrev S16384x4096 : Shape := ⟨2, ![16384, 4096]⟩
abbrev S4x4096 : Shape := ⟨2, ![4, 4096]⟩
abbrev S4x1x4096 : Shape := ⟨3, ![4, 1, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1024 : Shape := ⟨3, ![1, 1, 1024]⟩
abbrev S1x2048x256 : Shape := ⟨3, ![1, 2048, 256]⟩
abbrev S2048x256 : Shape := ⟨2, ![2048, 256]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 6
  | .vmem => 11
  | .smem => 0
  | _ => 0

abbrev bufTy : (tb : Table) → Fin (tcTables nBuf tb) → BufTy
  | .hbm, ⟨0, _⟩ => ⟨S16384x16384, .bf16⟩
  | .hbm, ⟨1, _⟩ => ⟨S4x16384x4096, .f32⟩
  | .hbm, ⟨2, _⟩ => ⟨S16384x4096, .f32⟩
  | .hbm, ⟨3, _⟩ => ⟨S4x4096, .f32⟩
  | .hbm, ⟨4, _⟩ => ⟨S4x1x4096, .f32⟩
  | .hbm, ⟨5, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S16384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnDownRefIdeal.lean ====
abbrev S16384x16384 : Shape := ⟨2, ![16384, 16384]⟩
abbrev S4x16384x4096 : Shape := ⟨3, ![4, 16384, 4096]⟩
abbrev S16384x4096 : Shape := ⟨2, ![16384, 4096]⟩
abbrev S4x4096 : Shape := ⟨2, ![4, 4096]⟩
abbrev S1x16384x4096 : Shape := ⟨3, ![1, 16384, 4096]⟩
abbrev S4x4096x4096 : Shape := ⟨3, ![4, 4096, 4096]⟩
abbrev S4x1x4096 : Shape := ⟨3, ![4, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S16384x16384, .bf16⟩
  | .hbm, ⟨1, _⟩ => ⟨S4x16384x4096, .f32⟩
  | .hbm, ⟨2, _⟩ => ⟨S16384x4096, .f32⟩
  | .hbm, ⟨3, _⟩ => ⟨S4x4096, .f32⟩
  | .hbm, ⟨4, _⟩ => ⟨S16384x16384, .f32⟩
  | .hbm, ⟨5, _⟩ => ⟨S1x16384x4096, .f32⟩
  | .hbm, ⟨6, _⟩ => ⟨S16384x4096, .f32⟩
  | .hbm, ⟨7, _⟩ => ⟨S16384x4096, .f32⟩
  | .hbm, ⟨8, _⟩ => ⟨S4x4096x4096, .f32⟩
  | .hbm, ⟨9, _⟩ => ⟨S4x4096x4096, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S16384x4096, .f32⟩
  | _, _ => ⟨S16384x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== ProjA.lean ====
abbrev S16384x4096 : Shape := ⟨2, ![16384, 4096]⟩
abbrev S4096x10592 : Shape := ⟨2, ![4096, 10592]⟩
abbrev S4096x6144 : Shape := ⟨2, ![4096, 6144]⟩
abbrev S16384x6144 : Shape := ⟨2, ![16384, 6144]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x10592, .f32⟩
  | .hbm, ⟨2, _⟩ => ⟨S4096x6144, .f32⟩
  | .hbm, ⟨3, _⟩ => ⟨S4096x6144, .bf16⟩
  | .hbm, ⟨4, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjARefIdeal.lean ====
abbrev S16384x4096 : Shape := ⟨2, ![16384, 4096]⟩
abbrev S4096x10592 : Shape := ⟨2, ![4096, 10592]⟩
abbrev S16384x10592 : Shape := ⟨2, ![16384, 10592]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x10592, .f32⟩
  | .hbm, ⟨2, _⟩ => ⟨S16384x4096, .f32⟩
  | .hbm, ⟨3, _⟩ => ⟨S16384x10592, .f32⟩
  | .hbm, ⟨4, _⟩ => ⟨S16384x6144, .f32⟩
  | .hbm, ⟨5, _⟩ => ⟨S16384x6144, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjQ.lean ====
abbrev S16384x4096 : Shape := ⟨2, ![16384, 4096]⟩
abbrev S4096x10592 : Shape := ⟨2, ![4096, 10592]⟩
abbrev S4096x2048 : Shape := ⟨2, ![4096, 2048]⟩
abbrev S_ : Shape := ⟨0, ![]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 10
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x10592, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x4096, .f32⟩
  | .hbm, ⟨8, _⟩ => ⟨S4096x4096, .bf16⟩
  | .hbm, ⟨9, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQRefIdeal.lean ====
abbrev S16384x4096 : Shape := ⟨2, ![16384, 4096]⟩
abbrev S4096x10592 : Shape := ⟨2, ![4096, 10592]⟩
abbrev S16384x10592 : Shape := ⟨2, ![16384, 10592]⟩
abbrev S16384x2048 : Shape := ⟨2, ![16384, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x10592, .f32⟩
  | .hbm, ⟨2, _⟩ => ⟨S16384x4096, .f32⟩
  | .hbm, ⟨3, _⟩ => ⟨S16384x10592, .f32⟩
  | .hbm, ⟨4, _⟩ => ⟨S16384x2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x4096, .f32⟩
  | .hbm, ⟨10, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProjS.lean ====
abbrev S16384x4096 : Shape := ⟨2, ![16384, 4096]⟩
abbrev S4096x10592 : Shape := ⟨2, ![4096, 10592]⟩
abbrev S4096x256 : Shape := ⟨2, ![4096, 256]⟩
abbrev S4096x96 : Shape := ⟨2, ![4096, 96]⟩
abbrev S4096x352 : Shape := ⟨2, ![4096, 352]⟩
abbrev S_ : Shape := ⟨0, ![]⟩
abbrev S4096x384 : Shape := ⟨2, ![4096, 384]⟩
abbrev S16384x384 : Shape := ⟨2, ![16384, 384]⟩
abbrev S1024x4096 : Shape := ⟨2, ![1024, 4096]⟩
abbrev S1024x384 : Shape := ⟨2, ![1024, 384]⟩

abbrev nBuf : Space → Nat
  | .hbm => 10
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S4096x10592, .f32⟩
  | .hbm, ⟨2, _⟩ => ⟨S4096x256, .f32⟩
  | .hbm, ⟨3, _⟩ => ⟨S4096x96, .f32⟩
  | .hbm, ⟨4, _⟩ => ⟨S4096x352, .f32⟩
  | .hbm, ⟨5, _⟩ => ⟨S_, .i32⟩
  | .hbm, ⟨6, _⟩ => ⟨S_, .f32⟩
  | .hbm, ⟨7, _⟩ => ⟨S4096x384, .f32⟩
  | .hbm, ⟨8, _⟩ => ⟨S4096x384, .bf16⟩
  | .hbm, ⟨9, _⟩ => ⟨S16384x384, .f32⟩
  | .local _ .vmem, ⟨0, _⟩ => ⟨S1024x4096, .bf16⟩
  | .local _ .vmem, ⟨1, _⟩ => ⟨S1024x4096, .bf16⟩
  | .local _ .vmem, ⟨2, _⟩ => ⟨S4096x384, .bf16⟩
  | .local _ .vmem, ⟨3, _⟩ => ⟨S1024x384, .f32⟩
  | .local _ .vmem, ⟨4, _⟩ => ⟨S1024x384, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjSRefIdeal.lean ====
abbrev S16384x4096 : Shape := ⟨2, ![16384, 4096]⟩
abbrev S4096x10592 : Shape := ⟨2, ![4096, 10592]⟩
abbrev S16384x10592 : Shape := ⟨2, ![16384, 10592]⟩
abbrev S16384x256 : Shape := ⟨2, ![16384, 256]⟩
abbrev S16384x96 : Shape := ⟨2, ![16384, 96]⟩
abbrev S16384x352 : Shape := ⟨2, ![16384, 352]⟩
abbrev S_ : Shape := ⟨0, ![]⟩
abbrev S16384x384 : Shape := ⟨2, ![16384, 384]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x10592, .f32⟩
  | .hbm, ⟨2, _⟩ => ⟨S16384x4096, .f32⟩
  | .hbm, ⟨3, _⟩ => ⟨S16384x10592, .f32⟩
  | .hbm, ⟨4, _⟩ => ⟨S16384x256, .f32⟩
  | .hbm, ⟨5, _⟩ => ⟨S16384x96, .f32⟩
  | .hbm, ⟨6, _⟩ => ⟨S16384x352, .f32⟩
  | .hbm, ⟨7, _⟩ => ⟨S_, .i32⟩
  | .hbm, ⟨8, _⟩ => ⟨S_, .f32⟩
  | .hbm, ⟨9, _⟩ => ⟨S16384x384, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ProjRkv.lean ====
abbrev S16384x4096 : Shape := ⟨2, ![16384, 4096]⟩
abbrev S4096x8000 : Shape := ⟨2, ![4096, 8000]⟩
abbrev S4096x6144 : Shape := ⟨2, ![4096, 6144]⟩
abbrev S16384x6144 : Shape := ⟨2, ![16384, 6144]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x8000, .f32⟩
  | .hbm, ⟨2, _⟩ => ⟨S4096x8000, .bf16⟩
  | .hbm, ⟨3, _⟩ => ⟨S4096x6144, .bf16⟩
  | .hbm, ⟨4, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRkvRefIdeal.lean ====
abbrev S16384x4096 : Shape := ⟨2, ![16384, 4096]⟩
abbrev S4096x8000 : Shape := ⟨2, ![4096, 8000]⟩
abbrev S16384x8000 : Shape := ⟨2, ![16384, 8000]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x8000, .f32⟩
  | .hbm, ⟨2, _⟩ => ⟨S16384x4096, .f32⟩
  | .hbm, ⟨3, _⟩ => ⟨S16384x8000, .f32⟩
  | .hbm, ⟨4, _⟩ => ⟨S16384x6144, .f32⟩
  | .hbm, ⟨5, _⟩ => ⟨S16384x6144, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjLo.lean ====
abbrev S16384x4096 : Shape := ⟨2, ![16384, 4096]⟩
abbrev S4096x8000 : Shape := ⟨2, ![4096, 8000]⟩
abbrev S4096x1856 : Shape := ⟨2, ![4096, 1856]⟩
abbrev S_ : Shape := ⟨0, ![]⟩
abbrev S4096x2048 : Shape := ⟨2, ![4096, 2048]⟩
abbrev S16384x2048 : Shape := ⟨2, ![16384, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x8000, .f32⟩
  | .hbm, ⟨2, _⟩ => ⟨S4096x8000, .bf16⟩
  | .hbm, ⟨3, _⟩ => ⟨S4096x1856, .bf16⟩
  | .hbm, ⟨4, _⟩ => ⟨S_, .i32⟩
  | .hbm, ⟨5, _⟩ => ⟨S_, .bf16⟩
  | .hbm, ⟨6, _⟩ => ⟨S4096x2048, .bf16⟩
  | .hbm, ⟨7, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjLoRefIdeal.lean ====
abbrev S16384x4096 : Shape := ⟨2, ![16384, 4096]⟩
abbrev S4096x8000 : Shape := ⟨2, ![4096, 8000]⟩
abbrev S16384x8000 : Shape := ⟨2, ![16384, 8000]⟩
abbrev S16384x1856 : Shape := ⟨2, ![16384, 1856]⟩
abbrev S_ : Shape := ⟨0, ![]⟩
abbrev S16384x2048 : Shape := ⟨2, ![16384, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x8000, .f32⟩
  | .hbm, ⟨2, _⟩ => ⟨S16384x4096, .f32⟩
  | .hbm, ⟨3, _⟩ => ⟨S16384x8000, .f32⟩
  | .hbm, ⟨4, _⟩ => ⟨S16384x1856, .f32⟩
  | .hbm, ⟨5, _⟩ => ⟨S_, .i32⟩
  | .hbm, ⟨6, _⟩ => ⟨S_, .f32⟩
  | .hbm, ⟨7, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OutProj.lean ====
abbrev S16384x2048 : Shape := ⟨2, ![16384, 2048]⟩
abbrev S2x4096x4096 : Shape := ⟨3, ![2, 4096, 4096]⟩
abbrev S16384x4096 : Shape := ⟨2, ![16384, 4096]⟩
abbrev S4x4096 : Shape := ⟨2, ![4, 4096]⟩
abbrev S4x1x4096 : Shape := ⟨3, ![4, 1, 4096]⟩
abbrev S1024x2048 : Shape := ⟨2, ![1024, 2048]⟩
abbrev S1x4096x512 : Shape := ⟨3, ![1, 4096, 512]⟩
abbrev S1024x512 : Shape := ⟨2, ![1024, 512]⟩
abbrev S1x1x512 : Shape := ⟨3, ![1, 1, 512]⟩
abbrev S1x2048x512 : Shape := ⟨3, ![1, 2048, 512]⟩
abbrev S2048x512 : Shape := ⟨2, ![2048, 512]⟩
abbrev S1x512 : Shape := ⟨2, ![1, 512]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x4096x4096, .f32⟩
  | .hbm, ⟨3, _⟩ => ⟨S16384x4096, .f32⟩
  | .hbm, ⟨4, _⟩ => ⟨S4x4096, .f32⟩
  | .hbm, ⟨5, _⟩ => ⟨S2x4096x4096, .bf16⟩
  | .hbm, ⟨6, _⟩ => ⟨S4x1x4096, .f32⟩
  | .hbm, ⟨7, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S16384x2048 : Shape := ⟨2, ![16384, 2048]⟩
abbrev S2x4096x4096 : Shape := ⟨3, ![2, 4096, 4096]⟩
abbrev S16384x4096 : Shape := ⟨2, ![16384, 4096]⟩
abbrev S4x4096 : Shape := ⟨2, ![4, 4096]⟩
abbrev S1x4096x4096 : Shape := ⟨3, ![1, 4096, 4096]⟩
abbrev S4096x4096 : Shape := ⟨2, ![4096, 4096]⟩
abbrev S4x4096x4096 : Shape := ⟨3, ![4, 4096, 4096]⟩
abbrev S4x1x4096 : Shape := ⟨3, ![4, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x4096x4096, .f32⟩
  | .hbm, ⟨3, _⟩ => ⟨S16384x4096, .f32⟩
  | .hbm, ⟨4, _⟩ => ⟨S4x4096, .f32⟩
  | .hbm, ⟨5, _⟩ => ⟨S16384x4096, .bf16⟩
  | .hbm, ⟨6, _⟩ => ⟨S16384x4096, .f32⟩
  | .hbm, ⟨7, _⟩ => ⟨S1x4096x4096, .f32⟩
  | .hbm, ⟨8, _⟩ => ⟨S4096x4096, .f32⟩
  | .hbm, ⟨9, _⟩ => ⟨S16384x4096, .f32⟩
  | .hbm, ⟨10, _⟩ => ⟨S4x4096x4096, .f32⟩
  | .hbm, ⟨11, _⟩ => ⟨S4x4096x4096, .f32⟩
  | .hbm, ⟨12, _⟩ => ⟨S4x1x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== UpQ.lean ====
abbrev S16384x768 : Shape := ⟨2, ![16384, 768]⟩
abbrev S768x3072 : Shape := ⟨2, ![768, 3072]⟩
abbrev S768x16x192 : Shape := ⟨3, ![768, 16, 192]⟩
abbrev S_ : Shape := ⟨0, ![]⟩
abbrev S768x16x256 : Shape := ⟨3, ![768, 16, 256]⟩
abbrev S768x4096 : Shape := ⟨2, ![768, 4096]⟩
abbrev S16384x4096 : Shape := ⟨2, ![16384, 4096]⟩
abbrev S1024x768 : Shape := ⟨2, ![1024, 768]⟩
abbrev S768x512 : Shape := ⟨2, ![768, 512]⟩
abbrev S1024x512 : Shape := ⟨2, ![1024, 512]⟩

abbrev nBuf : Space → Nat
  | .hbm => 12
  | .vmem => 6
  | .smem => 0
  | _ => 0

abbrev bufTy : (tb : Table) → Fin (tcTables nBuf tb) → BufTy
  | .hbm, ⟨0, _⟩ => ⟨S16384x768, .bf16⟩
  | .hbm, ⟨1, _⟩ => ⟨S768x3072, .f32⟩
  | .hbm, ⟨2, _⟩ => ⟨S768x16x192, .f32⟩
  | .hbm, ⟨3, _⟩ => ⟨S_, .i32⟩
  | .hbm, ⟨4, _⟩ => ⟨S_, .f32⟩
  | .hbm, ⟨5, _⟩ => ⟨S768x16x256, .f32⟩
  | .hbm, ⟨6, _⟩ => ⟨S768x4096, .f32⟩
  | .hbm, ⟨7, _⟩ => ⟨S_, .f32⟩
  | .hbm, ⟨8, _⟩ => ⟨S768x4096, .f32⟩
  | .hbm, ⟨9, _⟩ => ⟨S768x4096, .f32⟩
  | .hbm, ⟨10, _⟩ => ⟨S768x4096, .bf16⟩
  | .hbm, ⟨11, _⟩ => ⟨S16384x4096, .bf16⟩
  | .local _ .vmem, ⟨0, _⟩ => ⟨S1024x768, .bf16⟩
  | .local _ .vmem, ⟨1, _⟩ => ⟨S1024x768, .bf16⟩
  | .local _ .vmem, ⟨2, _⟩ => ⟨S768x512, .bf16⟩
  | .local _ .vmem, ⟨3, _⟩ => ⟨S768x512, .bf16⟩
  | .local _ .vmem, ⟨4, _⟩ => ⟨S1024x512, .bf16⟩
  | .local _ .vmem, ⟨5, _⟩ => ⟨S1024x512, .bf16⟩
  | _, _ => ⟨S16384x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpQRefIdeal.lean ====
abbrev S16384x768 : Shape := ⟨2, ![16384, 768]⟩
abbrev S768x3072 : Shape := ⟨2, ![768, 3072]⟩
abbrev S16384x3072 : Shape := ⟨2, ![16384, 3072]⟩
abbrev S16384x16x192 : Shape := ⟨3, ![16384, 16, 192]⟩
abbrev S_ : Shape := ⟨0, ![]⟩
abbrev S16384x16x256 : Shape := ⟨3, ![16384, 16, 256]⟩
abbrev S16384x4096 : Shape := ⟨2, ![16384, 4096]⟩

abbrev nBuf : Space → Nat
  | .hbm => 13
  | .vmem => 0
  | .smem => 0
  | _ => 0

abbrev bufTy : (tb : Table) → Fin (tcTables nBuf tb) → BufTy
  | .hbm, ⟨0, _⟩ => ⟨S16384x768, .bf16⟩
  | .hbm, ⟨1, _⟩ => ⟨S768x3072, .f32⟩
  | .hbm, ⟨2, _⟩ => ⟨S16384x768, .f32⟩
  | .hbm, ⟨3, _⟩ => ⟨S16384x3072, .f32⟩
  | .hbm, ⟨4, _⟩ => ⟨S16384x16x192, .f32⟩
  | .hbm, ⟨5, _⟩ => ⟨S_, .f32⟩
  | .hbm, ⟨6, _⟩ => ⟨S16384x16x192, .f32⟩
  | .hbm, ⟨7, _⟩ => ⟨S16384x16x192, .f32⟩
  | .hbm, ⟨8, _⟩ => ⟨S_, .i32⟩
  | .hbm, ⟨9, _⟩ => ⟨S_, .f32⟩
  | .hbm, ⟨10, _⟩ => ⟨S16384x16x256, .f32⟩
  | .hbm, ⟨11, _⟩ => ⟨S16384x4096, .f32⟩
  | .hbm, ⟨12, _⟩ => ⟨S16384x4096, .bf16⟩
  | _, _ => ⟨S16384x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== UpKv.lean ====
abbrev S16384x512 : Shape := ⟨2, ![16384, 512]⟩
abbrev S2x512x4096 : Shape := ⟨3, ![2, 512, 4096]⟩
abbrev S16384x4096 : Shape := ⟨2, ![16384, 4096]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S2x512x4096, .f32⟩
  | .hbm, ⟨2, _⟩ => ⟨S2x512x4096, .bf16⟩
  | .hbm, ⟨3, _⟩ => ⟨S16384x4096, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x512, .bf16⟩
  | .local _ .vmem, ⟨5, _⟩ => ⟨S1024x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpKvRefIdeal.lean ====
abbrev S16384x512 : Shape := ⟨2, ![16384, 512]⟩
abbrev S2x512x4096 : Shape := ⟨3, ![2, 512, 4096]⟩
abbrev S1x512x4096 : Shape := ⟨3, ![1, 512, 4096]⟩
abbrev S512x4096 : Shape := ⟨2, ![512, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S2x512x4096, .f32⟩
  | .hbm, ⟨2, _⟩ => ⟨S16384x512, .f32⟩
  | .hbm, ⟨3, _⟩ => ⟨S1x512x4096, .f32⟩
  | .hbm, ⟨4, _⟩ => ⟨S512x4096, .f32⟩
  | .hbm, ⟨5, _⟩ => ⟨S16384x4096, .f32⟩
  | .hbm, ⟨6, _⟩ => ⟨S16384x4096, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NormMod.lean ====
abbrev S16384x4096 : Shape := ⟨2, ![16384, 4096]⟩
abbrev S4096 : Shape := ⟨1, ![4096]⟩
abbrev S4x4096 : Shape := ⟨2, ![4, 4096]⟩
abbrev S1x4096 : Shape := ⟨2, ![1, 4096]⟩
abbrev S4x1x4096 : Shape := ⟨3, ![4, 1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4x4096, .f32⟩
  | .hbm, ⟨3, _⟩ => ⟨S4x4096, .f32⟩
  | .hbm, ⟨4, _⟩ => ⟨S1x4096, .f32⟩
  | .hbm, ⟨5, _⟩ => ⟨S4x1x4096, .f32⟩
  | .hbm, ⟨6, _⟩ => ⟨S4x1x4096, .f32⟩
  | .hbm, ⟨7, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModRefIdeal.lean ====
abbrev S16384x4096 : Shape := ⟨2, ![16384, 4096]⟩
abbrev S4096 : Shape := ⟨1, ![4096]⟩
abbrev S4x4096 : Shape := ⟨2, ![4, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4x4096x4096 : Shape := ⟨3, ![4, 4096, 4096]⟩
abbrev S4x1x4096 : Shape := ⟨3, ![4, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4x4096, .f32⟩
  | .hbm, ⟨3, _⟩ => ⟨S4x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S4x4096x4096, .f32⟩
  | .hbm, ⟨21, _⟩ => ⟨S4x1x4096, .f32⟩
  | .hbm, ⟨22, _⟩ => ⟨S_, .f32⟩
  | .hbm, ⟨23, _⟩ => ⟨S4x1x4096, .f32⟩
  | .hbm, ⟨24, _⟩ => ⟨S4x1x4096, .f32⟩
  | .hbm, ⟨25, _⟩ => ⟨S4x4096x4096, .f32⟩
  | .hbm, ⟨26, _⟩ => ⟨S4x4096x4096, .f32⟩
  | .hbm, ⟨27, _⟩ => ⟨S4x1x4096, .f32⟩
  | .hbm, ⟨28, _⟩ => ⟨S4x4096x4096, .f32⟩
  | .hbm, ⟨29, _⟩ => ⟨S4x4096x4096, .f32⟩
  | .hbm, ⟨30, _⟩ => ⟨S16384x4096, .f32⟩
  | .hbm, ⟨31, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== NormPlain.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPlainRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Cond.lean ====
abbrev S4x4096 : Shape := ⟨2, ![4, 4096]⟩
abbrev S4096x24576 : Shape := ⟨2, ![4096, 24576]⟩
abbrev S_ : Shape := ⟨0, ![]⟩
abbrev S8x4096 : Shape := ⟨2, ![8, 4096]⟩
abbrev S8x24576 : Shape := ⟨2, ![8, 24576]⟩
abbrev S4096x512 : Shape := ⟨2, ![4096, 512]⟩
abbrev S8x512 : Shape := ⟨2, ![8, 512]⟩
abbrev S4x24576 : Shape := ⟨2, ![4, 24576]⟩
abbrev S4x6x4096 : Shape := ⟨3, ![4, 6, 4096]⟩

abbrev nBuf : Space → Nat
  | .hbm => 18
  | .vmem => 5
  | .smem => 0
  | _ => 0

abbrev bufTy : (tb : Table) → Fin (tcTables nBuf tb) → BufTy
  | .hbm, ⟨0, _⟩ => ⟨S4x4096, .f32⟩
  | .hbm, ⟨1, _⟩ => ⟨S4096x24576, .f32⟩
  | .hbm, ⟨2, _⟩ => ⟨S4x4096, .f32⟩
  | .hbm, ⟨3, _⟩ => ⟨S4x4096, .f32⟩
  | .hbm, ⟨4, _⟩ => ⟨S_, .f32⟩
  | .hbm, ⟨5, _⟩ => ⟨S4x4096, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S4x4096, .bf16⟩
  | .hbm, ⟨12, _⟩ => ⟨S_, .i32⟩
  | .hbm, ⟨13, _⟩ => ⟨S_, .bf16⟩
  | .hbm, ⟨14, _⟩ => ⟨S8x4096, .bf16⟩
  | .hbm, ⟨15, _⟩ => ⟨S8x24576, .f32⟩
  | .hbm, ⟨16, _⟩ => ⟨S4x24576, .f32⟩
  | .hbm, ⟨17, _⟩ => ⟨S4x6x4096, .f32⟩
  | .local _ .vmem, ⟨0, _⟩ => ⟨S8x4096, .bf16⟩
  | .local _ .vmem, ⟨1, _⟩ => ⟨S4096x512, .f32⟩
  | .local _ .vmem, ⟨2, _⟩ => ⟨S4096x512, .f32⟩
  | .local _ .vmem, ⟨3, _⟩ => ⟨S8x512, .f32⟩
  | .local _ .vmem, ⟨4, _⟩ => ⟨S8x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 48, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CondRefIdeal.lean ====
abbrev S4x4096 : Shape := ⟨2, ![4, 4096]⟩
abbrev S4096x24576 : Shape := ⟨2, ![4096, 24576]⟩
abbrev S_ : Shape := ⟨0, ![]⟩
abbrev S4x24576 : Shape := ⟨2, ![4, 24576]⟩
abbrev S4x6x4096 : Shape := ⟨3, ![4, 6, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096x24576, .f32⟩
  | .hbm, ⟨2, _⟩ => ⟨S4x4096, .f32⟩
  | .hbm, ⟨3, _⟩ => ⟨S4x4096, .f32⟩
  | .hbm, ⟨4, _⟩ => ⟨S_, .f32⟩
  | .hbm, ⟨5, _⟩ => ⟨S4x4096, .f32⟩
  | .hbm, ⟨6, _⟩ => ⟨S4x4096, .f32⟩
  | .hbm, ⟨7, _⟩ => ⟨S_, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S4x24576, .f32⟩
  | .hbm, ⟨12, _⟩ => ⟨S4x6x4096, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== MlaPrep.lean ====
abbrev S16384x2048 : Shape := ⟨2, ![16384, 2048]⟩
abbrev S768 : Shape := ⟨1, ![768]⟩
abbrev S512 : Shape := ⟨1, ![512]⟩
abbrev S4096x32 : Shape := ⟨2, ![4096, 32]⟩
abbrev S_ : Shape := ⟨0, ![]⟩
abbrev S4096x64 : Shape := ⟨2, ![4096, 64]⟩
abbrev S4096x128 : Shape := ⟨2, ![4096, 128]⟩
abbrev S16384x768 : Shape := ⟨2, ![16384, 768]⟩
abbrev S16384x512 : Shape := ⟨2, ![16384, 512]⟩
abbrev S16384x128 : Shape := ⟨2, ![16384, 128]⟩
abbrev S1x768 : Shape := ⟨2, ![1, 768]⟩
abbrev S1x512 : Shape := ⟨2, ![1, 512]⟩
abbrev S256x768 : Shape := ⟨2, ![256, 768]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 18
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S768, .f32⟩
  | .hbm, ⟨2, _⟩ => ⟨S512, .f32⟩
  | .hbm, ⟨3, _⟩ => ⟨S4096x32, .f32⟩
  | .hbm, ⟨4, _⟩ => ⟨S4096x32, .f32⟩
  | .hbm, ⟨5, _⟩ => ⟨S_, .f32⟩
  | .hbm, ⟨6, _⟩ => ⟨S4096x64, .f32⟩
  | .hbm, ⟨7, _⟩ => ⟨S4096x128, .f32⟩
  | .hbm, ⟨8, _⟩ => ⟨S4096x32, .f32⟩
  | .hbm, ⟨9, _⟩ => ⟨S4096x128, .f32⟩
  | .hbm, ⟨10, _⟩ => ⟨S16384x768, .f32⟩
  | .hbm, ⟨11, _⟩ => ⟨S16384x512, .f32⟩
  | .hbm, ⟨12, _⟩ => ⟨S16384x128, .f32⟩
  | .hbm, ⟨13, _⟩ => ⟨S1x768, .f32⟩
  | .hbm, ⟨14, _⟩ => ⟨S1x512, .f32⟩
  | .hbm, ⟨15, _⟩ => ⟨S16384x768, .bf16⟩
  | .hbm, ⟨16, _⟩ => ⟨S16384x512, .bf16⟩
  | .hbm, ⟨17, _⟩ => ⟨S16384x128, .bf16⟩
  | .local _ .vmem, ⟨0, _⟩ => ⟨S256x768, .f32⟩
  | .local _ .vmem, ⟨1, _⟩ => ⟨S256x768, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S1x768, .f32⟩
  | .local _ .vmem, ⟨7, _⟩ => ⟨S1x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x768, .bf16⟩
  | .local _ .vmem, ⟨13, _⟩ => ⟨S256x768, .bf16⟩
  | .local _ .vmem, ⟨14, _⟩ => ⟨S256x512, .bf16⟩
  | .local _ .vmem, ⟨15, _⟩ => ⟨S256x512, .bf16⟩
  | .local _ .vmem, ⟨16, _⟩ => ⟨S256x128, .bf16⟩
  | .local _ .vmem, ⟨17, _⟩ => ⟨S256x128, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlaPrepRefIdeal.lean ====
abbrev S16384x2048 : Shape := ⟨2, ![16384, 2048]⟩
abbrev S768 : Shape := ⟨1, ![768]⟩
abbrev S512 : Shape := ⟨1, ![512]⟩
abbrev S4096x32 : Shape := ⟨2, ![4096, 32]⟩
abbrev S16384x32 : Shape := ⟨2, ![16384, 32]⟩
abbrev S4x4096x32 : Shape := ⟨3, ![4, 4096, 32]⟩
abbrev S1x4096x32 : Shape := ⟨3, ![1, 4096, 32]⟩
abbrev S4x4096x64 : Shape := ⟨3, ![4, 4096, 64]⟩
abbrev S_ : Shape := ⟨0, ![]⟩
abbrev S4x4096x128 : Shape := ⟨3, ![4, 4096, 128]⟩
abbrev S16384x128 : Shape := ⟨2, ![16384, 128]⟩
abbrev S16384x768 : Shape := ⟨2, ![16384, 768]⟩
abbrev S16384 : Shape := ⟨1, ![16384]⟩
abbrev S16384x1 : Shape := ⟨2, ![16384, 1]⟩
abbrev S1x768 : Shape := ⟨2, ![1, 768]⟩
abbrev S16384x512 : Shape := ⟨2, ![16384, 512]⟩
abbrev S1x512 : Shape := ⟨2, ![1, 512]⟩

abbrev nBuf : Space → Nat
  | .hbm => 65
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S768, .f32⟩
  | .hbm, ⟨2, _⟩ => ⟨S512, .f32⟩
  | .hbm, ⟨3, _⟩ => ⟨S4096x32, .f32⟩
  | .hbm, ⟨4, _⟩ => ⟨S4096x32, .f32⟩
  | .hbm, ⟨5, _⟩ => ⟨S16384x32, .f32⟩
  | .hbm, ⟨6, _⟩ => ⟨S4x4096x32, .f32⟩
  | .hbm, ⟨7, _⟩ => ⟨S16384x32, .f32⟩
  | .hbm, ⟨8, _⟩ => ⟨S4x4096x32, .f32⟩
  | .hbm, ⟨9, _⟩ => ⟨S1x4096x32, .f32⟩
  | .hbm, ⟨10, _⟩ => ⟨S4x4096x32, .f32⟩
  | .hbm, ⟨11, _⟩ => ⟨S4x4096x32, .f32⟩
  | .hbm, ⟨12, _⟩ => ⟨S1x4096x32, .f32⟩
  | .hbm, ⟨13, _⟩ => ⟨S4x4096x32, .f32⟩
  | .hbm, ⟨14, _⟩ => ⟨S4x4096x32, .f32⟩
  | .hbm, ⟨15, _⟩ => ⟨S4x4096x32, .f32⟩
  | .hbm, ⟨16, _⟩ => ⟨S1x4096x32, .f32⟩
  | .hbm, ⟨17, _⟩ => ⟨S4x4096x32, .f32⟩
  | .hbm, ⟨18, _⟩ => ⟨S4x4096x32, .f32⟩
  | .hbm, ⟨19, _⟩ => ⟨S1x4096x32, .f32⟩
  | .hbm, ⟨20, _⟩ => ⟨S4x4096x32, .f32⟩
  | .hbm, ⟨21, _⟩ => ⟨S4x4096x32, .f32⟩
  | .hbm, ⟨22, _⟩ => ⟨S4x4096x32, .f32⟩
  | .hbm, ⟨23, _⟩ => ⟨S4x4096x64, .f32⟩
  | .hbm, ⟨24, _⟩ => ⟨S_, .i32⟩
  | .hbm, ⟨25, _⟩ => ⟨S_, .f32⟩
  | .hbm, ⟨26, _⟩ => ⟨S4x4096x128, .f32⟩
  | .hbm, ⟨27, _⟩ => ⟨S16384x128, .f32⟩
  | .hbm, ⟨28, _⟩ => ⟨S16384x768, .f32⟩
  | .hbm, ⟨29, _⟩ => ⟨S16384x768, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x768, .f32⟩
  | .hbm, ⟨41, _⟩ => ⟨S16384x768, .f32⟩
  | .hbm, ⟨42, _⟩ => ⟨S1x768, .f32⟩
  | .hbm, ⟨43, _⟩ => ⟨S16384x768, .f32⟩
  | .hbm, ⟨44, _⟩ => ⟨S16384x768, .f32⟩
  | .hbm, ⟨45, _⟩ => ⟨S16384x768, .bf16⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x512, .f32⟩
  | .hbm, ⟨59, _⟩ => ⟨S16384x512, .f32⟩
  | .hbm, ⟨60, _⟩ => ⟨S1x512, .f32⟩
  | .hbm, ⟨61, _⟩ => ⟨S16384x512, .f32⟩
  | .hbm, ⟨62, _⟩ => ⟨S16384x512, .f32⟩
  | .hbm, ⟨63, _⟩ => ⟨S16384x512, .bf16⟩
  | .hbm, ⟨64, _⟩ => ⟨S16384x128, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_call0_v0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== RwkvPrep.lean ====
abbrev S16384x6144 : Shape := ⟨2, ![16384, 6144]⟩
abbrev S16384x2048 : Shape := ⟨2, ![16384, 2048]⟩
abbrev S6656 : Shape := ⟨1, ![6656]⟩
abbrev S2048 : Shape := ⟨1, ![2048]⟩
abbrev S128x2048 : Shape := ⟨2, ![128, 2048]⟩
abbrev S256x2048 : Shape := ⟨2, ![256, 2048]⟩
abbrev S6144 : Shape := ⟨1, ![6144]⟩
abbrev S1x6144 : Shape := ⟨2, ![1, 6144]⟩
abbrev S512 : Shape := ⟨1, ![512]⟩
abbrev S1x512 : Shape := ⟨2, ![1, 512]⟩
abbrev S1x2048 : Shape := ⟨2, ![1, 2048]⟩
abbrev S128x6144 : Shape := ⟨2, ![128, 6144]⟩
abbrev S16x6144 : Shape := ⟨2, ![16, 6144]⟩
abbrev S128x512 : Shape := ⟨2, ![128, 512]⟩
abbrev S16x512 : Shape := ⟨2, ![16, 512]⟩
abbrev S128x128 : Shape := ⟨2, ![128, 128]⟩
abbrev S128x256 : Shape := ⟨2, ![128, 256]⟩

abbrev nBuf : Space → Nat
  | .hbm => 23
  | .vmem => 27
  | .smem => 0
  | _ => 0

abbrev bufTy : (tb : Table) → Fin (tcTables nBuf tb) → BufTy
  | .hbm, ⟨0, _⟩ => ⟨S16384x6144, .bf16⟩
  | .hbm, ⟨1, _⟩ => ⟨S16384x2048, .f32⟩
  | .hbm, ⟨2, _⟩ => ⟨S6656, .f32⟩
  | .hbm, ⟨3, _⟩ => ⟨S2048, .f32⟩
  | .hbm, ⟨4, _⟩ => ⟨S128x2048, .f32⟩
  | .hbm, ⟨5, _⟩ => ⟨S2048, .f32⟩
  | .hbm, ⟨6, _⟩ => ⟨S128x2048, .f32⟩
  | .hbm, ⟨7, _⟩ => ⟨S256x2048, .f32⟩
  | .hbm, ⟨8, _⟩ => ⟨S6144, .f32⟩
  | .hbm, ⟨9, _⟩ => ⟨S1x6144, .f32⟩
  | .hbm, ⟨10, _⟩ => ⟨S512, .f32⟩
  | .hbm, ⟨11, _⟩ => ⟨S1x512, .f32⟩
  | .hbm, ⟨12, _⟩ => ⟨S1x2048, .f32⟩
  | .hbm, ⟨13, _⟩ => ⟨S1x2048, .f32⟩
  | .hbm, ⟨14, _⟩ => ⟨S128x2048, .bf16⟩
  | .hbm, ⟨15, _⟩ => ⟨S128x2048, .bf16⟩
  | .hbm, ⟨16, _⟩ => ⟨S256x2048, .bf16⟩
  | .hbm, ⟨17, _⟩ => ⟨S16384x2048, .bf16⟩
  | .hbm, ⟨18, _⟩ => ⟨S16384x2048, .bf16⟩
  | .hbm, ⟨19, _⟩ => ⟨S16384x2048, .bf16⟩
  | .hbm, ⟨20, _⟩ => ⟨S16384x2048, .f32⟩
  | .hbm, ⟨21, _⟩ => ⟨S16384x2048, .f32⟩
  | .hbm, ⟨22, _⟩ => ⟨S16384x2048, .bf16⟩
  | .local _ .vmem, ⟨0, _⟩ => ⟨S128x6144, .bf16⟩
  | .local _ .vmem, ⟨1, _⟩ => ⟨S128x6144, .bf16⟩
  | .local _ .vmem, ⟨2, _⟩ => ⟨S16x6144, .bf16⟩
  | .local _ .vmem, ⟨3, _⟩ => ⟨S16x6144, .bf16⟩
  | .local _ .vmem, ⟨4, _⟩ => ⟨S128x512, .f32⟩
  | .local _ .vmem, ⟨5, _⟩ => ⟨S128x512, .f32⟩
  | .local _ .vmem, ⟨6, _⟩ => ⟨S16x512, .f32⟩
  | .local _ .vmem, ⟨7, _⟩ => ⟨S16x512, .f32⟩
  | .local _ .vmem, ⟨8, _⟩ => ⟨S1x6144, .f32⟩
  | .local _ .vmem, ⟨9, _⟩ => ⟨S1x512, .f32⟩
  | .local _ .vmem, ⟨10, _⟩ => ⟨S1x2048, .f32⟩
  | .local _ .vmem, ⟨11, _⟩ => ⟨S1x2048, .f32⟩
  | .local _ .vmem, ⟨12, _⟩ => ⟨S128x2048, .bf16⟩
  | .local _ .vmem, ⟨13, _⟩ => ⟨S128x2048, .bf16⟩
  | .local _ .vmem, ⟨14, _⟩ => ⟨S256x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .bf16⟩
  | .local _ .vmem, ⟨26, _⟩ => ⟨S128x2048, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== RwkvPrepRefIdeal.lean ====
abbrev S16384x6144 : Shape := ⟨2, ![16384, 6144]⟩
abbrev S16384x2048 : Shape := ⟨2, ![16384, 2048]⟩
abbrev S6656 : Shape := ⟨1, ![6656]⟩
abbrev S2048 : Shape := ⟨1, ![2048]⟩
abbrev S128x2048 : Shape := ⟨2, ![128, 2048]⟩
abbrev S256x2048 : Shape := ⟨2, ![256, 2048]⟩
abbrev S6144 : Shape := ⟨1, ![6144]⟩
abbrev S4x4096x6144 : Shape := ⟨3, ![4, 4096, 6144]⟩
abbrev S_ : Shape := ⟨0, ![]⟩
abbrev S4x4097x6144 : Shape := ⟨3, ![4, 4097, 6144]⟩
abbrev S1x1x6144 : Shape := ⟨3, ![1, 1, 6144]⟩
abbrev S16384x512 : Shape := ⟨2, ![16384, 512]⟩
abbrev S512 : Shape := ⟨1, ![512]⟩
abbrev S4x4096x512 : Shape := ⟨3, ![4, 4096, 512]⟩
abbrev S4x4097x512 : Shape := ⟨3, ![4, 4097, 512]⟩
abbrev S1x1x512 : Shape := ⟨3, ![1, 1, 512]⟩
abbrev S16384x128 : Shape := ⟨2, ![16384, 128]⟩
abbrev S16384x256 : Shape := ⟨2, ![16384, 256]⟩
abbrev S1x2048 : Shape := ⟨2, ![1, 2048]⟩

abbrev nBuf : Space → Nat
  | .hbm => 88
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16384x2048, .f32⟩
  | .hbm, ⟨2, _⟩ => ⟨S6656, .f32⟩
  | .hbm, ⟨3, _⟩ => ⟨S2048, .f32⟩
  | .hbm, ⟨4, _⟩ => ⟨S128x2048, .f32⟩
  | .hbm, ⟨5, _⟩ => ⟨S2048, .f32⟩
  | .hbm, ⟨6, _⟩ => ⟨S128x2048, .f32⟩
  | .hbm, ⟨7, _⟩ => ⟨S256x2048, .f32⟩
  | .hbm, ⟨8, _⟩ => ⟨S6144, .f32⟩
  | .hbm, ⟨9, _⟩ => ⟨S16384x6144, .f32⟩
  | .hbm, ⟨10, _⟩ => ⟨S4x4096x6144, .f32⟩
  | .hbm, ⟨11, _⟩ => ⟨S_, .i32⟩
  | .hbm, ⟨12, _⟩ => ⟨S_, .f32⟩
  | .hbm, ⟨13, _⟩ => ⟨S4x4097x6144, .f32⟩
  | .hbm, ⟨14, _⟩ => ⟨S4x4096x6144, .f32⟩
  | .hbm, ⟨15, _⟩ => ⟨S4x4096x6144, .f32⟩
  | .hbm, ⟨16, _⟩ => ⟨S1x1x6144, .f32⟩
  | .hbm, ⟨17, _⟩ => ⟨S4x4096x6144, .f32⟩
  | .hbm, ⟨18, _⟩ => ⟨S4x4096x6144, .f32⟩
  | .hbm, ⟨19, _⟩ => ⟨S4x4096x6144, .f32⟩
  | .hbm, ⟨20, _⟩ => ⟨S16384x6144, .f32⟩
  | .hbm, ⟨21, _⟩ => ⟨S16384x6144, .bf16⟩
  | .hbm, ⟨22, _⟩ => ⟨S16384x512, .f32⟩
  | .hbm, ⟨23, _⟩ => ⟨S512, .f32⟩
  | .hbm, ⟨24, _⟩ => ⟨S4x4096x512, .f32⟩
  | .hbm, ⟨25, _⟩ => ⟨S_, .i32⟩
  | .hbm, ⟨26, _⟩ => ⟨S_, .f32⟩
  | .hbm, ⟨27, _⟩ => ⟨S4x4097x512, .f32⟩
  | .hbm, ⟨28, _⟩ => ⟨S4x4096x512, .f32⟩
  | .hbm, ⟨29, _⟩ => ⟨S4x4096x512, .f32⟩
  | .hbm, ⟨30, _⟩ => ⟨S1x1x512, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S16384x512, .f32⟩
  | .hbm, ⟨35, _⟩ => ⟨S16384x128, .f32⟩
  | .hbm, ⟨36, _⟩ => ⟨S16384x128, .f32⟩
  | .hbm, ⟨37, _⟩ => ⟨S16384x256, .f32⟩
  | .hbm, ⟨38, _⟩ => ⟨S16384x128, .f32⟩
  | .hbm, ⟨39, _⟩ => ⟨S16384x2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384x2048, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .i1⟩
  | .hbm, ⟨50, _⟩ => ⟨S16384x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S_, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S1x2048, .f32⟩
  | .hbm, ⟨65, _⟩ => ⟨S16384x2048, .f32⟩
  | .hbm, ⟨66, _⟩ => ⟨S16384x2048, .f32⟩
  | .hbm, ⟨67, _⟩ => ⟨S16384x2048, .f32⟩
  | .hbm, ⟨68, _⟩ => ⟨S16384x2048, .f32⟩
  | .hbm, ⟨69, _⟩ => ⟨S_, .f32⟩
  | .hbm, ⟨70, _⟩ => ⟨S16384x2048, .f32⟩
  | .hbm, ⟨71, _⟩ => ⟨S16384x2048, .f32⟩
  | .hbm, ⟨72, _⟩ => ⟨S_, .f32⟩
  | .hbm, ⟨73, _⟩ => ⟨S16384x2048, .f32⟩
  | .hbm, ⟨74, _⟩ => ⟨S16384x2048, .f32⟩
  | .hbm, ⟨75, _⟩ => ⟨S16384x256, .f32⟩
  | .hbm, ⟨76, _⟩ => ⟨S16384x256, .f32⟩
  | .hbm, ⟨77, _⟩ => ⟨S_, .f32⟩
  | .hbm, ⟨78, _⟩ => ⟨S16384x256, .f32⟩
  | .hbm, ⟨79, _⟩ => ⟨S16384x256, .f32⟩
  | .hbm, ⟨80, _⟩ => ⟨S_, .f32⟩
  | .hbm, ⟨81, _⟩ => ⟨S16384x256, .f32⟩
  | .hbm, ⟨82, _⟩ => ⟨S16384x256, .f32⟩
  | .hbm, ⟨83, _⟩ => ⟨S16384x2048, .f32⟩
  | .hbm, ⟨84, _⟩ => ⟨S16384x2048, .bf16⟩
  | .hbm, ⟨85, _⟩ => ⟨S16384x2048, .bf16⟩
  | .hbm, ⟨86, _⟩ => ⟨S16384x2048, .bf16⟩
  | .hbm, ⟨87, _⟩ => ⟨S16384x2048, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_call1_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_1 : Ref sig .tc := ⟨.hbm, 69, rfl⟩
abbrev main_v43 : Ref sig .tc := ⟨.hbm, 70, rfl⟩
abbrev main_v44 : Ref sig .tc := ⟨.hbm, 71, rfl⟩
abbrev main_cst_2 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_3 : Ref sig .tc := ⟨.hbm, 77, rfl⟩
abbrev main_v49 : Ref sig .tc := ⟨.hbm, 78, rfl⟩
abbrev main_v50 : Ref sig .tc := ⟨.hbm, 79, rfl⟩
abbrev main_cst_4 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩

abbrev nD : Nat := 1
abbrev τ : Topo := Topo.v7x

variable {F : FTy → Type} [FloatOps F]
-- ==== Proof.BandSoftmax.lean ====
/- Softmax over a band, in extended reals: weights taken over the keys of a window with the base-2 exponential, summed first and
   divided afterwards, against weights taken over every key with the natural exponential, divided first and summed afterwards. -/
module

public import Idealize.ShloMosaic.Lib.Pipeline.ValueKit

@[expose] public section

noncomputable section

open Idealize.ShloMosaic

namespace Cert.BandSoftmax

/-- A real sum, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes through a sum of extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The score of a key: its real score inside the band, `-∞` outside. -/
def masked (p : Prop) [Decidable p] (x : ℝ) : EReal := if p then (x : EReal) else ⊥

/-- The natural exponential of a masked score less a real shift: a real number, zero outside the band. -/
theorem exp_masked (p : Prop) [Decidable p] (x m : ℝ) :
    Ideal.exp (masked p x - (m : EReal)) = ((if p then Real.exp (x - m) else 0 : ℝ) : EReal) := by
  unfold masked
  split
  · rw [← EReal.coe_sub, Ideal.exp_coe]
  · rw [EReal.bot_sub, Ideal.exp_bot]; rfl

/-- The base-2 exponential of a masked score in base-2 units, less a real shift in the same units. -/
theorem exp2_masked (p : Prop) [Decidable p] (x m : ℝ) :
    Ideal.exp2 (masked p (x * (Real.log 2)⁻¹) - (m : EReal))
      = ((if p then Real.exp (x - m * Real.log 2) else 0 : ℝ) : EReal) := by
  unfold masked
  split
  · rw [← EReal.coe_sub, Ideal.exp2_coe]
    refine congrArg _ ?_
    have h : Real.log 2 ≠ 0 := (Real.log_pos (by norm_num)).ne'
    change (2 : ℝ) ^ (x * (Real.log 2)⁻¹ - m) = _
    rw [Real.rpow_def_of_pos (by norm_num)]
    congr 1
    field_simp
  · rw [EReal.bot_sub, Ideal.exp2_bot]; rfl

/-- The two softmaxes agree: the window's keys are `e c`, every key of the band is among them, and the band is not empty. The values
    `v` are any extended reals; the shifts `m` and `m'` are any reals. -/
theorem band {N n : ℕ} (e : Fin n → Fin N) (he : Function.Injective e) (P : Fin N → Prop) [DecidablePred P]
    (hP : ∀ k, P k → ∃ c, e c = k) (hne : ∃ k, P k) (s : Fin N → ℝ) (v : Fin N → EReal) (m m' : ℝ) :
    Ideal.div (∑ c : Fin n, Ideal.exp2 (masked (P (e c)) (s (e c) * (Real.log 2)⁻¹) - (m' : EReal)) * v (e c))
        (∑ c : Fin n, Ideal.exp2 (masked (P (e c)) (s (e c) * (Real.log 2)⁻¹) - (m' : EReal)))
      = ∑ k : Fin N, v k * Ideal.div (Ideal.exp (masked (P k) (s k) - (m : EReal)))
          (∑ j : Fin N, Ideal.exp (masked (P j) (s j) - (m : EReal))) := by
  simp only [exp_masked, exp2_masked]
  rw [← coe_sum, ← coe_sum]
  set E : Fin N → ℝ := fun k => if P k then Real.exp (s k - m) else 0 with hE
  have hnn : ∀ k, 0 ≤ E k := fun k => by
    simp only [hE]; split
    · exact (Real.exp_pos _).le
    · exact le_rfl
  have hL : 0 < ∑ k, E k := by
    obtain ⟨k, hk⟩ := hne
    refine Finset.sum_pos' (fun k _ => hnn k) ⟨k, Finset.mem_univ _, ?_⟩
    simp only [hE, if_pos hk]; exact Real.exp_pos _
  have hC : ∀ k, (if P k then Real.exp (s k - m' * Real.log 2) else 0 : ℝ) = E k * Real.exp (m - m' * Real.log 2) := fun k => by
    simp only [hE]; split
    · rw [← Real.exp_add]; congr 1; ring
    · rw [zero_mul]
  have hk : ∀ k, (if P k then Real.exp (s k - m) else 0 : ℝ) = E k := fun _ => rfl
  simp only [hC, hk]
  have hout : ∀ k, (¬∃ c, e c = k) → E k = 0 := fun k hk => by
    simp only [hE]; rw [if_neg]; exact fun h => hk (hP k h)
  have hsum : ∑ c, E (e c) = ∑ k, E k :=
    Fintype.sum_of_injective e he (fun c => E (e c)) E (fun k hk => hout k fun ⟨c, h⟩ => hk ⟨c, h⟩) fun _ => rfl
  rw [← Finset.sum_mul, hsum]
  have hexp : 0 < Real.exp (m - m' * Real.log 2) := Real.exp_pos _
  have hCL : (∑ k, E k) * Real.exp (m - m' * Real.log 2) ≠ 0 := (mul_pos hL hexp).ne'
  rw [Ideal.div_coe hCL, sum_mul_coe _ _ (by positivity)]
  rw [← Fintype.sum_of_injective e he (fun c => v (e c) * Ideal.div (E (e c) : EReal) ((∑ k, E k : ℝ) : EReal)) _
    (fun k hk => by
      rw [hout k fun ⟨c, h⟩ => hk ⟨c, h⟩, Ideal.div_coe hL.ne']; simp) fun _ => rfl]
  refine Finset.sum_congr rfl fun c _ => ?_
  rw [Ideal.div_coe hL.ne', mul_comm _ (v (e c)), mul_assoc, ← EReal.coe_mul, ← EReal.coe_mul]
  congr 2
  field_simp

end Cert.BandSoftmax

end
-- ==== Proof.BandMax.lean ====
module

public import proofs.«01_k».proof.Proof.BandSoftmax

@[expose] public section

noncomputable section

open Idealize.ShloMosaic

namespace Cert.BandSoftmax

/-- The maximum of masked scores is a real number as soon as one score is kept. -/
theorem fold_max_real {n : ℕ} (P : Fin n → Prop) [DecidablePred P] (hne : ∃ k, P k) (s : Fin n → ℝ) (f : Fin n → EReal)
    (hf : ∀ k, f k = masked (P k) (s k)) : ∃ m : ℝ, (Finset.univ : Finset (Fin n)).fold max ⊥ f = (m : EReal) := by
  have h1 : (Finset.univ : Finset (Fin n)).fold max ⊥ f < ⊤ := by
    rw [Finset.fold_max_lt]
    refine ⟨bot_lt_top, fun k _ => ?_⟩
    rw [hf k, masked]
    split
    · exact EReal.coe_lt_top _
    · exact bot_lt_top
  have h2 : ⊥ < (Finset.univ : Finset (Fin n)).fold max ⊥ f := by
    rw [Finset.lt_fold_max]
    obtain ⟨k, hk⟩ := hne
    refine Or.inr ⟨k, Finset.mem_univ k, ?_⟩
    rw [hf k, masked, if_pos hk]
    exact EReal.bot_lt_coe _
  exact ⟨_, (EReal.coe_toReal h1.ne h2.ne').symm⟩

end Cert.BandSoftmax

end
-- ==== Proof.BandInts.lean ====
module

public import proofs.«01_k».proof.Proof.Gen.KernelIdeal.Skeleton
public import Idealize.ShloMosaic.Lib.Pipeline.ValueKit

@[expose] public section

set_option maxRecDepth 16384

noncomputable section

open Idealize.ShloMosaic

/-! The integer side of the chunk-causal band: which keys a query sees, and which entry of the bias table a pair reads, as the two
programs compute them on 32-bit words. -/

namespace Cert.BandInts

/-- Query position `q` sees key position `k`: the key's chunk of 64 is the query's own or one of the eight before it. -/
abbrev Near (q k : ℕ) : Prop := k / 64 ≤ q / 64 ∧ q / 64 ≤ k / 64 + 8

/-- The entry of the bias table for query `q` and key `k`: their distance clipped to −256 … 256, counted from 0. -/
def relIdx (q k : ℕ) : ℕ := min (q + 256 - k) 512

theorem relIdx_lt (q k : ℕ) : relIdx q k < 513 := by unfold relIdx; omega

/-- A position's chunk start as the kernel computes it: the floor of the position over 64, times 64. -/
def chunkStart (x : BitVec 32) : BitVec 32 :=
  IntOp.muli
    (Scalar.select
      (IntOp.andi
        (IntOp.cmpi CmpIPredicate.ne
          (IntOp.subi (BitVec.setWidth 32 (IntOp.cmpi CmpIPredicate.sgt x 0#32)) (BitVec.setWidth 32 (IntOp.cmpi CmpIPredicate.slt x 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector x 64#32) 0#32))
      (IntOp.subi (IntOp.divsi ArithUnit.vector x 64#32) 1#32) (IntOp.divsi ArithUnit.vector x 64#32)) 64#32

theorem chunkStart_ofNat : ∀ n : Fin 4096, chunkStart (BitVec.ofNat 32 n.val) = BitVec.ofNat 32 (n.val / 64 * 64) := by
  decide +kernel

theorem andi_one (a b : BitVec 1) : IntOp.andi a b = 1#1 ↔ a = 1#1 ∧ b = 1#1 := by
  revert a b; decide

theorem cmpi_sge_one (a b : BitVec 32) : IntOp.cmpi CmpIPredicate.sge a b = 1#1 ↔ b.toInt ≤ a.toInt := by
  rw [← BitVec.sle_iff_toInt_le]; simp [IntOp.cmpi, BitVec.ofBool]; cases BitVec.sle b a <;> simp

theorem cmpi_slt_one (a b : BitVec 32) : IntOp.cmpi CmpIPredicate.slt a b = 1#1 ↔ a.toInt < b.toInt := by
  rw [← BitVec.slt_iff_toInt_lt]; simp [IntOp.cmpi, BitVec.ofBool]; cases BitVec.slt a b <;> simp

/-- The kernel's mask bit, from the block's query positions' chunk start and the window's key position. -/
def inBand (k cs : BitVec 32) : BitVec 1 :=
  IntOp.andi (IntOp.cmpi CmpIPredicate.sge k (IntOp.subi cs 512#32)) (IntOp.cmpi CmpIPredicate.slt k (IntOp.addi cs 64#32))

/-- The window's key position as the kernel computes it. -/
def keyPos (i c : ℕ) : BitVec 32 :=
  IntOp.addi (Scalar.maxsi (Scalar.subi (Scalar.muli (BitVec.ofNat 32 i) 128#32) 512#32) 0#32) (BitVec.ofNat 32 c)

/-- A small natural number as a signed word is itself. -/
theorem toInt_ofNat32 (n : ℕ) (h : n < 2 ^ 30) : (BitVec.ofNat 32 n).toInt = n := by
  rw [BitVec.toInt_eq_toNat_of_lt (by rw [BitVec.toNat_ofNat]; omega), BitVec.toNat_ofNat, Nat.mod_eq_of_lt (by omega)]

theorem base_table : ∀ i : Fin 32, Scalar.maxsi (Scalar.subi (Scalar.muli (BitVec.ofNat 32 i.val) 128#32) 512#32) 0#32
    = BitVec.ofNat 32 (128 * i.val - 512) := by
  decide +kernel

theorem keyPos_eq (i c : ℕ) (hi : i < 32) : keyPos i c = BitVec.ofNat 32 (128 * i - 512 + c) := by
  rw [keyPos, show Scalar.maxsi _ _ = _ from base_table ⟨i, hi⟩]
  exact (BitVec.ofNat_add _ c).symm

theorem lo_table : ∀ a : Fin 64, (IntOp.subi (BitVec.ofNat 32 (a.val * 64)) 512#32).toInt = (a.val : ℤ) * 64 - 512
    ∧ (IntOp.addi (BitVec.ofNat 32 (a.val * 64)) 64#32).toInt = (a.val : ℤ) * 64 + 64 := by
  decide +kernel

theorem inBand_iff (k a : ℕ) (hk : k < 2 ^ 30) (ha : a < 64) : inBand (BitVec.ofNat 32 k) (BitVec.ofNat 32 (a * 64)) = 1#1
      ↔ k / 64 ≤ a ∧ a ≤ k / 64 + 8 := by
  obtain ⟨h1, h2⟩ := lo_table ⟨a, ha⟩
  change (IntOp.subi (BitVec.ofNat 32 (a * 64)) 512#32).toInt = (a : ℤ) * 64 - 512 at h1
  change (IntOp.addi (BitVec.ofNat 32 (a * 64)) 64#32).toInt = (a : ℤ) * 64 + 64 at h2
  unfold inBand
  rw [andi_one, cmpi_sge_one, cmpi_slt_one, toInt_ofNat32 k hk, h1, h2]
  omega

/-- A chunk number as the reference computes it. -/
def chunkNo (x : BitVec 32) : BitVec 32 :=
  Scalar.select
    (IntOp.andi
      (IntOp.cmpi CmpIPredicate.ne (if x = 0 then (0 : BitVec 32) else if x.msb = true then -1 else 1)
        (if 64#32 = 0 then 0 else if BitVec.msb 64#32 = true then -1 else 1))
      (IntOp.cmpi CmpIPredicate.ne (IntOp.remsi ArithUnit.host x 64#32) 0#32))
    (IntOp.subi (IntOp.divsi ArithUnit.host x 64#32) 1#32) (IntOp.divsi ArithUnit.host x 64#32)

theorem chunkNo_ofNat : ∀ n : Fin 4096, chunkNo (BitVec.ofNat 32 n.val) = BitVec.ofNat 32 (n.val / 64) := by
  decide +kernel

theorem refBand_table : ∀ a b : Fin 64,
    IntOp.andi (IntOp.cmpi CmpIPredicate.sge (IntOp.subi (BitVec.ofNat 32 a.val) (BitVec.ofNat 32 b.val)) 0#32)
      (IntOp.cmpi CmpIPredicate.sle (IntOp.subi (BitVec.ofNat 32 a.val) (BitVec.ofNat 32 b.val)) 8#32) = 1#1
      ↔ b.val ≤ a.val ∧ a.val ≤ b.val + 8 := by
  decide +kernel

/-- The reference's index word from the distance of the positions: clipped, shifted, and wrapped were it negative. -/
def refRel (d : BitVec 32) : BitVec 32 :=
  Scalar.select (IntOp.cmpi CmpIPredicate.slt (IntOp.addi (IntOp.minsi 256#32 (IntOp.maxsi (-256#32) d)) 256#32) 0#32)
    (IntOp.addi (IntOp.addi (IntOp.minsi 256#32 (IntOp.maxsi (-256#32) d)) 256#32) 513#32)
    (IntOp.addi (IntOp.minsi 256#32 (IntOp.maxsi (-256#32) d)) 256#32)

theorem refRel_pos : ∀ n : Fin 4096, (refRel (BitVec.ofNat 32 n.val)).toInt.toNat = min (n.val + 256) 512 := by
  decide +kernel

theorem refRel_neg : ∀ n : Fin 4096, (refRel (-BitVec.ofNat 32 n.val)).toInt.toNat = 256 - n.val := by
  decide +kernel

theorem ofNat_add32 (a b : ℕ) : IntOp.addi (BitVec.ofNat 32 a) (BitVec.ofNat 32 b) = BitVec.ofNat 32 (a + b) :=
  (BitVec.ofNat_add a b).symm

/-- A query position as the kernel computes it. -/
theorem queryPos (i r : ℕ) : IntOp.addi (Scalar.muli (BitVec.ofNat 32 i) 128#32) (BitVec.ofNat 32 r) = BitVec.ofNat 32 (128 * i + r) := by
  rw [show Scalar.muli (BitVec.ofNat 32 i) 128#32 = BitVec.ofNat 32 (i * 128) from (BitVec.ofNat_mul i 128).symm, ofNat_add32, Nat.mul_comm]

/-- The kernel's mask keeps exactly the near keys. -/
theorem kernel_near (i r c : ℕ) (hi : i < 32) (hr : r < 128) (hc : c < 640) :
    inBand (keyPos i c) (chunkStart (IntOp.addi (Scalar.muli (BitVec.ofNat 32 i) 128#32) (BitVec.ofNat 32 r))) = 1#1
      ↔ Near (128 * i + r) (128 * i - 512 + c) := by
  rw [queryPos, show chunkStart (BitVec.ofNat 32 (128 * i + r)) = _ from chunkStart_ofNat ⟨128 * i + r, by omega⟩,
    show (128 * i + r) / 64 * 64 = (2 * i + r / 64) * 64 by omega]
  rw [keyPos_eq i c hi, inBand_iff _ _ (by omega) (by omega)]
  unfold Near
  rw [show (128 * i + r) / 64 = 2 * i + r / 64 by omega]

/-- The reference's mask keeps exactly the near keys. -/
theorem ref_near (q k : ℕ) (hq : q < 4096) (hk : k < 4096) :
    IntOp.andi (IntOp.cmpi CmpIPredicate.sge (IntOp.subi (chunkNo (BitVec.ofNat 32 q)) (chunkNo (BitVec.ofNat 32 k))) 0#32)
      (IntOp.cmpi CmpIPredicate.sle (IntOp.subi (chunkNo (BitVec.ofNat 32 q)) (chunkNo (BitVec.ofNat 32 k))) 8#32) = 1#1
      ↔ Near q k := by
  rw [show chunkNo (BitVec.ofNat 32 q) = _ from chunkNo_ofNat ⟨q, hq⟩, show chunkNo (BitVec.ofNat 32 k) = _ from chunkNo_ofNat ⟨k, hk⟩]
  exact refBand_table ⟨q / 64, by omega⟩ ⟨k / 64, by omega⟩

/-- The reference's table index of a pair of positions. -/
theorem ref_rel (q k : ℕ) (hq : q < 4096) (hk : k < 4096) :
    min (refRel (IntOp.subi (BitVec.ofNat 32 q) (BitVec.ofNat 32 k))).toInt.toNat 512 = relIdx q k := by
  unfold relIdx
  by_cases h : k ≤ q
  · rw [show IntOp.subi (BitVec.ofNat 32 q) (BitVec.ofNat 32 k) = BitVec.ofNat 32 (q - k) from by
      change BitVec.ofNat 32 q - BitVec.ofNat 32 k = _
      conv_lhs => rw [show q = (q - k) + k by omega, BitVec.ofNat_add]
      exact BitVec.add_sub_cancel _ _]
    rw [refRel_pos ⟨q - k, by omega⟩]
    change min (min (q - k + 256) 512) 512 = _
    omega
  · rw [show IntOp.subi (BitVec.ofNat 32 q) (BitVec.ofNat 32 k) = -BitVec.ofNat 32 (k - q) from by
      change BitVec.ofNat 32 q - BitVec.ofNat 32 k = _
      conv_lhs => rw [show k = (k - q) + q by omega, BitVec.ofNat_add]
      rw [BitVec.sub_eq_add_neg, BitVec.neg_add, BitVec.add_comm, BitVec.sub_eq_add_neg, BitVec.add_assoc, BitVec.add_left_neg, BitVec.add_zero]]
    rw [refRel_neg ⟨k - q, by omega⟩]
    change min (256 - (k - q)) 512 = _
    omega

end Cert.BandInts

end
-- ==== Proof.AttnHead.lean ====
module

public import proofs.«01_k».proof.Proof.Gen.KernelIdeal.Skeleton
public import Idealize.ShloMosaic.Lib.Pipeline.ValueKit
public import proofs.«01_k».proof.Proof.BandMax
public import proofs.«01_k».proof.Proof.BandInts

@[expose] public section

set_option maxRecDepth 16384

noncomputable section

open Idealize.ShloMosaic Idealize.ShloMosaic.TcCoe Idealize.SL.Sem
open Idealize.ShloMosaic.Pipeline (Dat)

/-! One head's block of the kernel, read at an index: the softmax of the masked window's scores, summed first and divided after. -/

namespace Cert.AttnHead

open Cert.KernelIdeal Cert.KernelIdeal.Gen Cert.BandInts Cert.BandSoftmax

/-- One head's block, from the block's mask and the head's queries, keys, values and bias tile. -/
def head (msk : IVec S128x640 1) (q : Vec Ideal S1x128x128 .bf16) (k v : Vec Ideal S1x640x128 .bf16) (b : Vec Ideal S1x1x128x640 .f32) :
    FVec Ideal S1x128x128 .bf16 :=
  k0_pay63 (k0_pay49 (k0_pay41 msk (k0_pay28 (k0_pay18 q) k b))) (k0_pay57 (k0_pay10 v) (k0_pay41 msk (k0_pay28 (k0_pay18 q) k b)))

/-- The block's mask bit: query row `r` of block `i` against key `c` of its window. -/
theorem mask_at (i : grid0.Coords) (hi : (i 2).val < 32) (r : Fin 128) (c : Fin 640) :
    k0_pay9 (k0_pay7 i) (k0_pay8 i) (ix2 r c) = 1#1 ↔ Near (128 * (i 2).val + r.val) (128 * (i 2).val - 512 + c.val) := by
  rw [← kernel_near (i 2).val r.val c.val hi r.isLt c.isLt]
  refine Eq.congr_left (?_ : _ = inBand (keyPos (i 2).val c.val) (chunkStart (IntOp.addi (Scalar.muli (BitVec.ofNat 32 (i 2).val) 128#32) (BitVec.ofNat 32 r.val))))
  open_payloads
  pointwise [k0_pay5, k0_pay6]
  rfl

theorem score_at (q : Vec Ideal S1x128x128 .bf16) (k : Vec Ideal S1x640x128 .bf16) (b : Vec Ideal S1x1x128x640 .f32) (r : Fin 128) (c : Fin 640)
    (Q K : Fin 128 → ℝ) (B : ℝ) (hQ : ∀ d, q (ix3 0 r d) = (Q d : EReal)) (hK : ∀ d, k (ix3 0 c d) = (K d : EReal)) (hB : b (ix4 0 0 r c) = (B : EReal)) :
    k0_pay28 (k0_pay18 q) k b (ix2 r c) = ((((∑ d, Q d * K d) * (Real.sqrt 128)⁻¹ + B) * (Real.log 2)⁻¹ : ℝ) : EReal) := by
  open_payloads
  pointwise
  rw [show Named.named (F := Ideal) Cert.KernelIdeal.κ "q_factor" (φ := .f32) 1040356334#32 = (((Real.log 2)⁻¹ * (Real.sqrt 128)⁻¹ : ℝ) : EReal) from
      IdealRules.named_const.ideal_named_scalar _ _ _ _ rfl,
    show Named.named (F := Ideal) Cert.KernelIdeal.κ "log2_e" (φ := .f32) 1069066811#32 = (((Real.log 2)⁻¹ : ℝ) : EReal) from
      IdealRules.named_const.ideal_named_scalar _ _ _ _ rfl, hB]
  simp only [hQ, hK, ← EReal.coe_mul]
  rw [← coe_sum, ← EReal.coe_add]
  congr 1
  rw [add_mul, Finset.sum_mul, Finset.sum_mul]
  congr 1
  exact Finset.sum_congr rfl fun d _ => by ring

theorem weight_at (msk : IVec S128x640 1) (s : FVec Ideal S128x640 .f32) (r : Fin 128) (P : Fin 640 → Prop) [DecidablePred P] (hne : ∃ c, P c)
    (hP : ∀ c, msk (ix2 r c) = 1#1 ↔ P c) (S : Fin 640 → ℝ) (hS : ∀ c, s (ix2 r c) = (S c : EReal)) :
    ∃ m : ℝ, ∀ c, k0_pay41 msk s (ix2 r c) = Ideal.exp2 (masked (P c) (S c) - (m : EReal)) := by
  have hm : ∀ c, Scalar.select (msk (ix2 r c)) (s (ix2 r c)) (Named.named (F := Ideal) Cert.KernelIdeal.κ "mask" (φ := .f32) 4048155338#32)
      = masked (P c) (S c) := fun c => by
    rw [show Named.named (F := Ideal) Cert.KernelIdeal.κ "mask" (φ := .f32) 4048155338#32 = ⊥ from
      IdealRules.named_const.ideal_named_scalar _ _ _ _ rfl, hS, masked, Scalar.select]
    exact if_congr (hP c) rfl rfl
  obtain ⟨m, hM⟩ := fold_max_real P hne S _ hm
  refine ⟨m, fun c => ?_⟩
  open_payloads
  pointwise
  rw [show Ideal.ofBits .f32 4286578688#32 = ⊥ by simp [Ideal.ofBits, Ideal.ieee], hM, hm]
  rfl

/-- One head's block at row `r` and lane `d`. -/
theorem head_at (msk : IVec S128x640 1) (q : Vec Ideal S1x128x128 .bf16) (k v : Vec Ideal S1x640x128 .bf16) (b : Vec Ideal S1x1x128x640 .f32)
    (r d : Fin 128) (P : Fin 640 → Prop) [DecidablePred P] (hne : ∃ c, P c) (hP : ∀ c, msk (ix2 r c) = 1#1 ↔ P c)
    (Q : Fin 128 → ℝ) (K : Fin 640 → Fin 128 → ℝ) (B : Fin 640 → ℝ) (hQ : ∀ d, q (ix3 0 r d) = (Q d : EReal))
    (hK : ∀ c d, k (ix3 0 c d) = (K c d : EReal)) (hB : ∀ c, b (ix4 0 0 r c) = (B c : EReal)) : ∃ m : ℝ,
    head msk q k v b (ix3 0 r d)
      = Ideal.div (∑ c, Ideal.exp2 (masked (P c) (((∑ d, Q d * K c d) * (Real.sqrt 128)⁻¹ + B c) * (Real.log 2)⁻¹) - (m : EReal)) * v (ix3 0 c d))
          (∑ c, Ideal.exp2 (masked (P c) (((∑ d, Q d * K c d) * (Real.sqrt 128)⁻¹ + B c) * (Real.log 2)⁻¹) - (m : EReal))) := by
  obtain ⟨m, hm⟩ := weight_at msk (k0_pay28 (k0_pay18 q) k b) r P hne hP _ fun c => score_at q k b r c Q (K c) (B c) hQ (hK c) (hB c)
  refine ⟨m, ?_⟩
  unfold head
  simp only [← hm]
  generalize k0_pay41 msk (k0_pay28 (k0_pay18 q) k b) = p
  open_payloads
  pointwise

end Cert.AttnHead

end
-- ==== Proof.BandGather.lean ====
module

public import proofs.«01_k».proof.Proof.Gen.KernelIdeal.Skeleton
public import proofs.«01_k».proof.Proof.Gen.ReferenceIdeal.Read
public import Idealize.ShloMosaic.Lib.Pipeline.ValueKit

@[expose] public section

set_option maxRecDepth 16384

noncomputable section

open Idealize.ShloMosaic

/-! The two lookups in the bias table, read at an index: a row per head, a column chosen by an index word that is read signed and
clamped into the table. -/

namespace Cert.BandGather

/-- The reference's lookup: the entry of head `h` for the pair `(q, k)`. -/
theorem ref_apply (x : FVec Ideal Cert.ReferenceIdeal.S16x513 .f32) (idx : IVec Cert.ReferenceIdeal.S4096x4096x1 32)
    (y : Cert.ReferenceIdeal.S16x4096x4096.Idx) :
    Host.gather Cert.ReferenceIdeal.gather_S16x513_S4096x4096x1_S16x4096x4096_0_1_n_n_1_2_161 x idx y
      = x (ix2 (n0 := 16) (n1 := 513) (y 0) ⟨min (idx (ix3 (n0 := 4096) (n1 := 4096) (n2 := 1) (y 1) (y 2) 0)).toInt.toNat 512, by omega⟩) := by
  unfold Host.gather
  congr 1
  funext a
  refine Fin.ext ?_
  show Cert.ReferenceIdeal.gather_S16x513_S4096x4096x1_S16x4096x4096_0_1_n_n_1_2_161.start y idx a
    + Cert.ReferenceIdeal.gather_S16x513_S4096x4096x1_S16x4096x4096_0_1_n_n_1_2_161.batchCoord y a
    + Cert.ReferenceIdeal.gather_S16x513_S4096x4096x1_S16x4096x4096_0_1_n_n_1_2_161.offCoord y a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · unfold GatherDims.start
    rw [dif_neg (by decide)]
    simp only [Nat.zero_add, Nat.add_zero]
    unfold GatherDims.offCoord
    rw [dif_pos (by decide)]
    rfl
  · rw [GatherDims.offCoord_eq_zero _ _ _ (fun h => ((GatherDims.mem_sKept _ _).mp h).1 (List.mem_singleton.mpr rfl))]
    simp only [Nat.add_zero]
    unfold GatherDims.start
    refine (dif_pos (show (1 : Fin 2) ∈ Cert.ReferenceIdeal.gather_S16x513_S4096x4096x1_S16x4096x4096_0_1_n_n_1_2_161.startIndexMap from List.mem_singleton.mpr rfl)).trans ?_
    have hsi : Cert.ReferenceIdeal.gather_S16x513_S4096x4096x1_S16x4096x4096_0_1_n_n_1_2_161.siIdx y
        ⟨List.idxOf (1 : Fin 2) [1], List.idxOf_lt_length_iff.2 (List.mem_singleton.mpr rfl)⟩
        = ix3 (n0 := 4096) (n1 := 4096) (n2 := 1) (y 1) (y 2) 0 := by
      funext b; refine Fin.ext ?_
      match b with
      | ⟨0, _⟩ => rfl
      | ⟨1, _⟩ => rfl
      | ⟨2, _⟩ => rfl
    exact congrArg (fun z => min (idx z).toInt.toNat 512) hsi

/-- The kernel's lookup: a diagonal's entry of head `h`. -/
theorem ker_apply (x : FVec Ideal Cert.KernelIdeal.S16x513 .f32) (idx : IVec Cert.KernelIdeal.S768x1 32)
    (y : Cert.KernelIdeal.S16x768.Idx) :
    Host.gather Cert.KernelIdeal.gather_S16x513_S768x1_S16x768_0_1_n_n_1_1_161 x idx y
      = x (ix2 (n0 := 16) (n1 := 513) (y 0) ⟨min (idx (ix2 (n0 := 768) (n1 := 1) (y 1) 0)).toInt.toNat 512, by omega⟩) := by
  unfold Host.gather
  congr 1
  funext a
  refine Fin.ext ?_
  show Cert.KernelIdeal.gather_S16x513_S768x1_S16x768_0_1_n_n_1_1_161.start y idx a
    + Cert.KernelIdeal.gather_S16x513_S768x1_S16x768_0_1_n_n_1_1_161.batchCoord y a
    + Cert.KernelIdeal.gather_S16x513_S768x1_S16x768_0_1_n_n_1_1_161.offCoord y a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · unfold GatherDims.start
    rw [dif_neg (by decide)]
    simp only [Nat.zero_add, Nat.add_zero]
    unfold GatherDims.offCoord
    rw [dif_pos (by decide)]
    rfl
  · rw [GatherDims.offCoord_eq_zero _ _ _ (fun h => ((GatherDims.mem_sKept _ _).mp h).1 (List.mem_singleton.mpr rfl))]
    simp only [Nat.add_zero]
    unfold GatherDims.start
    refine (dif_pos (show (1 : Fin 2) ∈ Cert.KernelIdeal.gather_S16x513_S768x1_S16x768_0_1_n_n_1_1_161.startIndexMap from List.mem_singleton.mpr rfl)).trans ?_
    have hsi : Cert.KernelIdeal.gather_S16x513_S768x1_S16x768_0_1_n_n_1_1_161.siIdx y
        ⟨List.idxOf (1 : Fin 2) [1], List.idxOf_lt_length_iff.2 (List.mem_singleton.mpr rfl)⟩
        = ix2 (n0 := 768) (n1 := 1) (y 1) 0 := by
      funext b; refine Fin.ext ?_
      match b with
      | ⟨0, _⟩ => rfl
      | ⟨1, _⟩ => rfl
    exact congrArg (fun z => min (idx z).toInt.toNat 512) hsi

end Cert.BandGather

end
-- ==== Proof.AttnRef.lean ====
module

public import proofs.«01_k».proof.Proof.Gen.ReferenceIdeal.Read
public import Idealize.ShloMosaic.Lib.Pipeline.ValueKit
public import proofs.«01_k».proof.Proof.BandMax
public import proofs.«01_k».proof.Proof.BandInts
public import proofs.«01_k».proof.Proof.BandGather

@[expose] public section

set_option maxRecDepth 16384

noncomputable section

open Idealize.ShloMosaic Idealize.ShloMosaic.TcCoe Idealize.SL.Sem
open Idealize.ShloMosaic.Pipeline (Dat)

/-! The reference's attention, read at an index: every query's softmax over the near keys of its head. -/

namespace Cert.AttnRef

open Cert.ReferenceIdeal Cert.ReferenceIdeal.Read Cert.BandInts Cert.BandSoftmax

variable (u : FVec Ideal S4x4096x6144 .bf16) (rb : FVec Ideal S16x513 .f32)

/-- The queries, the keys and the biases are real numbers. -/
structure Real : Prop where
  qk : ∀ (b : Fin 4) (t : Fin 4096) (e : Fin 6144), e.val < 4096 → u (ix3 b t e) = ((u (ix3 b t e)).toReal : EReal)
  rb : ∀ (h : Fin 16) (e : Fin 513), rb (ix2 h e) = ((rb (ix2 h e)).toReal : EReal)

/-- The score of query `q` and key `k` of head `h`: their product over √128, plus the bias of their distance. -/
def score (b : Fin 4) (h : Fin 16) (q k : Fin 4096) : ℝ :=
  (∑ d : Fin 128, (u (ix3 b q ⟨h.val * 128 + d.val, by omega⟩)).toReal * (u (ix3 b k ⟨2048 + (h.val * 128 + d.val), by omega⟩)).toReal)
      * (Real.sqrt 128)⁻¹
    + (rb (ix2 h ⟨relIdx q.val k.val, relIdx_lt _ _⟩)).toReal

/-- The mask bit of a query and a key. -/
theorem mask_at (q k : Fin 4096) : val_main_v42 (F := Ideal) (ix2 q k) = 1#1 ↔ Near q.val k.val := by
  have hc : ∀ p : Fin 4096, val_main_v32 (F := Ideal) (ix1 p) = chunkNo (BitVec.ofNat 32 p.val) := fun p => by
    pointwise [val_main_v32, val_main_call1_v13, val_main_call1_v12, val_main_call1_v11, val_main_call1_v10, val_main_call1_v9,
      val_main_call1_v8, val_main_call1_v7, val_main_call1_v6, val_main_call1_v5, val_main_call1_v4, val_main_call1_v3,
      val_main_call1_v2, val_main_call1_v1, val_main_call1_v0, val_main_v9]
    rfl
  rw [← ref_near q.val k.val q.isLt k.isLt]
  pointwise [val_main_v42, val_main_v41, val_main_v40, val_main_v39, val_main_v38, val_main_v37, val_main_v36, val_main_v35,
    val_main_v34, val_main_v33]
  rw [hc, hc]
  exact Iff.rfl

/-- The table index of a query and a key. -/
theorem rel_at (q k : Fin 4096) : val_main_v23 (F := Ideal) (ix3 q k 0) = refRel (IntOp.subi (BitVec.ofNat 32 q.val) (BitVec.ofNat 32 k.val)) := by
  pointwise [val_main_v23, val_main_v22, val_main_v21, val_main_v20, val_main_v19, val_main_v18, val_main_v17, val_main_v16, val_main_v15,
    val_main_v14, val_main_v13, val_main_v12, val_main_v11, val_main_v10, val_main_v9, val_main_call0_v4, val_main_call0_v3,
    val_main_call0_v2, val_main_call0_v1, val_main_call0_v0]
  rfl

/-- The bias of a query and a key. -/
theorem bias_at (h : Fin 16) (q k : Fin 4096) :
    val_main_v24 (F := Ideal) rb (ix3 h q k) = rb (ix2 h ⟨relIdx q.val k.val, relIdx_lt _ _⟩) := by
  have e := ref_rel q.val k.val q.isLt k.isLt
  rw [← rel_at] at e
  unfold val_main_v24
  generalize val_main_v23 (F := Ideal) = y at e ⊢
  refine (Cert.BandGather.ref_apply rb y (ix3 h q k)).trans ?_
  exact congrArg (fun z => rb (ix2 (n0 := 16) (n1 := 513) h z)) (Fin.ext e)

theorem q_at (b : Fin 4) (q : Fin 4096) (h : Fin 16) (d : Fin 128) :
    val_main_v2 (F := Ideal) u (ix4 b q h d) = u (ix3 b q ⟨h.val * 128 + d.val, by omega⟩) := by
  pointwise [val_main_v2, val_main_v1, val_main_v0]

theorem k_at (b : Fin 4) (q : Fin 4096) (h : Fin 16) (d : Fin 128) :
    val_main_v5 (F := Ideal) u (ix4 b q h d) = u (ix3 b q ⟨2048 + (h.val * 128 + d.val), by omega⟩) := by
  pointwise [val_main_v5, val_main_v4, val_main_v3]

theorem v_at (b : Fin 4) (q : Fin 4096) (h : Fin 16) (d : Fin 128) :
    val_main_v8 (F := Ideal) u (ix4 b q h d) = u (ix3 b q ⟨4096 + (h.val * 128 + d.val), by omega⟩) := by
  pointwise [val_main_v8, val_main_v7, val_main_v6]

theorem ofBits_128 : Ideal.ofBits .f32 1124073472#32 = ((128 : ℝ) : EReal) := by
  simp [Ideal.ofBits, Ideal.ieee, -EReal.coe_mul]; norm_num

theorem ofBits_bot : Ideal.ofBits .f32 0xFF800000#32 = ⊥ := by
  simp [Ideal.ofBits, Ideal.ieee]

/-- The masked score of a query and a key. -/
theorem masked_at (hr : Real u rb) (b : Fin 4) (h : Fin 16) (q k : Fin 4096) :
    val_main_v44 (F := Ideal) u rb (ix4 b h q k) = masked (Near q.val k.val) (score u rb b h q k) := by
  pointwise [val_main_v44, val_main_call2_v0, val_main_call2_v1, val_main_call2_v2, val_main_v43, val_main_v31, val_main_v30, val_main_v29,
    val_main_v28, val_main_v27, val_main_v26, val_main_v25, val_main_cst]
  rw [masked, bias_at, Scalar.select]
  refine if_congr (mask_at q k) ?_ ?_
  · rw [ofBits_128, Ideal.sqrt_coe, if_neg (by norm_num), score]
    simp only [q_at, k_at]
    rw [Finset.sum_congr rfl fun d _ => by
      rw [hr.qk b q ⟨h.val * 128 + d.val, by omega⟩ (by simp only; omega), hr.qk b k ⟨2048 + (h.val * 128 + d.val), by omega⟩ (by simp only; omega), ← EReal.coe_mul],
      ← coe_sum, Ideal.div_coe (by positivity), hr.rb, one_div, ← EReal.coe_mul, ← EReal.coe_add]
    simp only [EReal.toReal_coe]
  · exact ofBits_bot

/-- The row maximum the softmax subtracts is a real number. -/
theorem max_at (hr : Real u rb) (b : Fin 4) (h : Fin 16) (q : Fin 4096) :
    ∃ m : ℝ, val_main_v47 (F := Ideal) u rb (ix3 b h q) = (m : EReal) := by
  have hv : ∀ k, val_main_v44 (F := Ideal) u rb (ix4 b h q k) = masked (Near q.val k.val) (score u rb b h q k) := masked_at u rb hr b h q
  obtain ⟨m, hm⟩ := fold_max_real (fun k : Fin 4096 => Near q.val k.val) ⟨q, le_rfl, by omega⟩ (score u rb b h q) _ hv
  refine ⟨m, ?_⟩
  rw [val_main_v47_apply, val_main_v45]
  generalize val_main_v44 (F := Ideal) u rb = y at hm
  have hred := Host.reduce_eq_fold_single (α := Ideal .f32) (FloatOps.maximumf (F := Ideal)) (show FVec Ideal S4x16x4096x4096 .f32 from y)
    (val_main_cst_8 (F := Ideal)) Gen.reducesTo_S4x16x4096x4096_S4x16x4096_d3 (by decide) Gen.h_S_ (ix3 b h q)
  refine (congrArg (FloatOps.maximumf (F := Ideal) (φ := .f32) (val_main_v46 (F := Ideal) (ix3 b h q))) hred).trans ?_
  have hb : ∀ x : EReal, max (⊥ : EReal) x = x := fun x => max_eq_right bot_le
  refine Eq.trans ?_ hm
  refine Eq.trans (congrArg₂ max (ofBits_bot : val_main_v46 (F := Ideal) (ix3 b h q) = ⊥) rfl) ((hb _).trans ?_)
  have hf : (y ∘ Shape.Reduces.lift (s := S4x16x4096x4096) (t := S4x16x4096) (a := 3) (by decide) (ix3 b h q)) = fun k : Fin 4096 => y (ix4 b h q k) :=
    funext fun k => congrArg y (funext fun a => Fin.ext (by match a with | ⟨0, _⟩ => rfl | ⟨1, _⟩ => rfl | ⟨2, _⟩ => rfl | ⟨3, _⟩ => rfl))
  exact congrArg₂ (fun i f => Finset.fold max i f (Finset.univ : Finset (Fin 4096))) ofBits_bot hf

/-- A softmax weight before the division. -/
theorem weight_at (hr : Real u rb) (b : Fin 4) (h : Fin 16) (q k : Fin 4096) (m : ℝ) (hm : val_main_v47 (F := Ideal) u rb (ix3 b h q) = (m : EReal)) :
    val_main_v51 (F := Ideal) u rb (ix4 b h q k) = Ideal.exp (masked (Near q.val k.val) (score u rb b h q k) - (m : EReal)) := by
  pointwise [val_main_v51, val_main_v50, val_main_v49, val_main_v48]
  rw [masked_at u rb hr, hm]

/-- The reference's result: the softmax-weighted sum of the values. -/
theorem result_at (hr : Real u rb) (b : Fin 4) (q : Fin 4096) (h : Fin 16) (d : Fin 128) : ∃ m : ℝ,
    val_main_v59 (F := Ideal) u rb (ix3 b q ⟨h.val * 128 + d.val, by omega⟩)
      = ∑ k : Fin 4096, u (ix3 b k ⟨4096 + (h.val * 128 + d.val), by omega⟩)
          * Ideal.div (Ideal.exp (masked (Near q.val k.val) (score u rb b h q k) - (m : EReal)))
              (∑ j : Fin 4096, Ideal.exp (masked (Near q.val j.val) (score u rb b h q j) - (m : EReal))) := by
  obtain ⟨m, hm⟩ := max_at u rb hr b h q
  refine ⟨m, ?_⟩
  pointwise [val_main_v59, val_main_v58, val_main_v57]
  pointwise [val_main_v56, val_main_v55, val_main_v54, val_main_v53, val_main_v52]
  simp only [v_at, weight_at u rb hr b h q _ m hm]
  refine Finset.sum_congr rfl fun k _ => congrArg₂ (· * ·) rfl (congrArg₂ Ideal.div rfl ?_)
  exact (congrArg (· + _) Ideal.ofBits_zero_f32).trans (zero_add _)

end Cert.AttnRef

end
-- ==== Proof.AttnBlock.lean ====
module

public import proofs.«01_k».proof.Proof.AttnHead
public import proofs.«01_k».proof.Proof.AttnRef

@[expose] public section

set_option maxRecDepth 16384

noncomputable section

open Idealize.ShloMosaic

/-! One head's block of the kernel is the reference's attention at the block's rows: the window of 640 keys holds every key the
reference's mask lets through, and the scaled exponentials' quotient is the softmax. -/

namespace Cert.AttnBlock

open Cert.AttnHead Cert.BandInts Cert.BandSoftmax

/-- The block of query rows `128 i …` of head `h` in batch row `bi`, when its operands are those parts of the projections. -/
theorem head_eq (U : FVec Ideal Cert.ReferenceIdeal.S4x4096x6144 .bf16) (rb : FVec Ideal Cert.ReferenceIdeal.S16x513 .f32)
    (hr : Cert.AttnRef.Real U rb) (n : ℕ) (hn : n < 32) (msk : IVec Cert.KernelIdeal.S128x640 1)
    (hmsk : ∀ (r : Fin 128) (c : Fin 640), msk (ix2 r c) = 1#1 ↔ Near (128 * n + r.val) (128 * n - 512 + c.val)) (bi : Fin 4) (h : Fin 16)
    (q : Vec Ideal Cert.KernelIdeal.S1x128x128 .bf16) (k v : Vec Ideal Cert.KernelIdeal.S1x640x128 .bf16) (b : Vec Ideal Cert.KernelIdeal.S1x1x128x640 .f32)
    (hq : ∀ r d : Fin 128, q (ix3 0 r d) = U (ix3 bi ⟨128 * n + r.val, by omega⟩ ⟨h.val * 128 + d.val, by omega⟩))
    (hk : ∀ (c : Fin 640) (d : Fin 128), k (ix3 0 c d)
      = U (ix3 bi ⟨128 * n - 512 + c.val, by omega⟩ ⟨2048 + (h.val * 128 + d.val), by omega⟩))
    (hv : ∀ (c : Fin 640) (d : Fin 128), v (ix3 0 c d)
      = U (ix3 bi ⟨128 * n - 512 + c.val, by omega⟩ ⟨4096 + (h.val * 128 + d.val), by omega⟩))
    (hb : ∀ (r : Fin 128) (c : Fin 640), b (ix4 0 0 r c)
      = rb (ix2 h ⟨min (min n 4 * 128 + r.val + 256 - c.val) 512, by omega⟩))
    (r d : Fin 128) :
    head msk q k v b (ix3 0 r d)
      = Cert.ReferenceIdeal.Read.val_main_v59 (F := Ideal) U rb
          (ix3 bi ⟨128 * n + r.val, by omega⟩ ⟨h.val * 128 + d.val, by omega⟩) := by
  have hrel : ∀ c : Fin 640, min (min n 4 * 128 + r.val + 256 - c.val) 512
      = relIdx (128 * n + r.val) (128 * n - 512 + c.val) := fun c => by
    unfold relIdx
    rcases Nat.lt_or_ge n 4 with h4 | h4
    · rw [Nat.min_eq_left h4.le]; congr 1; omega
    · rw [Nat.min_eq_right h4]; congr 1; omega
  obtain ⟨m', hm'⟩ := head_at msk q k v b r d
    (fun c => Near (128 * n + r.val) (128 * n - 512 + c.val))
    ⟨⟨128 * n + r.val - (128 * n - 512), by omega⟩, by dsimp only; unfold Near; omega⟩
    (hmsk r)
    (fun d => (U (ix3 bi ⟨128 * n + r.val, by omega⟩ ⟨h.val * 128 + d.val, by omega⟩)).toReal)
    (fun c d => (U (ix3 bi ⟨128 * n - 512 + c.val, by omega⟩ ⟨2048 + (h.val * 128 + d.val), by omega⟩)).toReal)
    (fun c => (rb (ix2 h ⟨relIdx (128 * n + r.val) (128 * n - 512 + c.val), relIdx_lt _ _⟩)).toReal)
    (fun d => (hq r d).trans (hr.qk _ _ _ (by show h.val * 128 + d.val < 4096; omega)))
    (fun c d => (hk c d).trans (hr.qk _ _ _ (by show 2048 + (h.val * 128 + d.val) < 4096; omega)))
    (fun c => (hb r c).trans ((congrArg (fun z => rb (ix2 h z)) (Fin.ext (hrel c))).trans (hr.rb _ _)))
  obtain ⟨m, hm⟩ := Cert.AttnRef.result_at U rb hr bi ⟨128 * n + r.val, by omega⟩ h d
  have key := band (N := 4096) (n := 640) (fun c => ⟨128 * n - 512 + c.val, by omega⟩)
    (fun a b hab => Fin.ext (by have := congrArg Fin.val hab; dsimp only at this; omega))
    (fun k => Near (128 * n + r.val) k.val)
    (fun k hk => ⟨⟨k.val - (128 * n - 512), by unfold Near at hk; omega⟩, Fin.ext (by unfold Near at hk; dsimp only; omega)⟩)
    ⟨⟨128 * n + r.val, by omega⟩, by unfold Near; dsimp only; omega⟩
    (Cert.AttnRef.score U rb bi h ⟨128 * n + r.val, by omega⟩)
    (fun k => U (ix3 bi k ⟨4096 + (h.val * 128 + d.val), by omega⟩)) m m'
  simp only [hv] at hm'
  exact hm'.trans (key.trans hm.symm)

end Cert.AttnBlock

end
-- ==== Proof.BandBias.lean ====
module

public import proofs.«01_k».proof.Proof.Gen.KernelIdeal.Frame
public import proofs.«01_k».proof.Proof.Gen.ReferenceIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead
public import proofs.«01_k».proof.Proof.BandGather

@[expose] public section

set_option maxRecDepth 16384

noncomputable section

open Idealize.ShloMosaic Idealize.ShloMosaic.TcCoe Idealize.SL.Sem
open Idealize.ShloMosaic.Pipeline (Dat)

/-! The five bias tiles that the host lays out before the attention kernel runs, read at an index: entry `(h, v, r, c)` is the bias of
head `h` at the relative distance of query row `r` and key column `c` of a window starting `v` chunks of 128 before the query chunk. -/

namespace Cert.KernelIdeal.BandBias

open Cert.KernelIdeal Cert.KernelIdeal.Gen

/-- The bias of each head along the 768 diagonals of a tile, from a table of distances. -/
def diag (rb : FVec Ideal S16x513 .f32) (tab : IVec S768 32) : FVec Ideal S16x768 .f32 :=
  Host.gather gather_S16x513_S768x1_S16x768_0_1_n_n_1_1_161 rb
    (broadcastInDim S768x1 ![0] bcast_S768_S768x1_0
      (select (constantI S768 1 0#1) (addi tab (broadcastInDim S768 ![] bcast_S_S768 (constantI S_ 32 513#32))) tab))

/-- The rows of a tile: the diagonals padded by one and written 128 times one after another, cut into rows of 768. -/
def skew (x : FVec Ideal S16x768 .f32) : FVec Ideal S16x128x640 .f32 :=
  extractStridedSlice S16x128x640 ![0, 0, 127]
    (shapeCast S16x128x768
      (extractStridedSlice S16x98304 ![0, 0]
        (shapeCast S16x98432
          (broadcastInDim S1x16x128x769 ![0, 1, 2, 3] bcast_S1x16x1x769_S1x16x128x769_0_1_2_3
            (shapeCast S1x16x1x769
              (pad S16x769 ![0, 0] ![0, 1] ![0, 0] x (sitofp (F := Ideal) .f32 (constantI S_ 32 0#32)) pads_S16x768_S16x769_000_010 h_S_)
              shapeCasts_S16x769_S1x16x1x769))
          shapeCasts_S1x16x128x769_S16x98432)
        slices_S16x98432_S16x98304_0_0)
      shapeCasts_S16x98304_S16x128x768)
    slices_S16x128x768_S16x128x640_0_0_127

/-- The bias of head `h` on diagonal `d`. -/
theorem diag_at (rb : FVec Ideal S16x513 .f32) (tab : IVec S768 32) (h : Fin 16) (d : Fin 768) (n : ℕ) (hn : n < 513)
    (ht : tab (ix1 d) = BitVec.ofNat 32 n) : diag rb tab (ix2 h d) = rb (ix2 h ⟨n, hn⟩) := by
  unfold diag
  refine (Cert.BandGather.ker_apply _ _ _).trans ?_
  congr 1
  refine congrArg (ix2 h) (Fin.ext ?_)
  have e : broadcastInDim S768x1 ![0] bcast_S768_S768x1_0
      (select (constantI S768 1 0#1) (addi tab (broadcastInDim S768 ![] bcast_S_S768 (constantI S_ 32 513#32))) tab) (ix2 d 0)
    = BitVec.ofNat 32 n := by
    rw [← ht]
    pointwise []
  refine (congrArg (fun w : BitVec 32 => min w.toInt.toNat 512) e).trans ?_
  show min (BitVec.ofNat 32 n).toInt.toNat 512 = n
  rw [BitVec.toInt_eq_toNat_of_lt (by rw [BitVec.toNat_ofNat, Nat.mod_eq_of_lt (by omega)]; omega), BitVec.toNat_ofNat, Nat.mod_eq_of_lt (by omega)]
  simp only [Int.toNat_natCast]
  omega

/-- Row `r`, column `c` of a tile lies on diagonal `127 + c - r`. -/
theorem skew_at (x : FVec Ideal S16x768 .f32) (h : Fin 16) (r : Fin 128) (c : Fin 640) :
    skew x (ix3 h r c) = x (ix2 h ⟨127 + c.val - r.val, by omega⟩) := by
  unfold skew
  pointwise []
  have e : (r.val * 768 + (127 + c.val)) % 769 = 127 + c.val - r.val := by
    have h1 := r.isLt
    have h2 := c.isLt
    rw [show r.val * 768 + (127 + c.val) = (127 + c.val - r.val) + 769 * r.val by omega, Nat.add_mul_mod_self_left,
      Nat.mod_eq_of_lt (by omega)]
  rw [dif_pos (by omega)]
  exact congrArg (fun z => x (ix2 h z)) (Fin.ext e)

/-- The tables of distances. -/
theorem lit0_at (x : Fin 768) : lit0 x = BitVec.ofNat 32 (min (383 - x.val) 512) := by
  revert x; decide +kernel

theorem lit1_at (x : Fin 768) : lit1 x = BitVec.ofNat 32 (min (511 - x.val) 512) := by
  revert x; decide +kernel

theorem lit2_at (x : Fin 768) : lit2 x = BitVec.ofNat 32 (min (639 - x.val) 512) := by
  revert x; decide +kernel

theorem lit3_at (x : Fin 768) : lit3 x = BitVec.ofNat 32 (min (767 - x.val) 512) := by
  revert x; decide +kernel

theorem lit4_at (x : Fin 768) : lit4 x = BitVec.ofNat 32 (min (895 - x.val) 512) := by
  revert x; decide +kernel

variable (m : (ℓ : Loc nD τ sig) → Buf (Elt Ideal) ℓ)

/-- The five tiles side by side. -/
def five (a b c d e : FVec Ideal S16x1x128x640 .f32) : FVec Ideal S16x5x128x640 .f32 :=
  concatenate S16x5x128x640 1 [⟨S16x1x128x640, a⟩, ⟨S16x1x128x640, b⟩, ⟨S16x1x128x640, c⟩, ⟨S16x1x128x640, d⟩, ⟨S16x1x128x640, e⟩]
    concatenates_S16x1x128x640_S16x1x128x640_S16x1x128x640_S16x1x128x640_S16x1x128x640_S16x5x128x640_d1

theorem five_congr {a b c d e a' b' c' d' e' : FVec Ideal S16x1x128x640 .f32} (ha : a = a') (hb : b = b') (hc : c = c') (hd : d = d')
    (he : e = e') : five a b c d e = five a' b' c' d' e' := by
  rw [ha, hb, hc, hd, he]

/-- One tile from its table of distances. -/
def tile (rb : FVec Ideal S16x513 .f32) (lit : Fin 768 → BitVec 32) : FVec Ideal S16x1x128x640 .f32 :=
  broadcastInDim S16x1x128x640 ![0, 2, 3] bcast_S16x128x640_S16x1x128x640_0_2_3 (skew (diag rb (fun i => lit (S768.rowMajor i))))

/-- A tile's entry, from a table that holds the distances `w + 127 - x`. -/
theorem tile_at (rb : FVec Ideal S16x513 .f32) (lit : Fin 768 → BitVec 32) (w : ℕ)
    (hlit : ∀ x : Fin 768, lit x = BitVec.ofNat 32 (min (w + 383 - x.val) 512)) (h : Fin 16) (r : Fin 128) (c : Fin 640) :
    tile rb lit (ix4 h 0 r c) = rb (ix2 h ⟨min (w + r.val + 256 - c.val) 512, by omega⟩) := by
  have e : tile rb lit (ix4 h 0 r c) = skew (diag rb (fun i => lit (S768.rowMajor i))) (ix3 h r c) := by
    unfold tile
    generalize skew _ = y
    pointwise []
  refine e.trans ((skew_at _ h r c).trans (diag_at rb _ h _ _ (by omega) ?_))
  have hx : (S768.rowMajor (ix1 (n0 := 768) ⟨127 + c.val - r.val, by omega⟩) : Fin 768)
      = (⟨127 + c.val - r.val, by have := c.isLt; omega⟩ : Fin 768) :=
    Fin.ext (Shape.rowMajor_val_one _)
  refine (congrArg lit hx).trans ((hlit _).trans ?_)
  have h1 := r.isLt
  have h2 := c.isLt
  exact congrArg (fun z => BitVec.ofNat 32 (min z 512)) (by show w + 383 - (127 + c.val - r.val) = w + r.val + 256 - c.val; omega)

/-- The five tiles at an index. -/
theorem five_at (rb : FVec Ideal S16x513 .f32) (h : Fin 16) (v : Fin 5) (r : Fin 128) (c : Fin 640) :
    five (tile rb lit0) (tile rb lit1) (tile rb lit2) (tile rb lit3) (tile rb lit4) (ix4 h v r c)
      = rb (ix2 h ⟨min (v.val * 128 + r.val + 256 - c.val) 512, by omega⟩) := by
  have t0 := tile_at rb lit0 0 (fun x => (lit0_at x).trans (by rw [Nat.zero_add])) h r c
  simp only [Nat.zero_add] at t0
  have t1 := tile_at rb lit1 128 lit1_at h r c
  have t2 := tile_at rb lit2 256 lit2_at h r c
  have t3 := tile_at rb lit3 384 lit3_at h r c
  have t4 := tile_at rb lit4 512 lit4_at h r c
  generalize tile rb lit0 = a0 at *
  generalize tile rb lit1 = a1 at *
  generalize tile rb lit2 = a2 at *
  generalize tile rb lit3 = a3 at *
  generalize tile rb lit4 = a4 at *
  match v with
  | ⟨0, _⟩ =>
    pointwise [five]
    exact t0
  | ⟨1, _⟩ =>
    pointwise [five]
    exact t1
  | ⟨2, _⟩ =>
    pointwise [five]
    exact t2
  | ⟨3, _⟩ =>
    pointwise [five]
    exact t3
  | ⟨4, _⟩ =>
    pointwise [five]
    exact t4

set_option maxHeartbeats 1000000 in  -- the host's whole op list is read five times
theorem V65 (c : Dev nD) : V m c main_v65 = five (tile (m ⟨c, Proc.devRef .tc main_arg1⟩) lit0) (tile (m ⟨c, Proc.devRef .tc main_arg1⟩) lit1)
    (tile (m ⟨c, Proc.devRef .tc main_arg1⟩) lit2) (tile (m ⟨c, Proc.devRef .tc main_arg1⟩) lit3) (tile (m ⟨c, Proc.devRef .tc main_arg1⟩) lit4) := by
  unfold_abbrev_sides
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_reads_simp
  refine five_congr ?_ ?_ ?_ ?_ ?_
  · dsimp only [Matrix.cons_val]
    after_reads_simp
    rfl
  · dsimp only [Matrix.cons_val]
    after_reads_simp
    rfl
  · dsimp only [Matrix.cons_val]
    after_reads_simp
    rfl
  · dsimp only [Matrix.cons_val]
    after_reads_simp
    rfl
  · dsimp only [Matrix.cons_val]
    after_reads_simp
    rfl

/-- The host leaves the table of biases as it was. -/
theorem V_arg1 (c : Dev nD) : V m c main_arg1 = m ((c : Thread nD τ).loc main_arg1) := by
  unfold_abbrev_sides
  simp only [hostOps0, hostOps0_1, hostOps0_2, hostOps0_3, hostOps0_4, hostOps0_5, hostOps0_6, hostOps0_7, hostOps0_8, hostOps0_9,
    hostOps0_10, List.flatten_cons, List.flatten_nil, List.append_nil, List.cons_append, List.nil_append]
  after_reads_simp

/-- The bias operand of the attention kernel. -/
theorem bias_at (d : Dev nD) (h : Fin 16) (v : Fin 5) (r : Fin 128) (c : Fin 640) :
    V m d main_v65 (ix4 h v r c)
      = m ⟨d, Proc.devRef .tc main_arg1⟩ (ix2 h ⟨min (v.val * 128 + r.val + 256 - c.val) 512, by omega⟩) := by
  rw [V65]
  exact five_at _ h v r c

end Cert.KernelIdeal.BandBias

end
-- ==== Proof.AttnValue.lean ====
module

public import proofs.«01_k».proof.Proof.Gen.KernelIdeal.Frame
public import proofs.«01_k».proof.Proof.Gen.ReferenceIdeal.Read
public import Idealize.ShloMosaic.Lib.Pipeline.ValueKit
public import Idealize.ShloMosaic.Lib.Pipeline.Covers
public import Idealize.ShloMosaic.Lib.Pipeline.ReadBack
public import proofs.«01_k».proof.Proof.AttnBlock
public import proofs.«01_k».proof.Proof.BandBias

@[expose] public section

set_option maxRecDepth 16384

noncomputable section

open Idealize.ShloMosaic Idealize.ShloMosaic.TcCoe Idealize.SL.Sem
open Idealize.ShloMosaic.Pipeline (Dat)

namespace Cert.KernelIdeal.AttnValue

open Cert.KernelIdeal Cert.KernelIdeal.Gen Cert.AttnHead

variable (m : (ℓ : Loc nD τ sig) → Buf (Elt Ideal) ℓ)

theorem idx : ∀ t : Fin cfg0.N, win0_0.index t = ![t.val / 64, t.val % 32, t.val / 32 % 2] ∧ win0_1.index t = ![t.val / 64, 0, 2 + t.val / 32 % 2]
    ∧ win0_2.index t = ![t.val / 64, 0, 4 + t.val / 32 % 2] ∧ win0_3.index t = ![t.val / 32 % 2, min (t.val % 32) 4, 0, 0]
    ∧ win0_4.index t = ![t.val / 64, t.val % 32, t.val / 32 % 2] ∧ t.val / 64 < 4 ∧ (grid0.coords t 2).val = t.val % 32 :=
  (by decide +kernel : ∀ t : Fin grid0.N, _)

theorem offs : ∀ t : Fin cfg0.N, k0_off1 (grid0.coords t) = ![0, 128 * (t.val % 32) - 512, 128 * 0]
    ∧ k0_off2 (grid0.coords t) = ![0, 128 * (t.val % 32) - 512, 128 * 1] ∧ k0_off3 (grid0.coords t) = ![0, 128 * (t.val % 32) - 512, 128 * 2]
    ∧ k0_off4 (grid0.coords t) = ![0, 128 * (t.val % 32) - 512, 128 * 3] ∧ k0_off5 (grid0.coords t) = ![0, 128 * (t.val % 32) - 512, 128 * 4]
    ∧ k0_off6 (grid0.coords t) = ![0, 128 * (t.val % 32) - 512, 128 * 5] ∧ k0_off7 (grid0.coords t) = ![0, 128 * (t.val % 32) - 512, 128 * 6]
    ∧ k0_off8 (grid0.coords t) = ![0, 128 * (t.val % 32) - 512, 128 * 7] :=
  (by decide +kernel : ∀ t : Fin grid0.N, _)

/-- The projections and the biases. -/
abbrev U (c : Dev nD) : FVec Ideal Cert.ReferenceIdeal.S4x4096x6144 .bf16 := m ((c : Thread nD τ).loc main_arg0)

abbrev RB (c : Dev nD) : FVec Ideal Cert.ReferenceIdeal.S16x513 .f32 := m ((c : Thread nD τ).loc main_arg1)

theorem t_lt (t : Fin cfg0.N) : t.val / 64 < 4 := (idx t).2.2.2.2.2.1

/-- A head's queries. -/
theorem ld_q (c : Dev nD) (t : Fin cfg0.N) (e : Fin 8) (o : Fin 3 → ℕ) (ho : o = ![0, 0, 128 * e.val])
    (hi : ∀ a, o a + S1x128x128.size a ≤ S1x128x1024.size a) (r d : Fin 128) :
    (View.ld (iblk m c 0 t) (Rect.unit (s := S1x128x1024) o S1x128x128.size hi) : Vec Ideal S1x128x128 .bf16) (ix3 0 r d)
      = U m c (ix3 ⟨t.val / 64, t_lt t⟩ ⟨128 * (t.val % 32) + r.val, by omega⟩ ⟨(t.val / 32 % 2 * 8 + e.val) * 128 + d.val, by omega⟩) := by
  subst ho
  pointwise []
  blk_simp [iblk, idx t]
  entry_read
  blk_ext [idx t]

/-- A head's window of keys. -/
theorem ld_k (c : Dev nD) (t : Fin cfg0.N) (e : Fin 8) (o : Fin 3 → ℕ) (ho : o = ![0, 128 * (t.val % 32) - 512, 128 * e.val])
    (hi : ∀ a, o a + S1x640x128.size a ≤ S1x4096x1024.size a) (r : Fin 640) (d : Fin 128) :
    (View.ld (iblk m c 1 t) (Rect.unit (s := S1x4096x1024) o S1x640x128.size hi) : Vec Ideal S1x640x128 .bf16) (ix3 0 r d)
      = U m c (ix3 ⟨t.val / 64, t_lt t⟩ ⟨128 * (t.val % 32) - 512 + r.val, by omega⟩
          ⟨2048 + ((t.val / 32 % 2 * 8 + e.val) * 128 + d.val), by omega⟩) := by
  subst ho
  pointwise []
  blk_simp [iblk, idx t]
  entry_read
  blk_ext [idx t]

/-- A head's window of values. -/
theorem ld_v (c : Dev nD) (t : Fin cfg0.N) (e : Fin 8) (o : Fin 3 → ℕ) (ho : o = ![0, 128 * (t.val % 32) - 512, 128 * e.val])
    (hi : ∀ a, o a + S1x640x128.size a ≤ S1x4096x1024.size a) (r : Fin 640) (d : Fin 128) :
    (View.ld (iblk m c 2 t) (Rect.unit (s := S1x4096x1024) o S1x640x128.size hi) : Vec Ideal S1x640x128 .bf16) (ix3 0 r d)
      = U m c (ix3 ⟨t.val / 64, t_lt t⟩ ⟨128 * (t.val % 32) - 512 + r.val, by omega⟩
          ⟨4096 + ((t.val / 32 % 2 * 8 + e.val) * 128 + d.val), by omega⟩) := by
  subst ho
  pointwise []
  blk_simp [iblk, idx t]
  entry_read
  blk_ext [idx t]

/-- A head's bias tile. -/
theorem ld_b (c : Dev nD) (t : Fin cfg0.N) (e : Fin 8) (o : Fin 4 → ℕ) (ho : o = ![e.val, 0, 0, 0])
    (hi : ∀ a, o a + S1x1x128x640.size a ≤ S8x1x128x640.size a) (r : Fin 128) (k : Fin 640) :
    (View.ld (iblk m c 3 t) (Rect.unit (s := S8x1x128x640) o S1x1x128x640.size hi) : Vec Ideal S1x1x128x640 .f32) (ix4 0 0 r k)
      = RB m c (ix2 ⟨t.val / 32 % 2 * 8 + e.val, by omega⟩ ⟨min (min (t.val % 32) 4 * 128 + r.val + 256 - k.val) 512, by omega⟩) := by
  subst ho
  refine Eq.trans ?_ (Cert.KernelIdeal.BandBias.bias_at m c ⟨t.val / 32 % 2 * 8 + e.val, by omega⟩ ⟨min (t.val % 32) 4, by omega⟩ r k)
  pointwise []
  blk_simp [iblk, idx t]
  refine congrArg (V m c main_v65) ?_
  blk_ext [idx t]

/-- One head's block of a point. -/
theorem piece (c : Dev nD) (hr : Cert.AttnRef.Real (U m c) (RB m c)) (t : Fin cfg0.N) (e : Fin 8) (oq ok ov : Fin 3 → ℕ) (ob : Fin 4 → ℕ)
    (hoq : oq = ![0, 0, 128 * e.val]) (hok : ok = ![0, 128 * (t.val % 32) - 512, 128 * e.val])
    (hov : ov = ![0, 128 * (t.val % 32) - 512, 128 * e.val]) (hob : ob = ![e.val, 0, 0, 0])
    (iq : ∀ a, oq a + S1x128x128.size a ≤ S1x128x1024.size a) (ik : ∀ a, ok a + S1x640x128.size a ≤ S1x4096x1024.size a)
    (iv : ∀ a, ov a + S1x640x128.size a ≤ S1x4096x1024.size a) (ib : ∀ a, ob a + S1x1x128x640.size a ≤ S8x1x128x640.size a)
    (x : S1x128x128.Idx) (j : S1x128x1024.Idx) (h1 : (j 1).val = (x 1).val) (h2 : (j 2).val = 128 * e.val + (x 2).val) :
    head (k0_pay9 (k0_pay7 (grid0.coords t)) (k0_pay8 (grid0.coords t)))
        (View.ld (iblk m c 0 t) (Rect.unit (s := S1x128x1024) oq S1x128x128.size iq))
        (View.ld (iblk m c 1 t) (Rect.unit (s := S1x4096x1024) ok S1x640x128.size ik))
        (View.ld (iblk m c 2 t) (Rect.unit (s := S1x4096x1024) ov S1x640x128.size iv))
        (View.ld (iblk m c 3 t) (Rect.unit (s := S8x1x128x640) ob S1x1x128x640.size ib)) x
      = Cert.ReferenceIdeal.Read.val_main_v59 (F := Ideal) (U m c) (RB m c)
          (ix3 ⟨t.val / 64, t_lt t⟩ ⟨128 * (t.val % 32) + (j 1).val, by have : (j 1).val < 128 := (j 1).isLt; omega⟩
            ⟨1024 * (t.val / 32 % 2) + (j 2).val, by have : (j 2).val < 1024 := (j 2).isLt; omega⟩) := by
  have hx : x = ix3 0 (x 1) (x 2) := by
    funext a
    match a with
    | ⟨0, _⟩ => exact Fin.ext (by have : (x 0).val < 1 := (x 0).isLt; show (x 0).val = 0; omega)
    | ⟨1, _⟩ => rfl
    | ⟨2, _⟩ => rfl
  have hm : ∀ (r : Fin 128) (k : Fin 640), k0_pay9 (k0_pay7 (grid0.coords t)) (k0_pay8 (grid0.coords t)) (ix2 r k) = 1#1
      ↔ Cert.BandInts.Near (128 * (t.val % 32) + r.val) (128 * (t.val % 32) - 512 + k.val) := fun r k => by
    have := mask_at (grid0.coords t) (by rw [(idx t).2.2.2.2.2.2]; omega) r k
    rwa [(idx t).2.2.2.2.2.2] at this
  refine (congrArg _ hx).trans ?_
  refine (Cert.AttnBlock.head_eq (U m c) (RB m c) hr (t.val % 32) (by omega) _ hm ⟨t.val / 64, t_lt t⟩ ⟨t.val / 32 % 2 * 8 + e.val, by omega⟩ _ _ _ _
    (ld_q m c t e oq hoq iq) (ld_k m c t e ok hok ik) (ld_v m c t e ov hov iv) (ld_b m c t e ob hob ib) (x 1) (x 2)).trans ?_
  refine congrArg _ (congrArg₂ (ix3 _) (Fin.ext ?_) (Fin.ext ?_))
  · show 128 * (t.val % 32) + (x 1).val = 128 * (t.val % 32) + (j 1).val
    omega
  · show (t.val / 32 % 2 * 8 + e.val) * 128 + (x 2).val = 1024 * (t.val / 32 % 2) + (j 2).val
    omega

/-- A point's block. -/
theorem point (c : Dev nD) (hr : Cert.AttnRef.Real (U m c) (RB m c)) (t : Fin cfg0.N) (j : S1x128x1024.Idx) : outsAt0 m c t j
      = Cert.ReferenceIdeal.Read.val_main_v59 (F := Ideal) (U m c) (RB m c)
          (ix3 ⟨t.val / 64, t_lt t⟩ ⟨128 * (t.val % 32) + (j 1).val, by have : (j 1).val < 128 := (j 1).isLt; omega⟩
            ⟨1024 * (t.val / 32 % 2) + (j 2).val, by have : (j 2).val < 1024 := (j 2).isLt; omega⟩) := by
  unfold outsAt0
  frame_out
  canon_tiles x h
  · exact piece m c hr t 7 _ _ _ _ rfl (offs t).2.2.2.2.2.2.2 (offs t).2.2.2.2.2.2.2 rfl _ _ _ _ x j h1 h2
  · exact piece m c hr t 6 _ _ _ _ rfl (offs t).2.2.2.2.2.2.1 (offs t).2.2.2.2.2.2.1 rfl _ _ _ _ x j h1 h2
  · exact piece m c hr t 5 _ _ _ _ rfl (offs t).2.2.2.2.2.1 (offs t).2.2.2.2.2.1 rfl _ _ _ _ x j h1 h2
  · exact piece m c hr t 4 _ _ _ _ rfl (offs t).2.2.2.2.1 (offs t).2.2.2.2.1 rfl _ _ _ _ x j h1 h2
  · exact piece m c hr t 3 _ _ _ _ rfl (offs t).2.2.2.1 (offs t).2.2.2.1 rfl _ _ _ _ x j h1 h2
  · exact piece m c hr t 2 _ _ _ _ rfl (offs t).2.2.1 (offs t).2.2.1 rfl _ _ _ _ x j h1 h2
  · exact piece m c hr t 1 _ _ _ _ rfl (offs t).2.1 (offs t).2.1 rfl _ _ _ _ x j h1 h2
  · exact piece m c hr t 0 _ _ _ _ rfl (offs t).1 (offs t).1 rfl _ _ _ _ x j h1 (h2.trans (Nat.zero_add _).symm)

/-- The result array after the run is the reference's term. -/
theorem final (c : Dev nD) (hr : Cert.AttnRef.Real (U m c) (RB m c)) : (dats m 0 c).arrAt 4 (cfgs 0).N
    = Cert.ReferenceIdeal.Read.val_main_v59 (F := Ideal) (U m c) (RB m c) := by
  refine (dats m 0 c).arrAt_eq_of_covers 4 _ (by decide +kernel) fun t hf y => ?_
  blk_simp
  rw [after0_4]
  refine (point m c hr t y).trans (congrArg _ ?_)
  blk_ext [idx t]

end Cert.KernelIdeal.AttnValue

end
-- ==== Proof.FfnUpValue.lean ====
/- The value of the MLP's up projection: the result array of `FfnUpIdeal` is the reference's
   `square(relu(h @ w1[layer]))`. Every grid point contracts the whole depth 4096 at once, so block and array agree read by read. -/
module

public import proofs.«01_k».proof.Proof.Gen.FfnUpIdeal.Frame
public import proofs.«01_k».proof.Proof.Gen.FfnUpRefIdeal.Read
public import Idealize.ShloMosaic.Lib.Pipeline.ValueKit
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.FfnUpIdeal.UpValue

open Cert.FfnUpIdeal Cert.FfnUpIdeal.Gen

variable (m : (ℓ : Loc nD τ sig) → Buf (Elt Ideal) ℓ)

/-- The reference's result over the two arguments: `square(relu(h @ w1[3]))`. -/
abbrev REF (h : FVec Ideal Cert.FfnUpRefIdeal.S16384x4096 .bf16) (w : FVec Ideal Cert.FfnUpRefIdeal.S4x4096x16384 .f32) :
    FVec Ideal Cert.FfnUpRefIdeal.S16384x16384 .bf16 :=
  Cert.FfnUpRefIdeal.Read.val_main_v6 (F := Ideal) h w

/-- Where each window's block sits at a grid point. -/
theorem idx : ∀ t : Fin cfg0.N, win0_0.index t = ![t.val / 32, 0] ∧ win0_1.index t = ![3, 0, t.val % 32]
    ∧ win0_2.index t = ![t.val / 32, t.val % 32] ∧ t.val / 32 < 16 :=
  (by decide +kernel : ∀ t : Fin grid0.N, _)

/-- What the body stores at block index `y` is the reference at the array index `y` sits at. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF, Cert.FfnUpRefIdeal.Read.val_main_v6, Cert.FfnUpRefIdeal.Read.val_main_v5, Cert.FfnUpRefIdeal.Read.val_main_v4,
    Cert.FfnUpRefIdeal.Read.val_main_call0_v0, Cert.FfnUpRefIdeal.Read.val_main_call0_cst, Cert.FfnUpRefIdeal.Read.val_main_v3,
    Cert.FfnUpRefIdeal.Read.val_main_v2, Cert.FfnUpRefIdeal.Read.val_main_v1, Cert.FfnUpRefIdeal.Read.val_main_v0]
  blk_point [iblk, V, idx t]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FfnUpIdeal.UpValue

end
-- ==== Proof.FfnDownValue.lean ====
module

public import proofs.«01_k».proof.Proof.Gen.FfnDownIdeal.Frame
public import proofs.«01_k».proof.Proof.Gen.FfnDownRefIdeal.Read
public import Idealize.ShloMosaic.Lib.Pipeline.ValueKit
public import Idealize.ShloMosaic.Lib.Pipeline.Covers
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnDownIdeal.DownValue

open Cert.FfnDownIdeal Cert.FfnDownIdeal.Gen

variable (m : (ℓ : Loc nD τ sig) → Buf (Elt Ideal) ℓ)

theorem idx : ∀ t : Fin cfg0.N, win0_0.index t = ![t.val / 32, t.val % 8] ∧ win0_1.index t = ![3, t.val % 8, t.val / 8 % 4]
    ∧ win0_2.index t = ![t.val / 32, t.val / 8 % 4] ∧ win0_3.index t = ![t.val / 128, 0, t.val / 8 % 4]
    ∧ win0_4.index t = ![t.val / 32, t.val / 8 % 4] ∧ t.val / 32 < 16 :=
  (by decide +kernel : ∀ t : Fin grid0.N, _)

/-- One point's partial product over its 2048 lanes of the depth. -/
def part (c : Dev nD) (t : Fin cfg0.N) (j : S1024x1024.Idx) : EReal :=
  ∑ k : Fin 2048, (show FVec Ideal S1024x2048 .bf16 from iblk m c 0 t) (ValueIdx.ix2 (j 0) k) * (show FVec Ideal S1x2048x1024 .f32 from iblk m c 1 t) (ValueIdx.ix3 (0 : Fin 1) k (j 1))

/-- The run's first point stores its partial product. -/
theorem scratch_A (c : Dev nD) (t : Fin cfg0.N) (h0 : t.val % 8 = 0) (j : S1024x1024.Idx) :
    (outsAt0 m c t.val t.isLt).2 j = part m c t j := by
  rw [outsAt0_A m c t h0 (by omega) (by omega)]
  frame_out
  canon_tiles x h
  all_goals (open_payloads; pointwise [part])
  all_goals (blk_point []; all_goals first | exact h0.symm | exact h1.symm)

/-- A middle point adds its partial product to what the point before left. -/
theorem scratch_B (c : Dev nD) (t : Fin cfg0.N) (h0 : 1 ≤ t.val % 8 ∧ t.val % 8 ≤ 6) (j : S1024x1024.Idx) :
    (outsAt0 m c t.val t.isLt).2 j = (outsAt0 m c (t.val - 1) (by omega)).2 j + part m c t j := by
  rw [outsAt0_B m c t (by omega) h0 (by omega)]
  frame_out
  generalize (outsAt0 m c (t.val - 1) _).2 = acc
  canon_tiles x h
  all_goals (open_payloads; pointwise [part])
  all_goals rw [Idealize.ShloMosaic.read_unread_whole]
  all_goals (blk_point []; all_goals first | exact h0.symm | exact h1.symm)

/-- The run's last point writes the residual row plus the gate times the whole sum. -/
theorem out_C (c : Dev nD) (t : Fin cfg0.N) (h0 : t.val % 8 = 7) (j : S1024x1024.Idx) :
    (outsAt0 m c t.val t.isLt).1 j = (show FVec Ideal S1024x1024 .f32 from iblk m c 2 t) j
      + (show FVec Ideal S1x1x1024 .f32 from iblk m c 3 t) (ValueIdx.ix3 (0 : Fin 1) (0 : Fin 1) (j 1))
        * ((outsAt0 m c (t.val - 1) (by omega)).2 j + part m c t j) := by
  rw [outsAt0_C m c t (by omega) (by omega) h0]
  frame_out
  generalize (outsAt0 m c (t.val - 1) _).2 = acc
  canon_tiles x h
  all_goals (open_payloads; pointwise [part])
  all_goals rw [Idealize.ShloMosaic.read_unread_whole]
  all_goals (blk_point []; all_goals first | exact h0.symm | exact h1.symm)

/-- The partial sums of a run of eight points: the scratch while it is being filled, and at the run's last point — which does
    not store the scratch — the scratch it found plus its own product. -/
def run (c : Dev nD) (n : ℕ) (h : n < cfg0.N) (j : S1024x1024.Idx) : EReal :=
  if n % 8 = 7 then (outsAt0 m c (n - 1) (by omega)).2 j + part m c ⟨n, h⟩ j else (outsAt0 m c n h).2 j

/-- At a run's last point the partial sum is the sum of the run's eight products. -/
theorem run_sum (c : Dev nD) (t : Fin cfg0.N) (ht : t.val % 8 = 7) (j : S1024x1024.Idx) :
    (outsAt0 m c (t.val - 1) (by omega)).2 j + part m c t j
      = ∑ s : Fin 8, part m c ⟨8 * (t.val / 8) + s.val, Pipeline.run_point_lt_of_flush t ht s⟩ j := by
  have key := Pipeline.eq_sum_fin_of_reset_step_apply_of_flush (N := cfg0.N) (run m c) 8 (fun _ => 0) (part m c)
    (fun t h j => by
      rw [run, if_neg (by omega), zero_add]; exact scratch_A m c t h j)
    (fun t h j => by
      by_cases h7 : t.val % 8 = 7
      · rw [run, if_pos h7, run, if_neg (by omega)]
      · rw [run, if_neg h7, run, if_neg (by omega)]; exact scratch_B m c t (by omega) j)
    t ht j
  rw [run, if_pos ht, zero_add] at key
  exact key

/-- The reference's result over the four arguments: `x + gate * (h1 @ w2[3])`, the gate's row that of the batch. -/
abbrev REF (h : FVec Ideal Cert.FfnDownRefIdeal.S16384x16384 .bf16) (w : FVec Ideal Cert.FfnDownRefIdeal.S4x16384x4096 .f32)
    (x : FVec Ideal Cert.FfnDownRefIdeal.S16384x4096 .f32) (g : FVec Ideal Cert.FfnDownRefIdeal.S4x4096 .f32) :
    FVec Ideal Cert.FfnDownRefIdeal.S16384x4096 .f32 :=
  Cert.FfnDownRefIdeal.Read.val_main_v10 (F := Ideal) h w x g

/-- The gate with its unit axis, read at an index. -/
theorem gate_cast (g : FVec Ideal S4x4096 .f32) (i : S4x1x4096.Idx) :
    shapeCast S4x1x4096 g shapeCasts_S4x4096_S4x1x4096 i = g (ValueIdx.ix2 (i 0) (i 2)) := by
  pointwise
  blk_ext

/-- What a run's last point writes at block index `y` is the reference at the array index `y` sits at. -/
theorem point (c : Dev nD) (t : Fin cfg0.N) (ht : t.val % 8 = 7) (y : S1024x1024.Idx) : (outsAt0 m c t.val t.isLt).1 y
    = REF (m ((c : Thread nD τ).loc main_arg0)) (m ((c : Thread nD τ).loc main_arg1)) (m ((c : Thread nD τ).loc main_arg2))
        (m ((c : Thread nD τ).loc main_arg3)) (((cfg0.win 4).blk t).view.emb y) := by
  rw [out_C m c t ht, run_sum m c t ht]
  pointwise [part, REF, Cert.FfnDownRefIdeal.Read.val_main_v10, Cert.FfnDownRefIdeal.Read.val_main_v9, Cert.FfnDownRefIdeal.Read.val_main_v8,
    Cert.FfnDownRefIdeal.Read.val_main_v7, Cert.FfnDownRefIdeal.Read.val_main_v6, Cert.FfnDownRefIdeal.Read.val_main_v5,
    Cert.FfnDownRefIdeal.Read.val_main_v4, Cert.FfnDownRefIdeal.Read.val_main_v3,
    Cert.FfnDownRefIdeal.Read.val_main_v2, Cert.FfnDownRefIdeal.Read.val_main_v1, Cert.FfnDownRefIdeal.Read.val_main_v0]
  refine congrArg₂ (· + ·) ?_ (congrArg₂ (· * ·) ?_ ?_)
  · blk_point [iblk, V, idx t]
  · blk_simp [iblk, idx t]
    entry_read
    refine (gate_cast _ _).trans ?_
    blk_ext [idx t]
    · change win0_3.index t (0 : Fin 3) * 1 + 1 * 0 = _
      rw [(idx t).2.2.2.1]
      change t.val / 128 * 1 + 1 * 0 = _
      omega
    · change win0_3.index t (2 : Fin 3) * 1024 + 1 * (y 1).val = _
      rw [(idx t).2.2.2.1]
      change t.val / 8 % 4 * 1024 + 1 * (y 1).val = _
      omega
  · refine Fin.sum_mul_add_congr fun s k hl => ?_
    blk_point [iblk, V, idx t, idx ⟨_, Pipeline.run_point_lt_of_flush t ht s⟩]
    · change (8 * (t.val / 8) + s.val) / 32 * 1024 + (y 0).val = _; omega
    · change (8 * (t.val / 8) + s.val) % 8 * 2048 + k.val = _; omega
    · change (8 * (t.val / 8) + s.val) % 8 * 2048 + k.val = _; omega
    · change (8 * (t.val / 8) + s.val) / 8 % 4 * 1024 + (y 1).val = _; omega

/-- The result array after the run is the reference's term. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  exact point m c t ((flush0_4 t).mp hf) y

end Cert.FfnDownIdeal.DownValue

end
-- ==== Proof.ProjAValue.lean ====
/- The value of the first mixer's wide input projection: the result array of `ProjAIdeal` is the reference's
   `(h @ w_in)[:, :6144]`. A grid point contracts the whole depth at once, and the columns it leaves out play no part. -/
module

public import proofs.«01_k».proof.Proof.Gen.ProjAIdeal.Frame
public import proofs.«01_k».proof.Proof.Gen.ProjARefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.ProjAIdeal.Value

open Cert.ProjAIdeal Cert.ProjAIdeal.Gen

variable (m : (ℓ : Loc nD τ sig) → Buf (Elt Ideal) ℓ)

/-- The reference's result over the arguments. -/
abbrev REF (h : FVec Ideal Cert.ProjARefIdeal.S16384x4096 .bf16) (w : FVec Ideal Cert.ProjARefIdeal.S4096x10592 .f32) :
    FVec Ideal Cert.ProjARefIdeal.S16384x6144 .bf16 :=
  Cert.ProjARefIdeal.Read.val_main_v3 (F := Ideal) h w

/-- Where each window's block sits at a grid point. -/
theorem idx : ∀ t : Fin cfg0.N, win0_0.index t = ![t.val / 12, 0] ∧ win0_1.index t = ![0, t.val % 12]
    ∧ win0_2.index t = ![t.val / 12, t.val % 12] ∧ t.val / 12 < 16 :=
  (by decide +kernel : ∀ t : Fin grid0.N, _)

/-- What the body stores at block index `y` is the reference at the array index `y` sits at. -/
theorem point (c : Dev nD) (t : Fin cfg0.N) (y) : k0_pay1 (iblk m c 0 t) (iblk m c 1 t) y
    = REF (m ((c : Thread nD τ).loc main_arg0)) (m ((c : Thread nD τ).loc main_arg1))
        (((cfg0.win 2).blk t).view.emb y) := by
  pointwise [k0_pay1, REF, Cert.ProjARefIdeal.Read.val_main_v3, Cert.ProjARefIdeal.Read.val_main_v2, Cert.ProjARefIdeal.Read.val_main_v1, Cert.ProjARefIdeal.Read.val_main_v0]
  blk_point [iblk, V, idx t]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjAIdeal.Value

end
-- ==== Proof.ProjQValue.lean ====
/- The value of the query and indexer projection: the result array of `ProjQIdeal` is the reference's queries, scaled, beside its
   indexer columns. The call scales the weights, the reference the products: a real factor goes through the sum. -/
module

public import proofs.«01_k».proof.Proof.Gen.ProjQIdeal.Frame
public import proofs.«01_k».proof.Proof.Gen.ProjQRefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead
public import proofs.«01_k».proof.Proof.BandSoftmax

@[expose] public section

set_option maxRecDepth 16384

noncomputable section

open Idealize.ShloMosaic Idealize.ShloMosaic.TcCoe Idealize.SL.Sem
open Idealize.ShloMosaic.Pipeline (Dat)

namespace Cert.ProjQIdeal.Value

open Cert.ProjQIdeal Cert.ProjQIdeal.Gen

variable (m : (ℓ : Loc nD τ sig) → Buf (Elt Ideal) ℓ)

/-- The reference's result over the arguments. -/
abbrev REF (h : FVec Ideal Cert.ProjQRefIdeal.S16384x4096 .bf16) (w : FVec Ideal Cert.ProjQRefIdeal.S4096x10592 .f32) :
    FVec Ideal Cert.ProjQRefIdeal.S16384x4096 .bf16 :=
  Cert.ProjQRefIdeal.Read.val_main_v7 (F := Ideal) h w

/-- The weights as the call takes them, from the layer's own array. -/
def weights (w : FVec Ideal S4096x10592 .f32) : FVec Ideal S4096x4096 .bf16 :=
  truncf .bf16 (concatenate S4096x4096 1
    [⟨S4096x2048, mulf (extractStridedSlice S4096x2048 ![0, 6144] w slices_S4096x10592_S4096x2048_0_6144)
      (broadcastInDim S4096x2048 ![] bcast_S_S4096x2048 (constant S_ .f32 0x3E0293EE#32))⟩,
     ⟨S4096x2048, extractStridedSlice S4096x2048 ![0, 8448] w slices_S4096x10592_S4096x2048_0_8448⟩]
    concatenates_S4096x2048_S4096x2048_S4096x4096_d1) bitsLt_bf16_f32

/-- The host leaves them in the call's second operand. -/
theorem V_weights (c : Dev nD) : V m c main_v5 = weights (m ((c : Thread nD τ).loc main_arg1)) := by
  unfold_abbrev_sides
  simp only [hostOps0, List.flatten_cons, List.flatten_nil, List.append_nil, List.cons_append, List.nil_append]
  after_reads_simp
  rfl

/-- The host leaves the layer's own array as it was. -/
theorem V_arg1 (c : Dev nD) : V m c main_arg1 = m ((c : Thread nD τ).loc main_arg1) := by
  unfold_abbrev_sides
  simp only [hostOps0, List.flatten_cons, List.flatten_nil, List.append_nil, List.cons_append, List.nil_append]
  after_reads_simp

/-- The factor is a real number. -/
theorem factor_real : Ideal.ofBits .f32 0x3E0293EE#32 = ((8557550 / 67108864 : ℝ) : EReal) := by
  simp [Ideal.ofBits, Ideal.ieee, -EReal.coe_mul]; norm_num

/-- The reference's entry as one product of rows and columns of the weights the call takes. -/
theorem ref_at (h : FVec Ideal Cert.ProjQRefIdeal.S16384x4096 .bf16) (w : FVec Ideal Cert.ProjQRefIdeal.S4096x10592 .f32) (i : Cert.ProjQRefIdeal.S16384x4096.Idx) :
    REF h w i = ∑ k : Fin 4096, h (ix2 (i 0) k) * weights w (ix2 k (i 1)) := by
  pointwise [REF, Cert.ProjQRefIdeal.Read.val_main_v7, Cert.ProjQRefIdeal.Read.val_main_v6, Cert.ProjQRefIdeal.Read.val_main_v5, Cert.ProjQRefIdeal.Read.val_main_v4, Cert.ProjQRefIdeal.Read.val_main_v3, Cert.ProjQRefIdeal.Read.val_main_cst, Cert.ProjQRefIdeal.Read.val_main_v2, Cert.ProjQRefIdeal.Read.val_main_v1, Cert.ProjQRefIdeal.Read.val_main_v0, weights]
  by_cases hc : (i 1).val < 2048
  · simp only [dif_pos hc]
    rw [factor_real]
    refine (BandSoftmax.sum_mul_coe _ _ (by norm_num)).trans (Finset.sum_congr rfl fun k _ => ?_)
    exact mul_assoc _ _ _
  · simp only [dif_neg hc]
/-- Where each window's block sits at a grid point. -/
theorem idx : ∀ t : Fin cfg0.N, win0_0.index t = ![t.val / 8, 0] ∧ win0_1.index t = ![0, t.val % 8]
    ∧ win0_2.index t = ![t.val / 8, t.val % 8] ∧ t.val / 8 < 16 :=
  (by decide +kernel : ∀ t : Fin grid0.N, _)

/-- What the body stores at block index `y` is the reference at the array index `y` sits at. -/
theorem point (c : Dev nD) (t : Fin cfg0.N) (y) : k0_pay1 (iblk m c 0 t) (iblk m c 1 t) y
    = REF (m ((c : Thread nD τ).loc main_arg0)) (m ((c : Thread nD τ).loc main_arg1))
        (((cfg0.win 2).blk t).view.emb y) := by
  rw [ref_at]
  pointwise [k0_pay1]
  refine Finset.sum_congr rfl fun k _ => congrArg₂ (· * ·) ?_ ?_
  · blk_point [iblk, V, idx t]
  · refine (congrFun (V_weights m c) _).trans (congrArg (weights _) ?_)
    blk_ext [idx t]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjQIdeal.Value

end
-- ==== Proof.ProjSValue.lean ====
/- The value of the first mixer's narrow projection: the result array of `ProjSIdeal` is the reference's two groups of columns beside
   each other and 32 columns of zeros. The call pads the weights, the reference the products. -/
module

public import proofs.«01_k».proof.Proof.Gen.ProjSIdeal.Frame
public import proofs.«01_k».proof.Proof.Gen.ProjSRefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.ProjSIdeal.Value

open Cert.ProjSIdeal Cert.ProjSIdeal.Gen

variable (m : (ℓ : Loc nD τ sig) → Buf (Elt Ideal) ℓ)

/-- The reference's result over the arguments. -/
abbrev REF (h : FVec Ideal Cert.ProjSRefIdeal.S16384x4096 .bf16) (w : FVec Ideal Cert.ProjSRefIdeal.S4096x10592 .f32) :
    FVec Ideal Cert.ProjSRefIdeal.S16384x384 .f32 :=
  Cert.ProjSRefIdeal.Read.val_main_v5 (F := Ideal) h w

/-- The weights as the call takes them, from the layer's own array. -/
def weights (w : FVec Ideal S4096x10592 .f32) : FVec Ideal S4096x384 .bf16 :=
  truncf .bf16 (pad S4096x384 ![0, 0] ![0, 32] ![0, 0] (concatenate S4096x352 1
    [⟨S4096x256, extractStridedSlice S4096x256 ![0, 8192] w slices_S4096x10592_S4096x256_0_8192⟩,
     ⟨S4096x96, extractStridedSlice S4096x96 ![0, 10496] w slices_S4096x10592_S4096x96_0_10496⟩]
    concatenates_S4096x256_S4096x96_S4096x352_d1) (sitofp .f32 (constantI S_ 32 0#32)) pads_S4096x352_S4096x384_000_0320 h_S_) bitsLt_bf16_f32

/-- The host leaves them in the call's second operand. -/
theorem V_weights (c : Dev nD) : V m c main_v4 = weights (m ((c : Thread nD τ).loc main_arg1)) := by
  unfold_abbrev_sides
  simp only [hostOps0, hostOps0_1, hostOps0_2, List.flatten_cons, List.flatten_nil, List.append_nil, List.cons_append, List.nil_append]
  after_reads_simp
  rfl

/-- The host leaves the layer's own array as it was. -/
theorem V_arg1 (c : Dev nD) : V m c main_arg1 = m ((c : Thread nD τ).loc main_arg1) := by
  unfold_abbrev_sides
  simp only [hostOps0, hostOps0_1, hostOps0_2, List.flatten_cons, List.flatten_nil, List.append_nil, List.cons_append, List.nil_append]
  after_reads_simp

/-- The filling is zero. -/
theorem fill_zero (ft : FTy) : (FloatOps.sitofp (F := Ideal) ft 0#32 : EReal) = 0 := by
  show (((0#32 : BitVec 32).toInt : ℝ) : EReal) = 0
  simp

/-- The reference's entry as one product of rows and columns of the weights the call takes. -/
theorem ref_at (h : FVec Ideal Cert.ProjSRefIdeal.S16384x4096 .bf16) (w : FVec Ideal Cert.ProjSRefIdeal.S4096x10592 .f32) (i : Cert.ProjSRefIdeal.S16384x384.Idx) :
    REF h w i = ∑ k : Fin 4096, h (ix2 (i 0) k) * weights w (ix2 k (i 1)) := by
  pointwise [REF, Cert.ProjSRefIdeal.Read.val_main_v5, Cert.ProjSRefIdeal.Read.val_main_call0_v0, Cert.ProjSRefIdeal.Read.val_main_c, Cert.ProjSRefIdeal.Read.val_main_v4, Cert.ProjSRefIdeal.Read.val_main_v3, Cert.ProjSRefIdeal.Read.val_main_v2, Cert.ProjSRefIdeal.Read.val_main_v1, Cert.ProjSRefIdeal.Read.val_main_v0, weights]
  by_cases hc : (i 1).val < 352
  · by_cases hd : (i 1).val < 256
    · simp only [dif_pos hc, dif_pos hd]
    · simp only [dif_pos hc, dif_neg hd]
  · simp only [dif_neg hc, fill_zero, mul_zero, Finset.sum_const_zero]
/-- Where each window's block sits at a grid point. -/
theorem idx : ∀ t : Fin cfg0.N, win0_0.index t = ![t.val, 0] ∧ win0_1.index t = ![0, 0]
    ∧ win0_2.index t = ![t.val, 0] ∧ t.val < 16 :=
  (by decide +kernel : ∀ t : Fin grid0.N, _)

/-- What the body stores at block index `y` is the reference at the array index `y` sits at. -/
theorem point (c : Dev nD) (t : Fin cfg0.N) (y) : k0_pay1 (iblk m c 0 t) (iblk m c 1 t) y
    = REF (m ((c : Thread nD τ).loc main_arg0)) (m ((c : Thread nD τ).loc main_arg1))
        (((cfg0.win 2).blk t).view.emb y) := by
  rw [ref_at]
  pointwise [k0_pay1]
  refine Finset.sum_congr rfl fun k _ => congrArg₂ (· * ·) ?_ ?_
  · blk_point [iblk, V, idx t]
  · refine (congrFun (V_weights m c) _).trans (congrArg (weights _) ?_)
    blk_ext [idx t]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjSIdeal.Value

end
-- ==== Proof.ProjRkvValue.lean ====
/- The value of the second mixer's wide input projection: the result array of `ProjRkvIdeal` is the reference's
   `(h @ w_in)[:, :6144]`. A grid point contracts the whole depth at once, and the columns it leaves out play no part. -/
module

public import proofs.«01_k».proof.Proof.Gen.ProjRkvIdeal.Frame
public import proofs.«01_k».proof.Proof.Gen.ProjRkvRefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.ProjRkvIdeal.Value

open Cert.ProjRkvIdeal Cert.ProjRkvIdeal.Gen

variable (m : (ℓ : Loc nD τ sig) → Buf (Elt Ideal) ℓ)

/-- The reference's result over the arguments. -/
abbrev REF (h : FVec Ideal Cert.ProjRkvRefIdeal.S16384x4096 .bf16) (w : FVec Ideal Cert.ProjRkvRefIdeal.S4096x8000 .f32) :
    FVec Ideal Cert.ProjRkvRefIdeal.S16384x6144 .bf16 :=
  Cert.ProjRkvRefIdeal.Read.val_main_v3 (F := Ideal) h w

/-- Where each window's block sits at a grid point. -/
theorem idx : ∀ t : Fin cfg0.N, win0_0.index t = ![t.val / 12, 0] ∧ win0_1.index t = ![0, t.val % 12]
    ∧ win0_2.index t = ![t.val / 12, t.val % 12] ∧ t.val / 12 < 16 :=
  (by decide +kernel : ∀ t : Fin grid0.N, _)

/-- What the body stores at block index `y` is the reference at the array index `y` sits at. -/
theorem point (c : Dev nD) (t : Fin cfg0.N) (y) : k0_pay1 (iblk m c 0 t) (iblk m c 1 t) y
    = REF (m ((c : Thread nD τ).loc main_arg0)) (m ((c : Thread nD τ).loc main_arg1))
        (((cfg0.win 2).blk t).view.emb y) := by
  pointwise [k0_pay1, REF, Cert.ProjRkvRefIdeal.Read.val_main_v3, Cert.ProjRkvRefIdeal.Read.val_main_v2, Cert.ProjRkvRefIdeal.Read.val_main_v1, Cert.ProjRkvRefIdeal.Read.val_main_v0]
  blk_point [iblk, V, idx t]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjRkvIdeal.Value

end
-- ==== Proof.ProjLoValue.lean ====
/- The value of the second mixer's narrow projections: the result array of `ProjLoIdeal` is the reference's `(h @ w_in)[:, 6144:]` with
   192 columns of zeros. The call pads the weights, the reference the products. -/
module

public import proofs.«01_k».proof.Proof.Gen.ProjLoIdeal.Frame
public import proofs.«01_k».proof.Proof.Gen.ProjLoRefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.ProjLoIdeal.Value

open Cert.ProjLoIdeal Cert.ProjLoIdeal.Gen

variable (m : (ℓ : Loc nD τ sig) → Buf (Elt Ideal) ℓ)

/-- The reference's result over the arguments. -/
abbrev REF (h : FVec Ideal Cert.ProjLoRefIdeal.S16384x4096 .bf16) (w : FVec Ideal Cert.ProjLoRefIdeal.S4096x8000 .f32) :
    FVec Ideal Cert.ProjLoRefIdeal.S16384x2048 .f32 :=
  Cert.ProjLoRefIdeal.Read.val_main_v3 (F := Ideal) h w

/-- The weights as the call takes them, from the layer's own array. -/
def weights (w : FVec Ideal S4096x8000 .f32) : FVec Ideal S4096x2048 .bf16 :=
  pad S4096x2048 ![0, 0] ![0, 192] ![0, 0]
    (extractStridedSlice S4096x1856 ![0, 6144] (truncf (F := Ideal) .bf16 w bitsLt_bf16_f32) slices_S4096x8000_S4096x1856_0_6144)
    (sitofp .bf16 (constantI S_ 32 0#32)) pads_S4096x1856_S4096x2048_000_01920 h_S_

/-- The host leaves them in the call's second operand. -/
theorem V_weights (c : Dev nD) : V m c main_v2 = weights (m ((c : Thread nD τ).loc main_arg1)) := by
  unfold_abbrev_sides
  simp only [hostOps0, hostOps0_1, List.flatten_cons, List.flatten_nil, List.append_nil, List.cons_append, List.nil_append]
  after_reads_simp
  rfl

/-- The host leaves the layer's own array as it was. -/
theorem V_arg1 (c : Dev nD) : V m c main_arg1 = m ((c : Thread nD τ).loc main_arg1) := by
  unfold_abbrev_sides
  simp only [hostOps0, hostOps0_1, List.flatten_cons, List.flatten_nil, List.append_nil, List.cons_append, List.nil_append]
  after_reads_simp

/-- The filling is zero. -/
theorem fill_zero (ft : FTy) : (FloatOps.sitofp (F := Ideal) ft 0#32 : EReal) = 0 := by
  show (((0#32 : BitVec 32).toInt : ℝ) : EReal) = 0
  simp

/-- The reference's entry as one product of rows and columns of the weights the call takes. -/
theorem ref_at (h : FVec Ideal Cert.ProjLoRefIdeal.S16384x4096 .bf16) (w : FVec Ideal Cert.ProjLoRefIdeal.S4096x8000 .f32) (i : Cert.ProjLoRefIdeal.S16384x2048.Idx) :
    REF h w i = ∑ k : Fin 4096, h (ix2 (i 0) k) * weights w (ix2 k (i 1)) := by
  pointwise [REF, Cert.ProjLoRefIdeal.Read.val_main_v3, Cert.ProjLoRefIdeal.Read.val_main_call0_v0, Cert.ProjLoRefIdeal.Read.val_main_c, Cert.ProjLoRefIdeal.Read.val_main_v2, Cert.ProjLoRefIdeal.Read.val_main_v1, Cert.ProjLoRefIdeal.Read.val_main_v0, weights]
  by_cases hc : (i 1).val < 1856
  · simp only [dif_pos hc]
  · simp only [dif_neg hc, fill_zero, mul_zero, Finset.sum_const_zero]
/-- Where each window's block sits at a grid point. -/
theorem idx : ∀ t : Fin cfg0.N, win0_0.index t = ![t.val / 4, 0] ∧ win0_1.index t = ![0, t.val % 4]
    ∧ win0_2.index t = ![t.val / 4, t.val % 4] ∧ t.val / 4 < 16 :=
  (by decide +kernel : ∀ t : Fin grid0.N, _)

/-- What the body stores at block index `y` is the reference at the array index `y` sits at. -/
theorem point (c : Dev nD) (t : Fin cfg0.N) (y) : k0_pay1 (iblk m c 0 t) (iblk m c 1 t) y
    = REF (m ((c : Thread nD τ).loc main_arg0)) (m ((c : Thread nD τ).loc main_arg1))
        (((cfg0.win 2).blk t).view.emb y) := by
  rw [ref_at]
  pointwise [k0_pay1]
  refine Finset.sum_congr rfl fun k _ => congrArg₂ (· * ·) ?_ ?_
  · blk_point [iblk, V, idx t]
  · refine (congrFun (V_weights m c) _).trans (congrArg (weights _) ?_)
    blk_ext [idx t]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.ProjLoIdeal.Value

end
-- ==== Proof.OutProjValue.lean ====
/- The value of the out projection: the result array of `OutProjIdeal` is the reference's `x + gate * (concat(ya, yb) @ w_out[1])`.
   A grid point contracts the two halves of the depth apart and adds them. -/
module

public import proofs.«01_k».proof.Proof.Gen.OutProjIdeal.Frame
public import proofs.«01_k».proof.Proof.Gen.OutProjRefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.OutProjIdeal.Value

open Cert.OutProjIdeal Cert.OutProjIdeal.Gen

variable (m : (ℓ : Loc nD τ sig) → Buf (Elt Ideal) ℓ)

/-- The reference's result over the arguments. -/
abbrev REF (h : FVec Ideal Cert.OutProjRefIdeal.S16384x2048 .bf16) (w : FVec Ideal Cert.OutProjRefIdeal.S16384x2048 .bf16) (x : FVec Ideal Cert.OutProjRefIdeal.S2x4096x4096 .f32) (g : FVec Ideal Cert.OutProjRefIdeal.S16384x4096 .f32) (z : FVec Ideal Cert.OutProjRefIdeal.S4x4096 .f32) :
    FVec Ideal Cert.OutProjRefIdeal.S16384x4096 .f32 :=
  Cert.OutProjRefIdeal.Read.val_main_v11 (F := Ideal) h w x g z

set_option maxHeartbeats 1000000 in
/-- The reference's entry: the residual plus the gate times the sum over the two halves of the depth. -/
theorem ref_at (a b : FVec Ideal Cert.OutProjRefIdeal.S16384x2048 .bf16) (w : FVec Ideal Cert.OutProjRefIdeal.S2x4096x4096 .f32)
    (x : FVec Ideal Cert.OutProjRefIdeal.S16384x4096 .f32) (g : FVec Ideal Cert.OutProjRefIdeal.S4x4096 .f32) (i : Cert.OutProjRefIdeal.S16384x4096.Idx) :
    REF a b w x g i = x i + g (ix2 ⟨(i 0).val / 4096, Nat.div_lt_of_lt_mul (i 0).isLt⟩ (i 1))
      * ((∑ k : Fin 2048, a (ix2 (i 0) k) * w (ix3 1 ⟨k.val, by omega⟩ (i 1)))
        + ∑ k : Fin 2048, b (ix2 (i 0) k) * w (ix3 1 ⟨2048 + k.val, by omega⟩ (i 1))) := by
  pointwise [REF, Cert.OutProjRefIdeal.Read.val_main_v11, Cert.OutProjRefIdeal.Read.val_main_v10, Cert.OutProjRefIdeal.Read.val_main_v9, Cert.OutProjRefIdeal.Read.val_main_v8, Cert.OutProjRefIdeal.Read.val_main_v7, Cert.OutProjRefIdeal.Read.val_main_v6, Cert.OutProjRefIdeal.Read.val_main_v5, Cert.OutProjRefIdeal.Read.val_main_v4, Cert.OutProjRefIdeal.Read.val_main_v3, Cert.OutProjRefIdeal.Read.val_main_v2, Cert.OutProjRefIdeal.Read.val_main_v1, Cert.OutProjRefIdeal.Read.val_main_v0]

/-- The gate with its unit axis, read at an index. -/
theorem gate_cast (g : FVec Ideal S4x4096 .f32) (i : S4x1x4096.Idx) :
    shapeCast S4x1x4096 g shapeCasts_S4x4096_S4x1x4096 i = g (ix2 (i 0) (i 2)) := by
  pointwise
  blk_ext

/-- Where each window's block sits at a grid point. -/
theorem idx : ∀ t : Fin cfg0.N, win0_0.index t = ![t.val / 8, 0] ∧ win0_1.index t = ![t.val / 8, 0] ∧ win0_2.index t = ![1, 0, t.val % 8]
    ∧ win0_3.index t = ![t.val / 8, t.val % 8] ∧ win0_4.index t = ![t.val / 32, 0, t.val % 8] ∧ win0_5.index t = ![t.val / 8, t.val % 8] ∧ t.val / 8 < 16 :=
  (by decide +kernel : ∀ t : Fin grid0.N, _)

/-- What the body stores at block index `y` is the reference at the array index `y` sits at. -/
theorem point (c : Dev nD) (t : Fin cfg0.N) (y) : k0_pay1 (iblk m c 0 t) (View.ld (iblk m c 2 t) r0_1) (iblk m c 1 t)
      (View.ld (iblk m c 2 t) r0_2) (iblk m c 3 t) (iblk m c 4 t) y
    = REF (m ((c : Thread nD τ).loc main_arg0)) (m ((c : Thread nD τ).loc main_arg1)) (m ((c : Thread nD τ).loc main_arg2)) (m ((c : Thread nD τ).loc main_arg3)) (m ((c : Thread nD τ).loc main_arg4))
        (((cfg0.win 5).blk t).view.emb y) := by
  rw [ref_at]
  pointwise [k0_pay1]
  refine congrArg₂ (· + ·) ?_ (congrArg₂ (· * ·) ?_ (congrArg₂ (· + ·) (Finset.sum_congr rfl fun k _ => congrArg₂ (· * ·) ?_ ?_)
    (Finset.sum_congr rfl fun k _ => congrArg₂ (· * ·) ?_ ?_)))
  · blk_point [iblk, V, idx t]
  · blk_simp [iblk, idx t]
    entry_read
    refine (gate_cast _ _).trans ?_
    blk_ext [idx t]
  · blk_point [iblk, V, idx t]
  · blk_point [iblk, V, idx t]
  · blk_point [iblk, V, idx t]
  · blk_point [iblk, V, idx t]

/-- The result array after the run is the reference's term. -/
theorem final (c : Dev nD) : (dats m 0 c).arrAt 5 (cfgs 0).N
    = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; frame_out
  exact point m c t y

end Cert.OutProjIdeal.Value

end
-- ==== Proof.UpQValue.lean ====
/- The value of the query up projection: the result array of `UpQIdeal` is the reference's scaled queries, each head padded from 192 to
   256 columns. The call pads and scales the weights, the reference the products: a real factor goes through the sum. -/
module

public import proofs.«01_k».proof.Proof.Gen.UpQIdeal.Frame
public import proofs.«01_k».proof.Proof.Gen.UpQRefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead
public import proofs.«01_k».proof.Proof.BandSoftmax

@[expose] public section

set_option maxRecDepth 16384

noncomputable section

open Idealize.ShloMosaic Idealize.ShloMosaic.TcCoe Idealize.SL.Sem
open Idealize.ShloMosaic.Pipeline (Dat)

namespace Cert.UpQIdeal.Value

open Cert.UpQIdeal Cert.UpQIdeal.Gen

variable (m : (ℓ : Loc nD τ sig) → Buf (Elt Ideal) ℓ)

/-- The reference's result over the arguments. -/
abbrev REF (h : FVec Ideal Cert.UpQRefIdeal.S16384x768 .bf16) (w : FVec Ideal Cert.UpQRefIdeal.S768x3072 .f32) :
    FVec Ideal Cert.UpQRefIdeal.S16384x4096 .bf16 :=
  Cert.UpQRefIdeal.Read.val_main_v7 (F := Ideal) h w

/-- The weights as the call takes them, from the layer's own array. -/
def weights (w : FVec Ideal S768x3072 .f32) : FVec Ideal S768x4096 .bf16 :=
  truncf .bf16 (mulf (shapeCast S768x4096 (pad S768x16x256 ![0, 0, 0] ![0, 0, 64] ![0, 0, 0]
    (shapeCast S768x16x192 w shapeCasts_S768x3072_S768x16x192) (sitofp .f32 (constantI S_ 32 0#32)) pads_S768x16x192_S768x16x256_000_000_0640 h_S_)
    shapeCasts_S768x16x256_S768x4096) (broadcastInDim S768x4096 ![] bcast_S_S768x4096 (constant S_ .f32 0x3DD53B95#32))) bitsLt_bf16_f32

/-- The host leaves them in the call's second operand. -/
theorem V_weights (c : Dev nD) : V m c main_v5 = weights (m ((c : Thread nD τ).loc main_arg1)) := by
  unfold_abbrev_sides
  simp only [hostOps0, hostOps0_1, hostOps0_2, List.flatten_cons, List.flatten_nil, List.append_nil, List.cons_append, List.nil_append]
  after_reads_simp
  rfl

/-- The host leaves the layer's own array as it was. -/
theorem V_arg1 (c : Dev nD) : V m c main_arg1 = m ((c : Thread nD τ).loc main_arg1) := by
  unfold_abbrev_sides
  simp only [hostOps0, hostOps0_1, hostOps0_2, List.flatten_cons, List.flatten_nil, List.append_nil, List.cons_append, List.nil_append]
  after_reads_simp

/-- The filling is zero. -/
theorem fill_zero (ft : FTy) : (FloatOps.sitofp (F := Ideal) ft 0#32 : EReal) = 0 := by
  show (((0#32 : BitVec 32).toInt : ℝ) : EReal) = 0
  simp

/-- The factor is a real number. -/
theorem factor_real : Ideal.ofBits .f32 0x3DD53B95#32 = ((13974421 / 134217728 : ℝ) : EReal) := by
  simp [Ideal.ofBits, Ideal.ieee, -EReal.coe_mul]; norm_num

set_option maxHeartbeats 2000000 in
/-- The reference's entry as one product of rows and columns of the weights the call takes. -/
theorem ref_at (h : FVec Ideal Cert.UpQRefIdeal.S16384x768 .bf16) (w : FVec Ideal Cert.UpQRefIdeal.S768x3072 .f32) (i : Cert.UpQRefIdeal.S16384x4096.Idx) :
    REF h w i = ∑ k : Fin 768, h (ix2 (i 0) k) * weights w (ix2 k (i 1)) := by
  pointwise [REF, Cert.UpQRefIdeal.Read.val_main_v7, Cert.UpQRefIdeal.Read.val_main_v6, Cert.UpQRefIdeal.Read.val_main_v5, Cert.UpQRefIdeal.Read.val_main_call0_v0, Cert.UpQRefIdeal.Read.val_main_c, Cert.UpQRefIdeal.Read.val_main_v4, Cert.UpQRefIdeal.Read.val_main_v3, Cert.UpQRefIdeal.Read.val_main_cst, Cert.UpQRefIdeal.Read.val_main_v2, Cert.UpQRefIdeal.Read.val_main_v1, Cert.UpQRefIdeal.Read.val_main_v0, weights]
  by_cases hc : (i 1).val / 256 < 16 ∧ (i 1).val % 256 < 192
  · simp only [dif_pos hc]
    rw [factor_real]
    refine (BandSoftmax.sum_mul_coe _ _ (by norm_num)).trans (Finset.sum_congr rfl fun k _ => ?_)
    exact mul_assoc _ _ _
  · simp only [dif_neg hc, fill_zero, mul_zero, zero_mul, Finset.sum_const_zero]
/-- Where each window's block sits at a grid point. -/
theorem idx : ∀ t : Fin cfg0.N, win0_0.index t = ![t.val / 8, 0] ∧ win0_1.index t = ![0, t.val % 8]
    ∧ win0_2.index t = ![t.val / 8, t.val % 8] ∧ t.val / 8 < 16 :=
  (by decide +kernel : ∀ t : Fin grid0.N, _)

/-- What the body stores at block index `y` is the reference at the array index `y` sits at. -/
theorem point (c : Dev nD) (t : Fin cfg0.N) (y) : k0_pay1 (iblk m c 0 t) (iblk m c 1 t) y
    = REF (m ((c : Thread nD τ).loc main_arg0)) (m ((c : Thread nD τ).loc main_arg1))
        (((cfg0.win 2).blk t).view.emb y) := by
  rw [ref_at]
  pointwise [k0_pay1]
  refine Finset.sum_congr rfl fun k _ => congrArg₂ (· * ·) ?_ ?_
  · blk_point [iblk, V, idx t]
  · refine (congrFun (V_weights m c) _).trans (congrArg (weights _) ?_)
    blk_ext [idx t]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.UpQIdeal.Value

end
-- ==== Proof.UpKvValue.lean ====
/- The value of the key and value up projection: the result array of `UpKvIdeal` is the reference's `ckv @ w_ukv[1]`.
   A grid point contracts the whole depth at once. -/
module

public import proofs.«01_k».proof.Proof.Gen.UpKvIdeal.Frame
public import proofs.«01_k».proof.Proof.Gen.UpKvRefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.UpKvIdeal.Value

open Cert.UpKvIdeal Cert.UpKvIdeal.Gen

variable (m : (ℓ : Loc nD τ sig) → Buf (Elt Ideal) ℓ)

/-- The reference's result over the arguments. -/
abbrev REF (h : FVec Ideal Cert.UpKvRefIdeal.S16384x512 .bf16) (w : FVec Ideal Cert.UpKvRefIdeal.S2x512x4096 .f32) :
    FVec Ideal Cert.UpKvRefIdeal.S16384x4096 .bf16 :=
  Cert.UpKvRefIdeal.Read.val_main_v4 (F := Ideal) h w

/-- Where each window's block sits at a grid point. -/
theorem idx : ∀ t : Fin cfg0.N, win0_0.index t = ![t.val / 8, 0] ∧ win0_1.index t = ![1, 0, t.val % 8]
    ∧ win0_2.index t = ![t.val / 8, t.val % 8] ∧ t.val / 8 < 16 :=
  (by decide +kernel : ∀ t : Fin grid0.N, _)

/-- What the body stores at block index `y` is the reference at the array index `y` sits at. -/
theorem point (c : Dev nD) (t : Fin cfg0.N) (y) : k0_pay1 (iblk m c 0 t) (iblk m c 1 t) y
    = REF (m ((c : Thread nD τ).loc main_arg0)) (m ((c : Thread nD τ).loc main_arg1))
        (((cfg0.win 2).blk t).view.emb y) := by
  pointwise [k0_pay1, REF, Cert.UpKvRefIdeal.Read.val_main_v4, Cert.UpKvRefIdeal.Read.val_main_v3, Cert.UpKvRefIdeal.Read.val_main_v2, Cert.UpKvRefIdeal.Read.val_main_v1, Cert.UpKvRefIdeal.Read.val_main_v0]
  blk_point [iblk, V, idx t]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.UpKvIdeal.Value

end
-- ==== Proof.NormModValue.lean ====
/- The value of the modulated norm: the result array of `NormModIdeal` is the reference's root-mean-square norm, scaled and shifted by
   the rows of its batch. -/
module

public import proofs.«01_k».proof.Proof.Gen.NormModIdeal.Frame
public import proofs.«01_k».proof.Proof.Gen.NormModRefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.NormModIdeal.Value

open Cert.NormModIdeal Cert.NormModIdeal.Gen

variable (m : (ℓ : Loc nD τ sig) → Buf (Elt Ideal) ℓ)

/-- The reference's result over the arguments. -/
abbrev REF (h : FVec Ideal Cert.NormModRefIdeal.S16384x4096 .f32) (w : FVec Ideal Cert.NormModRefIdeal.S4096 .f32) (x : FVec Ideal Cert.NormModRefIdeal.S4x4096 .f32) (g : FVec Ideal Cert.NormModRefIdeal.S4x4096 .f32) :
    FVec Ideal Cert.NormModRefIdeal.S16384x4096 .bf16 :=
  Cert.NormModRefIdeal.Read.val_main_v23 (F := Ideal) h w x g

/-- One over the root mean square of a row, the mean moved off zero. -/
def scaleOf (s : EReal) : EReal :=
  Ideal.rsqrt (Ideal.div s (Ideal.ofBits .f32 0x45800000#32) + Ideal.ofBits .f32 0x358637BD#32)

set_option maxHeartbeats 1000000 in
/-- The reference's entry. -/
theorem ref_at (x : FVec Ideal Cert.NormModRefIdeal.S16384x4096 .f32) (g : FVec Ideal Cert.NormModRefIdeal.S4096 .f32) (s d : FVec Ideal Cert.NormModRefIdeal.S4x4096 .f32)
    (i : Cert.NormModRefIdeal.S16384x4096.Idx) :
    REF x g s d i = (x i * scaleOf (∑ k : Fin 4096, x (ix2 (i 0) k) * x (ix2 (i 0) k)) * g (ix1 (i 1)))
      * (1 + s (ix2 ⟨(i 0).val / 4096, Nat.div_lt_of_lt_mul (i 0).isLt⟩ (i 1)))
      + d (ix2 ⟨(i 0).val / 4096, Nat.div_lt_of_lt_mul (i 0).isLt⟩ (i 1)) := by
  pointwise [REF, Cert.NormModRefIdeal.Read.val_main_v23, Cert.NormModRefIdeal.Read.val_main_v22, Cert.NormModRefIdeal.Read.val_main_v21, Cert.NormModRefIdeal.Read.val_main_v20, Cert.NormModRefIdeal.Read.val_main_v19, Cert.NormModRefIdeal.Read.val_main_v18, Cert.NormModRefIdeal.Read.val_main_v17, Cert.NormModRefIdeal.Read.val_main_v16, Cert.NormModRefIdeal.Read.val_main_v15, Cert.NormModRefIdeal.Read.val_main_cst_2, Cert.NormModRefIdeal.Read.val_main_v14, Cert.NormModRefIdeal.Read.val_main_v13, Cert.NormModRefIdeal.Read.val_main_v12, Cert.NormModRefIdeal.Read.val_main_v11, Cert.NormModRefIdeal.Read.val_main_v10, Cert.NormModRefIdeal.Read.val_main_v9, Cert.NormModRefIdeal.Read.val_main_v8, Cert.NormModRefIdeal.Read.val_main_v7, Cert.NormModRefIdeal.Read.val_main_v6, Cert.NormModRefIdeal.Read.val_main_v5, Cert.NormModRefIdeal.Read.val_main_cst_1, Cert.NormModRefIdeal.Read.val_main_v4, Cert.NormModRefIdeal.Read.val_main_v3, Cert.NormModRefIdeal.Read.val_main_cst_0, Cert.NormModRefIdeal.Read.val_main_v2, Cert.NormModRefIdeal.Read.val_main_v1, Cert.NormModRefIdeal.Read.val_main_cst, Cert.NormModRefIdeal.Read.val_main_v0, scaleOf]

set_option maxHeartbeats 1000000 in
/-- The body's entry over its blocks. -/
theorem pay_at (x : Vec Ideal S256x4096 .f32) (g : Vec Ideal S1x4096 .f32) (s d : Vec Ideal S1x1x4096 .f32) (i : S256x4096.Idx) :
    k0_pay1 x g s d i = (x i * scaleOf (∑ k : Fin 4096, x (ix2 (i 0) k) * x (ix2 (i 0) k)) * g (ix2 0 (i 1)))
      * (1 + s (ix3 0 0 (i 1))) + d (ix3 0 0 (i 1)) := by
  pointwise [k0_pay1, scaleOf]

/-- The gate with its unit axis, read at an index. -/
theorem gate_cast (g : FVec Ideal S4x4096 .f32) (i : S4x1x4096.Idx) :
    shapeCast S4x1x4096 g shapeCasts_S4x4096_S4x1x4096 i = g (ix2 (i 0) (i 2)) := by
  pointwise
  blk_ext

/-- The row of weights as a one-row array, read at an index. -/
theorem row_cast (g : FVec Ideal S4096 .f32) (i : S1x4096.Idx) :
    shapeCast S1x4096 g shapeCasts_S4096_S1x4096 i = g (ix1 (i 1)) := by
  pointwise
  blk_ext

/-- Where each window's block sits at a grid point. -/
theorem idx : ∀ t : Fin cfg0.N, win0_0.index t = ![t.val, 0] ∧ win0_1.index t = ![0, 0] ∧ win0_2.index t = ![t.val / 16, 0, 0]
    ∧ win0_3.index t = ![t.val / 16, 0, 0] ∧ win0_4.index t = ![t.val, 0] ∧ t.val < 64 :=
  (by decide +kernel : ∀ t : Fin grid0.N, _)

/-- What the body stores at block index `y` is the reference at the array index `y` sits at. -/
theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (m ((c : Thread nD τ).loc main_arg3))
        (((cfg0.win 4).blk t).view.emb y) := by
  rw [ref_at, pay_at]
  refine congrArg₂ (· + ·) (congrArg₂ (· * ·) (congrArg₂ (· * ·) (congrArg₂ (· * ·) ?_
    (congrArg scaleOf (Finset.sum_congr rfl fun k _ => congrArg₂ (· * ·) ?_ ?_))) ?_) (congrArg (1 + ·) ?_)) ?_
  · blk_point [iblk, V, idx t]
  · blk_point [iblk, V, idx t]
  · blk_point [iblk, V, idx t]
  · blk_simp [iblk, idx t]
    entry_read
    refine (row_cast _ _).trans ?_
    blk_ext [idx t]
  · blk_simp [iblk, idx t]
    entry_read
    refine (gate_cast _ _).trans ?_
    blk_ext [idx t]
  · blk_simp [iblk, idx t]
    entry_read
    refine (gate_cast _ _).trans ?_
    blk_ext [idx t]

/-- The result array after the run is the reference's term. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.NormModIdeal.Value

end
-- ==== Proof.NormPlainValue.lean ====
/- The value of the plain norm: the result array of `NormPlainIdeal` is the reference's root-mean-square norm. -/
module

public import proofs.«01_k».proof.Proof.Gen.NormPlainIdeal.Frame
public import proofs.«01_k».proof.Proof.Gen.NormPlainRefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.NormPlainIdeal.Value

open Cert.NormPlainIdeal Cert.NormPlainIdeal.Gen

variable (m : (ℓ : Loc nD τ sig) → Buf (Elt Ideal) ℓ)

/-- The reference's result over the arguments. -/
abbrev REF (h : FVec Ideal Cert.NormPlainRefIdeal.S16384x4096 .f32) (w : FVec Ideal Cert.NormPlainRefIdeal.S4096 .f32) :
    FVec Ideal Cert.NormPlainRefIdeal.S16384x4096 .f32 :=
  Cert.NormPlainRefIdeal.Read.val_main_v12 (F := Ideal) h w

/-- One over the root mean square of a row, the mean moved off zero. -/
def scaleOf (s : EReal) : EReal :=
  Ideal.rsqrt (Ideal.div s (Ideal.ofBits .f32 0x45800000#32) + Ideal.ofBits .f32 0x358637BD#32)

set_option maxHeartbeats 1000000 in
/-- The reference's entry. -/
theorem ref_at (x : FVec Ideal Cert.NormPlainRefIdeal.S16384x4096 .f32) (g : FVec Ideal Cert.NormPlainRefIdeal.S4096 .f32)
    (i : Cert.NormPlainRefIdeal.S16384x4096.Idx) :
    REF x g i = x i * scaleOf (∑ k : Fin 4096, x (ix2 (i 0) k) * x (ix2 (i 0) k)) * g (ix1 (i 1)) := by
  pointwise [REF, Cert.NormPlainRefIdeal.Read.val_main_v12, Cert.NormPlainRefIdeal.Read.val_main_v11, Cert.NormPlainRefIdeal.Read.val_main_v10, Cert.NormPlainRefIdeal.Read.val_main_v9, Cert.NormPlainRefIdeal.Read.val_main_v8, Cert.NormPlainRefIdeal.Read.val_main_v7, Cert.NormPlainRefIdeal.Read.val_main_v6, Cert.NormPlainRefIdeal.Read.val_main_v5, Cert.NormPlainRefIdeal.Read.val_main_cst_1, Cert.NormPlainRefIdeal.Read.val_main_v4, Cert.NormPlainRefIdeal.Read.val_main_v3, Cert.NormPlainRefIdeal.Read.val_main_cst_0, Cert.NormPlainRefIdeal.Read.val_main_v2, Cert.NormPlainRefIdeal.Read.val_main_v1, Cert.NormPlainRefIdeal.Read.val_main_cst, Cert.NormPlainRefIdeal.Read.val_main_v0, scaleOf]

set_option maxHeartbeats 1000000 in
/-- The body's entry over its blocks. -/
theorem pay_at (x : Vec Ideal S256x4096 .f32) (g : Vec Ideal S1x4096 .f32) (i : S256x4096.Idx) :
    k0_pay1 x g i = x i * scaleOf (∑ k : Fin 4096, x (ix2 (i 0) k) * x (ix2 (i 0) k)) * g (ix2 0 (i 1)) := by
  pointwise [k0_pay1, scaleOf]

/-- The row of weights as a one-row array, read at an index. -/
theorem row_cast (g : FVec Ideal S4096 .f32) (i : S1x4096.Idx) :
    shapeCast S1x4096 g shapeCasts_S4096_S1x4096 i = g (ix1 (i 1)) := by
  pointwise
  blk_ext

/-- Where each window's block sits at a grid point. -/
theorem idx : ∀ t : Fin cfg0.N, win0_0.index t = ![t.val, 0] ∧ win0_1.index t = ![0, 0] ∧ win0_2.index t = ![t.val, 0] ∧ t.val < 64 :=
  (by decide +kernel : ∀ t : Fin grid0.N, _)

/-- What the body stores at block index `y` is the reference at the array index `y` sits at. -/
theorem point (c : Dev nD) (t : Fin cfg0.N) (y) : k0_pay1 (iblk m c 0 t) (iblk m c 1 t) y
    = REF (m ((c : Thread nD τ).loc main_arg0)) (m ((c : Thread nD τ).loc main_arg1))
        (((cfg0.win 2).blk t).view.emb y) := by
  rw [ref_at, pay_at]
  refine congrArg₂ (· * ·) (congrArg₂ (· * ·) ?_
    (congrArg scaleOf (Finset.sum_congr rfl fun k _ => congrArg₂ (· * ·) ?_ ?_))) ?_
  · blk_point [iblk, V, idx t]
  · blk_point [iblk, V, idx t]
  · blk_point [iblk, V, idx t]
  · blk_simp [iblk, idx t]
    entry_read
    refine (row_cast _ _).trans ?_
    blk_ext [idx t]

/-- The result array after the run is the reference's term. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormPlainIdeal.Value

end
-- ==== Proof.CondValue.lean ====
/- The value of the conditioning's projection: the call pads the four rows to eight, its result's first four rows are the
   reference's. -/
module

public import proofs.«01_k».proof.Proof.Gen.CondIdeal.Frame
public import proofs.«01_k».proof.Proof.Gen.CondRefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.CondIdeal.Value

open Cert.CondIdeal Cert.CondIdeal.Gen

variable (m : (ℓ : Loc nD τ sig) → Buf (Elt Ideal) ℓ)

/-- The reference's result over the arguments. -/
abbrev REF (x : FVec Ideal Cert.CondRefIdeal.S4x4096 .f32) (w : FVec Ideal Cert.CondRefIdeal.S4096x24576 .f32) :
    FVec Ideal Cert.CondRefIdeal.S4x6x4096 .f32 :=
  Cert.CondRefIdeal.Read.val_main_v2 (F := Ideal) x w

/-- The rows as the call takes them: each entry times its logistic, four rows of zeros below. -/
def rows (x : FVec Ideal S4x4096 .f32) : FVec Ideal S8x4096 .bf16 :=
  pad S8x4096 ![0, 0] ![4, 0] ![0, 0] (truncf .bf16 (mulf x (Host.divf (broadcastInDim S4x4096 ![] bcast_S_S4x4096 (constant S_ .f32 0x3F800000#32))
    (addf (broadcastInDim S4x4096 ![] bcast_S_S4x4096 (constant S_ .f32 0x3F800000#32)) (Host.exp (Host.negf x))))) bitsLt_bf16_f32)
    (sitofp .bf16 (constantI S_ 32 0#32)) pads_S4x4096_S8x4096_040_000 h_S_

/-- The host leaves them in the call's first operand. -/
theorem V_rows (c : Dev nD) : V m c main_v8 = rows (m ((c : Thread nD τ).loc main_arg0)) := by
  unfold_abbrev_sides
  simp only [hostOps0, hostOps0_1, List.flatten_cons, List.flatten_nil, List.append_nil, List.cons_append, List.nil_append]
  after_reads_simp
  rfl

/-- The host leaves the weights as they were. -/
theorem V_arg1 (c : Dev nD) : V m c main_arg1 = m ((c : Thread nD τ).loc main_arg1) := by
  unfold_abbrev_sides
  simp only [hostOps0, hostOps0_1, List.flatten_cons, List.flatten_nil, List.append_nil, List.cons_append, List.nil_append]
  after_reads_simp

/-- The product of the padded rows and the weights. -/
def OUT (x : FVec Ideal S4x4096 .f32) (w : FVec Ideal S4096x24576 .f32) : FVec Ideal S8x24576 .f32 :=
  fun i => ∑ k : Fin 4096, rows x (ix2 (i 0) k) * w (ix2 k (i 1))

/-- Its first four rows, each cut in six, are the reference's result. -/
theorem first_rows (x : FVec Ideal S4x4096 .f32) (w : FVec Ideal S4096x24576 .f32) :
    shapeCast S4x6x4096 (extractStridedSlice S4x24576 ![0, 0] (OUT x w) slices_S8x24576_S4x24576_0_0) shapeCasts_S4x24576_S4x6x4096
      = REF x w := by
  funext i
  pointwise [REF, Cert.CondRefIdeal.Read.val_main_v2, Cert.CondRefIdeal.Read.val_main_v1, Cert.CondRefIdeal.Read.val_main_v0, Cert.CondRefIdeal.Read.val_main_call0_v5, Cert.CondRefIdeal.Read.val_main_call0_v4, Cert.CondRefIdeal.Read.val_main_call0_cst_0, Cert.CondRefIdeal.Read.val_main_call0_v3, Cert.CondRefIdeal.Read.val_main_call0_v2, Cert.CondRefIdeal.Read.val_main_call0_cst, Cert.CondRefIdeal.Read.val_main_call0_v1, Cert.CondRefIdeal.Read.val_main_call0_v0, OUT, rows]

/-- Where each window's block sits at a grid point. -/
theorem idx : ∀ t : Fin cfg0.N, win0_0.index t = ![0, 0] ∧ win0_1.index t = ![0, t.val]
    ∧ win0_2.index t = ![0, t.val] ∧ t.val < 48 :=
  (by decide +kernel : ∀ t : Fin grid0.N, _)

/-- What the body stores at block index `y` is the product at the array index `y` sits at. -/
theorem point (c : Dev nD) (t : Fin cfg0.N) (y) : k0_pay1 (iblk m c 0 t) (iblk m c 1 t) y
    = OUT (m ((c : Thread nD τ).loc main_arg0)) (m ((c : Thread nD τ).loc main_arg1))
        (((cfg0.win 2).blk t).view.emb y) := by
  pointwise [k0_pay1, OUT]
  refine Finset.sum_congr rfl fun k _ => congrArg₂ (· * ·) ?_ ?_
  · refine (congrFun (V_rows m c) _).trans (congrArg (rows _) ?_)
    blk_ext [idx t]
  · refine (congrFun (V_arg1 m c) _).trans (congrArg (m ((c : Thread nD τ).loc main_arg1)) ?_)
    blk_ext [idx t]

/-- The call's result array after the run is the product. -/
theorem region (c : Dev nD) : (dats m 0 c).arrAt 2 (cfgs 0).N
    = OUT (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The program's result after the run, cut from the call's result array, is the reference's term. -/
theorem final (c : Dev nD) : Pipeline.afterTail₀ cfgs (dats m) 0 (V0 m) [hostOps1] c main_v11
    = REF (m ((c : Thread nD τ).loc main_arg0)) (m ((c : Thread nD τ).loc main_arg1)) := by
  have h := Pipeline.withArrays_arr (cfgs 0).spec (by decide) c (V0 m c) (fun w => (dats m 0 c).arrAt w (cfgs 0).N) 2
  unfold Pipeline.afterTail₀
  generalize Pipeline.withArrays (cfgs 0).spec c (V0 m c) (fun w => (dats m 0 c).arrAt w (cfgs 0).N) = W at h ⊢
  have h' : W main_v9 = OUT (m ((c : Thread nD τ).loc main_arg0)) (m ((c : Thread nD τ).loc main_arg1)) := h.trans (region m c)
  simp only [hostOps1, List.flatten_cons, List.flatten_nil, List.append_nil, List.cons_append, List.nil_append]
  after_reads_simp
  rw [h']
  exact first_rows _ _

end Cert.CondIdeal.Value

end
-- ==== Proof.MlaPrepValue.lean ====
/- The values of latent attention's preparation: the two norms and the rotated position columns are the reference's. -/
module

public import proofs.«01_k».proof.Proof.Gen.MlaPrepIdeal.Frame
public import proofs.«01_k».proof.Proof.Gen.MlaPrepRefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.MlaPrepIdeal.Value

open Cert.MlaPrepIdeal Cert.MlaPrepIdeal.Gen

variable (m : (ℓ : Loc nD τ sig) → Buf (Elt Ideal) ℓ)

/-- One over the root mean square of a row of length `n`, the mean moved off zero. -/
def scaleOf (n : BitVec 32) (s : EReal) : EReal :=
  Ideal.rsqrt (Ideal.div s (Ideal.ofBits .f32 n) + Ideal.ofBits .f32 0x358637BD#32)

/-- Where each window's block sits at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val % 16, 0] ∧ win0_6.index t = ![t.val % 16, 0]
    ∧ win0_7.index t = ![t.val, 0] ∧ win0_8.index t = ![t.val, 0] ∧ win0_9.index t = ![t.val, 0] ∧ t.val < 64 :=
  (by decide +kernel : ∀ t : Fin grid0.N, _)

/-- The cosines as the call takes them: twice side by side, zeros behind. -/
def cosines (x : FVec Ideal S4096x32 .f32) : FVec Ideal S4096x128 .f32 :=
  concatenate S4096x128 1 [⟨S4096x32, x⟩, ⟨S4096x32, x⟩, ⟨S4096x64, broadcastInDim S4096x64 ![] bcast_S_S4096x64 (constant S_ .f32 0x00000000#32)⟩]
    concatenates_S4096x32_S4096x32_S4096x64_S4096x128_d1

/-- The sines as the call takes them: negated and as they are, side by side, zeros behind. -/
def sines (x : FVec Ideal S4096x32 .f32) : FVec Ideal S4096x128 .f32 :=
  concatenate S4096x128 1 [⟨S4096x32, Host.negf x⟩, ⟨S4096x32, x⟩, ⟨S4096x64, broadcastInDim S4096x64 ![] bcast_S_S4096x64 (constant S_ .f32 0x00000000#32)⟩]
    concatenates_S4096x32_S4096x32_S4096x64_S4096x128_d1

/-- What the host leaves in the call's operand 0. -/
theorem V_in0 (c : Dev nD) : V m c main_v4 = extractStridedSlice S16384x768 ![0, 512] (m ((c : Thread nD τ).loc main_arg0)) slices_S16384x2048_S16384x768_0_512 := by
  unfold_abbrev_sides
  simp only [hostOps0, List.flatten_cons, List.flatten_nil, List.append_nil, List.cons_append, List.nil_append]
  after_reads_simp

/-- What the host leaves in the call's operand 1. -/
theorem V_in1 (c : Dev nD) : V m c main_v5 = extractStridedSlice S16384x512 ![0, 1280] (m ((c : Thread nD τ).loc main_arg0)) slices_S16384x2048_S16384x512_0_1280 := by
  unfold_abbrev_sides
  simp only [hostOps0, List.flatten_cons, List.flatten_nil, List.append_nil, List.cons_append, List.nil_append]
  after_reads_simp

/-- What the host leaves in the call's operand 2. -/
theorem V_in2 (c : Dev nD) : V m c main_v6 = extractStridedSlice S16384x128 ![0, 1792] (m ((c : Thread nD τ).loc main_arg0)) slices_S16384x2048_S16384x128_0_1792 := by
  unfold_abbrev_sides
  simp only [hostOps0, List.flatten_cons, List.flatten_nil, List.append_nil, List.cons_append, List.nil_append]
  after_reads_simp

/-- What the host leaves in the call's operand 3. -/
theorem V_in3 (c : Dev nD) : V m c main_v7 = shapeCast S1x768 (m ((c : Thread nD τ).loc main_arg1)) shapeCasts_S768_S1x768 := by
  unfold_abbrev_sides
  simp only [hostOps0, List.flatten_cons, List.flatten_nil, List.append_nil, List.cons_append, List.nil_append]
  after_reads_simp
  rfl

/-- What the host leaves in the call's operand 4. -/
theorem V_in4 (c : Dev nD) : V m c main_v8 = shapeCast S1x512 (m ((c : Thread nD τ).loc main_arg2)) shapeCasts_S512_S1x512 := by
  unfold_abbrev_sides
  simp only [hostOps0, List.flatten_cons, List.flatten_nil, List.append_nil, List.cons_append, List.nil_append]
  after_reads_simp
  rfl

/-- What the host leaves in the call's operand 5. -/
theorem V_in5 (c : Dev nD) : V m c main_v1 = cosines (m ((c : Thread nD τ).loc main_arg3)) := by
  unfold_abbrev_sides
  simp only [hostOps0, List.flatten_cons, List.flatten_nil, List.append_nil, List.cons_append, List.nil_append]
  after_reads_simp
  rfl

/-- What the host leaves in the call's operand 6. -/
theorem V_in6 (c : Dev nD) : V m c main_v3 = sines (m ((c : Thread nD τ).loc main_arg4)) := by
  unfold_abbrev_sides
  simp only [hostOps0, List.flatten_cons, List.flatten_nil, List.append_nil, List.cons_append, List.nil_append]
  after_reads_simp
  rfl

/-- 768 columns of the projections, read at an index. -/
theorem cols0 (u : FVec Ideal S16384x2048 .f32) (i : S16384x768.Idx) :
    extractStridedSlice S16384x768 ![0, 512] u slices_S16384x2048_S16384x768_0_512 i
      = u (ix2 (i 0) ⟨512 + (i 1).val, by have h : (i 1).val < 768 := (i 1).isLt; omega⟩) := by
  pointwise

/-- 512 columns of the projections, read at an index. -/
theorem cols1 (u : FVec Ideal S16384x2048 .f32) (i : S16384x512.Idx) :
    extractStridedSlice S16384x512 ![0, 1280] u slices_S16384x2048_S16384x512_0_1280 i
      = u (ix2 (i 0) ⟨1280 + (i 1).val, by have h : (i 1).val < 512 := (i 1).isLt; omega⟩) := by
  pointwise

/-- 128 columns of the projections, read at an index. -/
theorem cols2 (u : FVec Ideal S16384x2048 .f32) (i : S16384x128.Idx) :
    extractStridedSlice S16384x128 ![0, 1792] u slices_S16384x2048_S16384x128_0_1792 i
      = u (ix2 (i 0) ⟨1792 + (i 1).val, by have h : (i 1).val < 128 := (i 1).isLt; omega⟩) := by
  pointwise

/-- The reference's normed query columns over the arguments. -/
abbrev REFQ (u : FVec Ideal Cert.MlaPrepRefIdeal.S16384x2048 .f32) (g : FVec Ideal Cert.MlaPrepRefIdeal.S768 .f32) : FVec Ideal Cert.MlaPrepRefIdeal.S16384x768 .bf16 :=
  Cert.MlaPrepRefIdeal.Read.val_main_v35 (F := Ideal) u g

set_option maxHeartbeats 1000000 in
/-- Its entry. -/
theorem refQ_at (u : FVec Ideal Cert.MlaPrepRefIdeal.S16384x2048 .f32) (g : FVec Ideal Cert.MlaPrepRefIdeal.S768 .f32) (i : Cert.MlaPrepRefIdeal.S16384x768.Idx) :
    REFQ u g i = u (ix2 (i 0) ⟨512 + (i 1).val, by have h : (i 1).val < 768 := (i 1).isLt; omega⟩)
      * scaleOf 0x44400000#32 (∑ k : Fin 768, u (ix2 (i 0) ⟨512 + k.val, by omega⟩) * u (ix2 (i 0) ⟨512 + k.val, by omega⟩)) * g (ix1 (i 1)) := by
  pointwise [REFQ, Cert.MlaPrepRefIdeal.Read.val_main_v35, Cert.MlaPrepRefIdeal.Read.val_main_v34, Cert.MlaPrepRefIdeal.Read.val_main_v33, Cert.MlaPrepRefIdeal.Read.val_main_v32, Cert.MlaPrepRefIdeal.Read.val_main_v31, Cert.MlaPrepRefIdeal.Read.val_main_v30, Cert.MlaPrepRefIdeal.Read.val_main_v29, Cert.MlaPrepRefIdeal.Read.val_main_v28, Cert.MlaPrepRefIdeal.Read.val_main_v27, Cert.MlaPrepRefIdeal.Read.val_main_cst_1, Cert.MlaPrepRefIdeal.Read.val_main_v26, Cert.MlaPrepRefIdeal.Read.val_main_v25, Cert.MlaPrepRefIdeal.Read.val_main_cst_0, Cert.MlaPrepRefIdeal.Read.val_main_v24, Cert.MlaPrepRefIdeal.Read.val_main_v23, Cert.MlaPrepRefIdeal.Read.val_main_cst, Cert.MlaPrepRefIdeal.Read.val_main_v22, Cert.MlaPrepRefIdeal.Read.val_main_v21, scaleOf]

set_option maxHeartbeats 1000000 in
/-- The body's entry over its blocks. -/
theorem payQ_at (x : Vec Ideal S256x768 .f32) (g : Vec Ideal S1x768 .f32) (i : S256x768.Idx) :
    k0_pay2 x g i = x i * scaleOf 0x44400000#32 (∑ k : Fin 768, x (ix2 (i 0) k) * x (ix2 (i 0) k)) * g (ix2 0 (i 1)) := by
  pointwise [k0_pay2, scaleOf]

/-- The row of weights as a one-row array, read at an index. -/
theorem rowQ_cast (g : FVec Ideal S768 .f32) (i : S1x768.Idx) :
    shapeCast S1x768 g shapeCasts_S768_S1x768 i = g (ix1 (i 1)) := by
  pointwise
  blk_ext

/-- What the body stores at block index `y` is the reference at the array index `y` sits at. -/
theorem pointQ (c : Dev nD) (t : Fin cfg0.N) (y) : k0_pay2 (iblk m c 0 t) (iblk m c 3 t) y
    = REFQ (m ((c : Thread nD τ).loc main_arg0)) (m ((c : Thread nD τ).loc main_arg1))
        (((cfg0.win 7).blk t).view.emb y) := by
  rw [refQ_at, payQ_at]
  refine congrArg₂ (· * ·) (congrArg₂ (· * ·) ?_
    (congrArg (scaleOf _) (Finset.sum_congr rfl fun k _ => congrArg₂ (· * ·) ?_ ?_))) ?_
  · refine (congrFun (V_in0 m c) _).trans ((cols0 _ _).trans (congrArg (m ((c : Thread nD τ).loc main_arg0)) ?_))
    blk_ext [idx t]
  · refine (congrFun (V_in0 m c) _).trans ((cols0 _ _).trans (congrArg (m ((c : Thread nD τ).loc main_arg0)) ?_))
    blk_ext [idx t]
  · refine (congrFun (V_in0 m c) _).trans ((cols0 _ _).trans (congrArg (m ((c : Thread nD τ).loc main_arg0)) ?_))
    blk_ext [idx t]
  · refine (congrFun (V_in3 m c) _).trans ((rowQ_cast _ _).trans (congrArg (m ((c : Thread nD τ).loc main_arg1)) ?_))
    blk_ext [idx t]

/-- The result array after the run is the reference's term. -/
theorem finalQ (c : Dev nD) : (dats m 0 c).arrAt 7 (cfgs 0).N
    = REFQ (m ((c : Thread nD τ).loc main_arg0)) (m ((c : Thread nD τ).loc main_arg1)) := by
  refine (dats m 0 c).arrAt_eq_of_covers 7 _ (by decide +kernel) fun t _ y => ?_
  blk_simp
  rw [after0_7]; frame_out
  exact pointQ m c t y

/-- The reference's normed key and value columns over the arguments. -/
abbrev REFKv (u : FVec Ideal Cert.MlaPrepRefIdeal.S16384x2048 .f32) (g : FVec Ideal Cert.MlaPrepRefIdeal.S512 .f32) : FVec Ideal Cert.MlaPrepRefIdeal.S16384x512 .bf16 :=
  Cert.MlaPrepRefIdeal.Read.val_main_v50 (F := Ideal) u g

set_option maxHeartbeats 1000000 in
/-- Its entry. -/
theorem refKv_at (u : FVec Ideal Cert.MlaPrepRefIdeal.S16384x2048 .f32) (g : FVec Ideal Cert.MlaPrepRefIdeal.S512 .f32) (i : Cert.MlaPrepRefIdeal.S16384x512.Idx) :
    REFKv u g i = u (ix2 (i 0) ⟨1280 + (i 1).val, by have h : (i 1).val < 512 := (i 1).isLt; omega⟩)
      * scaleOf 0x44000000#32 (∑ k : Fin 512, u (ix2 (i 0) ⟨1280 + k.val, by omega⟩) * u (ix2 (i 0) ⟨1280 + k.val, by omega⟩)) * g (ix1 (i 1)) := by
  pointwise [REFKv, Cert.MlaPrepRefIdeal.Read.val_main_v50, Cert.MlaPrepRefIdeal.Read.val_main_v49, Cert.MlaPrepRefIdeal.Read.val_main_v48, Cert.MlaPrepRefIdeal.Read.val_main_v47, Cert.MlaPrepRefIdeal.Read.val_main_v46, Cert.MlaPrepRefIdeal.Read.val_main_v45, Cert.MlaPrepRefIdeal.Read.val_main_v44, Cert.MlaPrepRefIdeal.Read.val_main_v43, Cert.MlaPrepRefIdeal.Read.val_main_v42, Cert.MlaPrepRefIdeal.Read.val_main_cst_4, Cert.MlaPrepRefIdeal.Read.val_main_v41, Cert.MlaPrepRefIdeal.Read.val_main_v40, Cert.MlaPrepRefIdeal.Read.val_main_cst_3, Cert.MlaPrepRefIdeal.Read.val_main_v39, Cert.MlaPrepRefIdeal.Read.val_main_v38, Cert.MlaPrepRefIdeal.Read.val_main_cst_2, Cert.MlaPrepRefIdeal.Read.val_main_v37, Cert.MlaPrepRefIdeal.Read.val_main_v36, scaleOf]

set_option maxHeartbeats 1000000 in
/-- The body's entry over its blocks. -/
theorem payKv_at (x : Vec Ideal S256x512 .f32) (g : Vec Ideal S1x512 .f32) (i : S256x512.Idx) :
    k0_pay3 x g i = x i * scaleOf 0x44000000#32 (∑ k : Fin 512, x (ix2 (i 0) k) * x (ix2 (i 0) k)) * g (ix2 0 (i 1)) := by
  pointwise [k0_pay3, scaleOf]

/-- The row of weights as a one-row array, read at an index. -/
theorem rowKv_cast (g : FVec Ideal S512 .f32) (i : S1x512.Idx) :
    shapeCast S1x512 g shapeCasts_S512_S1x512 i = g (ix1 (i 1)) := by
  pointwise
  blk_ext

/-- What the body stores at block index `y` is the reference at the array index `y` sits at. -/
theorem pointKv (c : Dev nD) (t : Fin cfg0.N) (y) : k0_pay3 (iblk m c 1 t) (iblk m c 4 t) y
    = REFKv (m ((c : Thread nD τ).loc main_arg0)) (m ((c : Thread nD τ).loc main_arg2))
        (((cfg0.win 8).blk t).view.emb y) := by
  rw [refKv_at, payKv_at]
  refine congrArg₂ (· * ·) (congrArg₂ (· * ·) ?_
    (congrArg (scaleOf _) (Finset.sum_congr rfl fun k _ => congrArg₂ (· * ·) ?_ ?_))) ?_
  · refine (congrFun (V_in1 m c) _).trans ((cols1 _ _).trans (congrArg (m ((c : Thread nD τ).loc main_arg0)) ?_))
    blk_ext [idx t]
  · refine (congrFun (V_in1 m c) _).trans ((cols1 _ _).trans (congrArg (m ((c : Thread nD τ).loc main_arg0)) ?_))
    blk_ext [idx t]
  · refine (congrFun (V_in1 m c) _).trans ((cols1 _ _).trans (congrArg (m ((c : Thread nD τ).loc main_arg0)) ?_))
    blk_ext [idx t]
  · refine (congrFun (V_in4 m c) _).trans ((rowKv_cast _ _).trans (congrArg (m ((c : Thread nD τ).loc main_arg2)) ?_))
    blk_ext [idx t]

/-- The result array after the run is the reference's term. -/
theorem finalKv (c : Dev nD) : (dats m 0 c).arrAt 8 (cfgs 0).N
    = REFKv (m ((c : Thread nD τ).loc main_arg0)) (m ((c : Thread nD τ).loc main_arg2)) := by
  refine (dats m 0 c).arrAt_eq_of_covers 8 _ (by decide +kernel) fun t _ y => ?_
  blk_simp
  rw [after0_8]; frame_out
  exact pointKv m c t y

/-- The reference's rotated position columns over the arguments. -/
abbrev REFPe (u : FVec Ideal Cert.MlaPrepRefIdeal.S16384x2048 .f32) (cs sn : FVec Ideal Cert.MlaPrepRefIdeal.S4096x32 .f32) : FVec Ideal Cert.MlaPrepRefIdeal.S16384x128 .bf16 :=
  Cert.MlaPrepRefIdeal.Read.val_main_v51 (F := Ideal) u cs sn

/-- Whether a lane's number is under sixty-four, as a bit. -/
theorem lane_bit (n : ℕ) (h : n < 128) : IntOp.cmpi .slt (BitVec.ofNat 32 n) 64#32 = if n < 64 then 1#1 else 0#1 := by
  revert n; decide

/-- A choice by such a bit. -/
theorem lane_select (n : ℕ) (h : n < 128) (p q : EReal) :
    Scalar.select (IntOp.cmpi .slt (BitVec.ofNat 32 n) 64#32) p q = if n < 64 then p else q := by
  rw [lane_bit n h]
  by_cases hn : n < 64
  · simp only [if_pos hn]; rfl
  · simp only [if_neg hn]; rfl

/-- A lane rotated back along its row of a hundred and twenty-eight. -/
def back (k : ℕ) (l : Fin 128) : Fin 128 := ⟨(l.val + 128 - k) % 128, Nat.mod_lt _ (by omega)⟩

/-- The body's entry over its blocks: only lanes under sixty-four count. -/
theorem payPe_at (x a b : Vec Ideal S256x128 .f32) (j : S256x128.Idx) :
    k0_pay1 (iota .tc S256x128 32 [1] iota_S256x128_d1_w32) k0_pay4 x a b j
      = (if (j 1).val < 64 then x j * a j else 0)
        + ((if (back 96 (j 1)).val < 64 then x (ix2 (j 0) (back 96 (j 1))) else 0)
          + (if (back 32 (j 1)).val < 64 then x (ix2 (j 0) (back 32 (j 1))) else 0)) * b j := by
  have h : (j 1).val < 128 := (j 1).isLt
  rw [← lane_select _ h, ← lane_select _ (back 96 (j 1)).isLt, ← lane_select _ (back 32 (j 1)).isLt]
  pointwise [k0_pay1, k0_pay4, back]

/-- The filling is zero. -/
theorem fill_zero (ft : FTy) : (FloatOps.sitofp (F := Ideal) ft 0#32 : EReal) = 0 := by
  show (((0#32 : BitVec 32).toInt : ℝ) : EReal) = 0
  simp

/-- The reference's entry in the first half of the rotated lanes. -/
theorem refPe_low (u : FVec Ideal Cert.MlaPrepRefIdeal.S16384x2048 .f32) (cs sn : FVec Ideal Cert.MlaPrepRefIdeal.S4096x32 .f32) (i : Cert.MlaPrepRefIdeal.S16384x128.Idx) (h : (i 1).val < 32) :
    REFPe u cs sn i = u (ix2 (i 0) ⟨1792 + (i 1).val, by omega⟩) * cs (ix2 ⟨(i 0).val % 4096, Nat.mod_lt _ (by omega)⟩ ⟨(i 1).val, h⟩)
      - u (ix2 (i 0) ⟨1824 + (i 1).val, by omega⟩) * sn (ix2 ⟨(i 0).val % 4096, Nat.mod_lt _ (by omega)⟩ ⟨(i 1).val, h⟩) := by
  have h0 : (i 0).val < 16384 := (i 0).isLt
  pointwise [REFPe, Cert.MlaPrepRefIdeal.Read.val_main_v51, Cert.MlaPrepRefIdeal.Read.val_main_v20, Cert.MlaPrepRefIdeal.Read.val_main_v19, Cert.MlaPrepRefIdeal.Read.val_main_call0_v0, Cert.MlaPrepRefIdeal.Read.val_main_c, Cert.MlaPrepRefIdeal.Read.val_main_v18, Cert.MlaPrepRefIdeal.Read.val_main_v17, Cert.MlaPrepRefIdeal.Read.val_main_v16, Cert.MlaPrepRefIdeal.Read.val_main_v15, Cert.MlaPrepRefIdeal.Read.val_main_v14, Cert.MlaPrepRefIdeal.Read.val_main_v13, Cert.MlaPrepRefIdeal.Read.val_main_v12, Cert.MlaPrepRefIdeal.Read.val_main_v11, Cert.MlaPrepRefIdeal.Read.val_main_v10, Cert.MlaPrepRefIdeal.Read.val_main_v9, Cert.MlaPrepRefIdeal.Read.val_main_v8, Cert.MlaPrepRefIdeal.Read.val_main_v7, Cert.MlaPrepRefIdeal.Read.val_main_v6, Cert.MlaPrepRefIdeal.Read.val_main_v5, Cert.MlaPrepRefIdeal.Read.val_main_v4, Cert.MlaPrepRefIdeal.Read.val_main_v3, Cert.MlaPrepRefIdeal.Read.val_main_v2, Cert.MlaPrepRefIdeal.Read.val_main_v1, Cert.MlaPrepRefIdeal.Read.val_main_v0]
  have hc : (i 0).val / 4096 < 4 ∧ (i 0).val % 4096 < 4096 ∧ (i 1).val < 64 := ⟨by omega, by omega, by omega⟩
  simp only [dif_pos hc, dif_pos h]

/-- The reference's entry in the second half of the rotated lanes. -/
theorem refPe_mid (u : FVec Ideal Cert.MlaPrepRefIdeal.S16384x2048 .f32) (cs sn : FVec Ideal Cert.MlaPrepRefIdeal.S4096x32 .f32) (i : Cert.MlaPrepRefIdeal.S16384x128.Idx) (h : ¬ (i 1).val < 32) (h' : (i 1).val < 64) :
    REFPe u cs sn i = u (ix2 (i 0) ⟨1792 + ((i 1).val - 32), by omega⟩) * sn (ix2 ⟨(i 0).val % 4096, Nat.mod_lt _ (by omega)⟩ ⟨(i 1).val - 32, by omega⟩)
      + u (ix2 (i 0) ⟨1824 + ((i 1).val - 32), by omega⟩) * cs (ix2 ⟨(i 0).val % 4096, Nat.mod_lt _ (by omega)⟩ ⟨(i 1).val - 32, by omega⟩) := by
  have h0 : (i 0).val < 16384 := (i 0).isLt
  pointwise [REFPe, Cert.MlaPrepRefIdeal.Read.val_main_v51, Cert.MlaPrepRefIdeal.Read.val_main_v20, Cert.MlaPrepRefIdeal.Read.val_main_v19, Cert.MlaPrepRefIdeal.Read.val_main_call0_v0, Cert.MlaPrepRefIdeal.Read.val_main_c, Cert.MlaPrepRefIdeal.Read.val_main_v18, Cert.MlaPrepRefIdeal.Read.val_main_v17, Cert.MlaPrepRefIdeal.Read.val_main_v16, Cert.MlaPrepRefIdeal.Read.val_main_v15, Cert.MlaPrepRefIdeal.Read.val_main_v14, Cert.MlaPrepRefIdeal.Read.val_main_v13, Cert.MlaPrepRefIdeal.Read.val_main_v12, Cert.MlaPrepRefIdeal.Read.val_main_v11, Cert.MlaPrepRefIdeal.Read.val_main_v10, Cert.MlaPrepRefIdeal.Read.val_main_v9, Cert.MlaPrepRefIdeal.Read.val_main_v8, Cert.MlaPrepRefIdeal.Read.val_main_v7, Cert.MlaPrepRefIdeal.Read.val_main_v6, Cert.MlaPrepRefIdeal.Read.val_main_v5, Cert.MlaPrepRefIdeal.Read.val_main_v4, Cert.MlaPrepRefIdeal.Read.val_main_v3, Cert.MlaPrepRefIdeal.Read.val_main_v2, Cert.MlaPrepRefIdeal.Read.val_main_v1, Cert.MlaPrepRefIdeal.Read.val_main_v0]
  have hc : (i 0).val / 4096 < 4 ∧ (i 0).val % 4096 < 4096 ∧ (i 1).val < 64 := ⟨by omega, by omega, h'⟩
  simp only [dif_pos hc, dif_neg h]

/-- The reference's entry behind the rotated lanes. -/
theorem refPe_high (u : FVec Ideal Cert.MlaPrepRefIdeal.S16384x2048 .f32) (cs sn : FVec Ideal Cert.MlaPrepRefIdeal.S4096x32 .f32) (i : Cert.MlaPrepRefIdeal.S16384x128.Idx) (h : ¬ (i 1).val < 64) :
    REFPe u cs sn i = 0 := by
  pointwise [REFPe, Cert.MlaPrepRefIdeal.Read.val_main_v51, Cert.MlaPrepRefIdeal.Read.val_main_v20, Cert.MlaPrepRefIdeal.Read.val_main_v19, Cert.MlaPrepRefIdeal.Read.val_main_call0_v0, Cert.MlaPrepRefIdeal.Read.val_main_c, Cert.MlaPrepRefIdeal.Read.val_main_v18, Cert.MlaPrepRefIdeal.Read.val_main_v17, Cert.MlaPrepRefIdeal.Read.val_main_v16, Cert.MlaPrepRefIdeal.Read.val_main_v15, Cert.MlaPrepRefIdeal.Read.val_main_v14, Cert.MlaPrepRefIdeal.Read.val_main_v13, Cert.MlaPrepRefIdeal.Read.val_main_v12, Cert.MlaPrepRefIdeal.Read.val_main_v11, Cert.MlaPrepRefIdeal.Read.val_main_v10, Cert.MlaPrepRefIdeal.Read.val_main_v9, Cert.MlaPrepRefIdeal.Read.val_main_v8, Cert.MlaPrepRefIdeal.Read.val_main_v7, Cert.MlaPrepRefIdeal.Read.val_main_v6, Cert.MlaPrepRefIdeal.Read.val_main_v5, Cert.MlaPrepRefIdeal.Read.val_main_v4, Cert.MlaPrepRefIdeal.Read.val_main_v3, Cert.MlaPrepRefIdeal.Read.val_main_v2, Cert.MlaPrepRefIdeal.Read.val_main_v1, Cert.MlaPrepRefIdeal.Read.val_main_v0]
  have hc : ¬ ((i 0).val / 4096 < 4 ∧ (i 0).val % 4096 < 4096 ∧ (i 1).val < 64) := fun hh => h hh.2.2
  simp only [dif_neg hc, fill_zero]

/-- The cosines' table in the first lanes: the cosines. -/
theorem cosines_low (x : FVec Ideal S4096x32 .f32) (i : S4096x128.Idx) (h : (i 1).val < 32) : cosines x i = x (ix2 (i 0) ⟨(i 1).val, h⟩) := by
  pointwise [cosines]
  simp only [dif_pos h]

/-- The cosines once more. -/
theorem cosines_mid (x : FVec Ideal S4096x32 .f32) (i : S4096x128.Idx) (h : ¬ (i 1).val < 32) (h' : (i 1).val < 64) :
    cosines x i = x (ix2 (i 0) ⟨(i 1).val - 32, by omega⟩) := by
  pointwise [cosines]
  simp only [dif_neg h, dif_pos (show (i 1).val - 32 < 32 by omega)]

/-- The sines' table in the first lanes: the sines negated. -/
theorem sines_low (x : FVec Ideal S4096x32 .f32) (i : S4096x128.Idx) (h : (i 1).val < 32) : sines x i = - x (ix2 (i 0) ⟨(i 1).val, h⟩) := by
  pointwise [sines]
  simp only [dif_pos h]

/-- The sines as they are. -/
theorem sines_mid (x : FVec Ideal S4096x32 .f32) (i : S4096x128.Idx) (h : ¬ (i 1).val < 32) (h' : (i 1).val < 64) :
    sines x i = x (ix2 (i 0) ⟨(i 1).val - 32, by omega⟩) := by
  pointwise [sines]
  simp only [dif_neg h, dif_pos (show (i 1).val - 32 < 32 by omega)]

/-- Zeros behind. -/
theorem sines_high (x : FVec Ideal S4096x32 .f32) (i : S4096x128.Idx) (h : ¬ (i 1).val < 64) : sines x i = 0 := by
  have h' : ¬ (i 1).val < 32 := by omega
  pointwise [sines]
  simp only [dif_neg h', dif_neg (show ¬ (i 1).val - 32 < 32 by omega)]

/-- The body's entry over blocks that hold a row of the projections and of the two tables is the reference's entry. -/
theorem rotated (u : FVec Ideal Cert.MlaPrepRefIdeal.S16384x2048 .f32) (cs sn : FVec Ideal Cert.MlaPrepRefIdeal.S4096x32 .f32) (x a b : Vec Ideal S256x128 .f32) (j : S256x128.Idx)
    (i : Cert.MlaPrepRefIdeal.S16384x128.Idx) (hl : (j 1).val = (i 1).val)
    (hx : ∀ k : Fin 128, x (ix2 (j 0) k) = u (ix2 (i 0) ⟨1792 + k.val, by omega⟩))
    (ha : a j = cosines cs (ix2 ⟨(i 0).val % 4096, Nat.mod_lt _ (by omega)⟩ (i 1)))
    (hb : b j = sines sn (ix2 ⟨(i 0).val % 4096, Nat.mod_lt _ (by omega)⟩ (i 1))) :
    k0_pay1 (iota .tc S256x128 32 [1] iota_S256x128_d1_w32) k0_pay4 x a b j = REFPe u cs sn i := by
  have hj : x j = u (ix2 (i 0) ⟨1792 + (j 1).val, by have h : (j 1).val < 128 := (j 1).isLt; omega⟩) :=
    (congrArg x (by funext d; fin_cases d <;> rfl : j = ix2 (j 0) (j 1))).trans (hx (j 1))
  have hlt : (j 1).val < 128 := (j 1).isLt
  have v96 : (back 96 (j 1)).val = ((j 1).val + 128 - 96) % 128 := rfl
  have v32 : (back 32 (j 1)).val = ((j 1).val + 128 - 32) % 128 := rfl
  rw [payPe_at, hj, hx, hx, ha, hb]
  by_cases h32 : (i 1).val < 32
  · rw [refPe_low _ _ _ _ h32, cosines_low _ _ h32, sines_low _ _ h32, if_pos (by omega), if_pos (by omega), if_neg (by omega), add_zero,
      mul_neg, ← sub_eq_add_neg]
    refine congrArg₂ (· - ·) (congrArg₂ (· * ·) (congrArg u ?_) rfl) (congrArg₂ (· * ·) (congrArg u ?_) rfl)
    · blk_ext
    · blk_ext
  · by_cases h64 : (i 1).val < 64
    · rw [refPe_mid _ _ _ _ h32 h64, cosines_mid _ _ h32 h64, sines_mid _ _ h32 h64, if_pos (by omega), if_neg (by omega), if_pos (by omega), zero_add,
        add_comm]
      refine congrArg₂ (· + ·) (congrArg₂ (· * ·) (congrArg u ?_) rfl) (congrArg₂ (· * ·) (congrArg u ?_) rfl)
      · blk_ext
      · blk_ext
    · rw [refPe_high _ _ _ _ h64, sines_high _ _ h64, if_neg (by omega), mul_zero, add_zero]

/-- What the body stores at block index `y` is the reference at the array index `y` sits at. -/
theorem pointPe (c : Dev nD) (t : Fin cfg0.N) (y) :
    k0_pay1 (iota .tc S256x128 32 [1] iota_S256x128_d1_w32) k0_pay4 (iblk m c 2 t) (iblk m c 5 t) (iblk m c 6 t) y
    = REFPe (m ((c : Thread nD τ).loc main_arg0)) (m ((c : Thread nD τ).loc main_arg3)) (m ((c : Thread nD τ).loc main_arg4))
        (((cfg0.win 9).blk t).view.emb y) := by
  refine rotated _ _ _ _ _ _ y _ ?_ (fun k => ?_) ?_ ?_
  · blk_simp [idx t]
  · refine (congrFun (V_in2 m c) _).trans ((cols2 _ _).trans (congrArg (m ((c : Thread nD τ).loc main_arg0)) ?_))
    blk_ext [idx t]
  · refine (congrFun (V_in5 m c) _).trans (congrArg (cosines _) ?_)
    blk_ext [idx t]
  · refine (congrFun (V_in6 m c) _).trans (congrArg (sines _) ?_)
    blk_ext [idx t]

/-- The result array after the run is the reference's term. -/
theorem finalPe (c : Dev nD) : (dats m 0 c).arrAt 9 (cfgs 0).N
    = REFPe (m ((c : Thread nD τ).loc main_arg0)) (m ((c : Thread nD τ).loc main_arg3)) (m ((c : Thread nD τ).loc main_arg4)) := by
  refine (dats m 0 c).arrAt_eq_of_covers 9 _ (by decide +kernel) fun t _ y => ?_
  blk_simp
  rw [after0_9]; frame_out
  exact pointPe m c t y

end Cert.MlaPrepIdeal.Value

end
-- ==== Proof.RwkvPrepValue.lean ====
/- The values of the time mixing's preparation: the shifted and mixed columns, the decays, the rates and the gates are the
   reference's. -/
module

public import proofs.«01_k».proof.Proof.Gen.RwkvPrepIdeal.Frame
public import proofs.«01_k».proof.Proof.Gen.RwkvPrepRefIdeal.Read
public import Idealize.ShloMosaic.Lib.Pipeline.ValueKit
public import Idealize.ShloMosaic.Lib.Pipeline.Covers
public import Idealize.ShloMosaic.Lib.Pipeline.ReadBack
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.RwkvPrepIdeal.Value

open Cert.RwkvPrepIdeal Cert.RwkvPrepIdeal.Gen

variable (m : (ℓ : Loc nD τ sig) → Buf (Elt Ideal) ℓ)

/-- An entry mixed with the entry one row above it in its batch of 4096 rows, a zero above the first. -/
def mixAt {W : ℕ} (u : Fin 16384 → Fin W → EReal) (mu : Fin W → EReal) (r : Fin 16384) (k : Fin W) : EReal :=
  u r k + mu k * ((if r.val % 4096 = 0 then 0 else u ⟨r.val - 1, by omega⟩ k) - u r k)

/-- The same over a block of 128 rows and the row above the block; every 32nd block begins a batch. -/
def blockMix {W : ℕ} (n : ℕ) (x : Fin 128 → Fin W → EReal) (p g : Fin W → EReal) (r : Fin 128) (k : Fin W) : EReal :=
  x r k + g k * ((if r.val = 0 then (if n % 32 = 0 then 0 else p k) else x ⟨(r.val + 128 - 1) % 128, Nat.mod_lt _ (by omega)⟩ k) - x r k)

/-- A block of the rows mixes as the rows do. -/
theorem blockMix_eq {W : ℕ} (u : Fin 16384 → Fin W → EReal) (mu : Fin W → EReal) (n : ℕ) (hn : n < 128) (x : Fin 128 → Fin W → EReal)
    (p g : Fin W → EReal) (hx : ∀ r k, x r k = u ⟨n * 128 + r.val, by omega⟩ k) (hp : ∀ (h : n % 32 ≠ 0) k, p k = u ⟨n * 128 - 1, by omega⟩ k)
    (hg : ∀ k, g k = mu k) (r : Fin 128) (k : Fin W) : blockMix n x p g r k = mixAt u mu ⟨n * 128 + r.val, by omega⟩ k := by
  unfold blockMix mixAt
  rw [hx, hg]
  refine congrArg (fun z : EReal => u ⟨n * 128 + r.val, by omega⟩ k + mu k * (z - u ⟨n * 128 + r.val, by omega⟩ k)) ?_
  by_cases h0 : r.val = 0
  · by_cases h1 : n % 32 = 0
    · rw [if_pos h0, if_pos h1, if_pos (by show (n * 128 + r.val) % 4096 = 0; omega)]
    · rw [if_pos h0, if_neg h1, if_neg (by show ¬ (n * 128 + r.val) % 4096 = 0; omega), hp h1]
      exact congrArg (u · k) (Fin.ext (by show n * 128 - 1 = n * 128 + r.val - 1; omega))
  · rw [if_neg h0, if_neg (by show ¬ (n * 128 + r.val) % 4096 = 0; omega), hx]
    exact congrArg (u · k) (Fin.ext (by show n * 128 + (r.val + 128 - 1) % 128 = n * 128 + r.val - 1; omega))

/-- Whether a block begins a batch, as the body computes it. -/
def firstBit (n : ℕ) : BitVec 1 :=
  Scalar.cmpi .eq (Scalar.select (Scalar.andi (Scalar.xori (Scalar.cmpi .slt (Scalar.remsi (BitVec.ofNat 32 n) (Scalar.select (Scalar.cmpi .eq 32#32 0#32) 1#32 32#32)) 0#32) (Scalar.cmpi .slt (Scalar.select (Scalar.cmpi .eq 32#32 0#32) 1#32 32#32) 0#32)) (Scalar.cmpi .ne (Scalar.remsi (BitVec.ofNat 32 n) (Scalar.select (Scalar.cmpi .eq 32#32 0#32) 1#32 32#32)) 0#32)) (Scalar.addi (Scalar.remsi (BitVec.ofNat 32 n) (Scalar.select (Scalar.cmpi .eq 32#32 0#32) 1#32 32#32)) (Scalar.select (Scalar.cmpi .eq 32#32 0#32) 1#32 32#32)) (Scalar.remsi (BitVec.ofNat 32 n) (Scalar.select (Scalar.cmpi .eq 32#32 0#32) 1#32 32#32))) 0#32

/-- It is whether the block's number is a multiple of 32. -/
theorem firstBit_eq (n : ℕ) (h : n < 128) : firstBit n = if n % 32 = 0 then 1#1 else 0#1 := by
  revert n; decide

/-- Whether a row of a block is its first, as a bit. -/
theorem row_bit (n : ℕ) (h : n < 128) : IntOp.cmpi .eq (BitVec.ofNat 32 n) 0#32 = if n = 0 then 1#1 else 0#1 := by
  revert n; decide

/-- A choice by a bit that says whether a proposition holds. -/
theorem select_ite {α : Type} (q : Prop) [Decidable q] (a b : α) : Scalar.select (if q then 1#1 else 0#1) a b = if q then a else b := by
  by_cases h : q
  · simp only [if_pos h]; rfl
  · simp only [if_neg h]; rfl

/-- A choice between two arrays, read at an index. -/
theorem choice_apply {α β : Type} (q : Prop) [Decidable q] (a b : α → β) (j : α) : (if q then a else b) j = if q then a j else b j := by
  by_cases h : q
  · simp only [if_pos h]
  · simp only [if_neg h]

/-- The logistic function as the body computes it. -/
def sigma (x : EReal) : EReal := Ideal.div (Ideal.ofBits .f32 0x3F800000#32) (Ideal.ofBits .f32 0x3F800000#32 + Ideal.exp (-x))

/-- The literal is one. -/
theorem one_f32 : Ideal.ofBits .f32 0x3F800000#32 = ((1 : ℝ) : EReal) := by
  simp [Ideal.ofBits, Ideal.ieee, -EReal.coe_mul]; norm_num

/-- The filling is zero. -/
theorem fill_zero (ft : FTy) : (FloatOps.sitofp (F := Ideal) ft 0#32 : EReal) = 0 := by
  show (((0#32 : BitVec 32).toInt : ℝ) : EReal) = 0
  simp

/-- The softplus of a real number is the logarithm of one plus its exponential. -/
theorem softplus_real (r : ℝ) : max r 0 + Real.log (1 + Real.exp (-(max r (-r)))) = Real.log (1 + Real.exp r) := by
  rcases le_total 0 r with h | h
  · rw [max_eq_left h, max_eq_left (by linarith), show 1 + Real.exp r = Real.exp r * (1 + Real.exp (-r)) by
      rw [mul_add, mul_one, ← Real.exp_add, add_neg_cancel, Real.exp_zero, add_comm],
      Real.log_mul (Real.exp_pos r).ne' (by positivity), Real.log_exp]
  · rw [max_eq_right h, max_eq_right (by linarith), neg_neg, zero_add]

/-- The logarithm of one plus nothing is zero. -/
theorem log1p_zero : Ideal.log1p 0 = 0 := by
  unfold Ideal.log1p
  rw [add_zero, ← EReal.coe_one, Ideal.log_coe, if_neg (by norm_num), Real.log_one, EReal.coe_zero]

/-- The power of e to minus the softplus of minus a number is the number's logistic. -/
theorem exp_softplus (x : EReal) : Ideal.exp (-(max (-x) 0 + Ideal.log1p (Ideal.exp (-(max (-x) (-(-x)))))))
    = sigma x := by
  unfold sigma
  rw [one_f32]
  induction x using EReal.rec with
  | bot =>
    have h1 : (1 : EReal) + ⊤ = ⊤ := by rw [← EReal.coe_one]; exact EReal.coe_add_top 1
    simp [log1p_zero, Ideal.div, h1]
  | top =>
    have h0 : Ideal.exp 0 = 1 := by rw [← EReal.coe_zero, Ideal.exp_coe, Real.exp_zero, EReal.coe_one]
    simp [log1p_zero, Ideal.div, h0]
  | coe s =>
    have hm : ∀ a b : ℝ, max (a : EReal) (b : EReal) = ((max a b : ℝ) : EReal) := fun a b => (EReal.coe_strictMono.monotone.map_max).symm
    have hp : ∀ a : ℝ, (0 : ℝ) < 1 + Real.exp a := fun a => by positivity
    rw [← EReal.coe_neg, ← EReal.coe_neg, hm, ← EReal.coe_neg, Ideal.exp_coe, Ideal.log1p, ← EReal.coe_one, ← EReal.coe_add, Ideal.log_coe,
      if_neg (hp _).not_ge, ← EReal.coe_zero, hm, ← EReal.coe_add, softplus_real, ← EReal.coe_neg, Ideal.exp_coe, Ideal.exp_coe, ← EReal.coe_add,
      Ideal.div_coe (hp _).ne', ← EReal.coe_mul, Real.exp_neg, Real.exp_log (hp _), one_mul, one_div]

/-- The body's mixed columns, 6144 of them, over its blocks. -/
theorem pay4_at (i : grid0.Coords) (x : Vec Ideal S128x6144 .bf16) (p : Vec Ideal S1x6144 .bf16) (g : Vec Ideal S1x6144 .f32) (j : S128x6144.Idx) :
    k0_pay4 i x p g j = blockMix (i 0).val (fun r k => x (ix2 r k)) (fun k => p (ix2 0 k)) (fun k => g (ix2 0 k)) (j 0) (j 1) := by
  have h : (j 0).val < 128 := (j 0).isLt
  have hn : (i 0).val < 128 := (i 0).isLt
  have e := firstBit_eq _ hn
  unfold firstBit at e
  unfold k0_pay4
  simp only [e, select_ite]
  pointwise [choice_apply, blockMix]
  rw [row_bit _ h, select_ite]

/-- The body's mixed columns, 512 of them, over its blocks. -/
theorem pay9_at (n : ℕ) (hn : n < 128) (x : Vec Ideal S128x512 .f32) (p : Vec Ideal S1x512 .f32) (g : Vec Ideal S1x512 .f32) (j : S128x512.Idx) :
    k0_pay9 (firstBit n) x p g j = blockMix n (fun r k => x (ix2 r k)) (fun k => p (ix2 0 k)) (fun k => g (ix2 0 k)) (j 0) (j 1) := by
  have h : (j 0).val < 128 := (j 0).isLt
  rw [firstBit_eq n hn]
  unfold k0_pay9
  simp only [select_ite]
  pointwise [choice_apply, blockMix]
  rw [row_bit _ h, select_ite]

/-- The rows of which 6144 columns are mixed. -/
def rows6144 (u : FVec Ideal Cert.RwkvPrepRefIdeal.S16384x6144 .bf16) : Fin 16384 → Fin 6144 → EReal := fun r k => u (ix2 r k)

/-- The shares of these columns. -/
def mus6144 (mu : FVec Ideal Cert.RwkvPrepRefIdeal.S6656 .f32) : Fin 6144 → EReal := fun k => mu (ix1 ⟨k.val, by omega⟩)

/-- The reference's mixed columns. -/
theorem ref6144_at (u : FVec Ideal Cert.RwkvPrepRefIdeal.S16384x6144 .bf16) (mu : FVec Ideal Cert.RwkvPrepRefIdeal.S6656 .f32) (i : Cert.RwkvPrepRefIdeal.S16384x6144.Idx) :
    Cert.RwkvPrepRefIdeal.Read.val_main_v11 (F := Ideal) u mu i = mixAt (rows6144 u) (mus6144 mu) (i 0) (i 1) := by
  have h0 : (i 0).val < 16384 := (i 0).isLt
  pointwise [Cert.RwkvPrepRefIdeal.Read.val_main_v11, Cert.RwkvPrepRefIdeal.Read.val_main_v10, Cert.RwkvPrepRefIdeal.Read.val_main_v9, Cert.RwkvPrepRefIdeal.Read.val_main_v8, Cert.RwkvPrepRefIdeal.Read.val_main_v7, Cert.RwkvPrepRefIdeal.Read.val_main_v6, Cert.RwkvPrepRefIdeal.Read.val_main_v5, Cert.RwkvPrepRefIdeal.Read.val_main_v4, Cert.RwkvPrepRefIdeal.Read.val_main_v3, Cert.RwkvPrepRefIdeal.Read.val_main_call0_v0, Cert.RwkvPrepRefIdeal.Read.val_main_c, Cert.RwkvPrepRefIdeal.Read.val_main_v2, Cert.RwkvPrepRefIdeal.Read.val_main_v1, Cert.RwkvPrepRefIdeal.Read.val_main_v0, mixAt, rows6144, mus6144]
  by_cases hr : (i 0).val % 4096 = 0
  · simp only [if_pos hr, dif_neg (show ¬ ((i 0).val / 4096 < 4 ∧ 1 ≤ (i 0).val % 4096 ∧ (i 0).val % 4096 - 1 < 4096) by omega), fill_zero]
  · simp only [if_neg hr, dif_pos (show (i 0).val / 4096 < 4 ∧ 1 ≤ (i 0).val % 4096 ∧ (i 0).val % 4096 - 1 < 4096 by omega),
      show (i 0).val / 4096 * 4096 + ((i 0).val % 4096 - 1) = (i 0).val - 1 by omega]

/-- The rows of which 512 columns are mixed. -/
def rows512 (u : FVec Ideal Cert.RwkvPrepRefIdeal.S16384x2048 .f32) : Fin 16384 → Fin 512 → EReal := fun r k => u (ix2 r ⟨k.val, by omega⟩)

/-- The shares of these columns. -/
def mus512 (mu : FVec Ideal Cert.RwkvPrepRefIdeal.S6656 .f32) : Fin 512 → EReal := fun k => mu (ix1 ⟨6144 + k.val, by omega⟩)

/-- The reference's mixed columns. -/
theorem ref512_at (u : FVec Ideal Cert.RwkvPrepRefIdeal.S16384x2048 .f32) (mu : FVec Ideal Cert.RwkvPrepRefIdeal.S6656 .f32) (i : Cert.RwkvPrepRefIdeal.S16384x512.Idx) :
    Cert.RwkvPrepRefIdeal.Read.val_main_v22 (F := Ideal) u mu i = mixAt (rows512 u) (mus512 mu) (i 0) (i 1) := by
  have h0 : (i 0).val < 16384 := (i 0).isLt
  pointwise [Cert.RwkvPrepRefIdeal.Read.val_main_v22, Cert.RwkvPrepRefIdeal.Read.val_main_v21, Cert.RwkvPrepRefIdeal.Read.val_main_v20, Cert.RwkvPrepRefIdeal.Read.val_main_v19, Cert.RwkvPrepRefIdeal.Read.val_main_v18, Cert.RwkvPrepRefIdeal.Read.val_main_v17, Cert.RwkvPrepRefIdeal.Read.val_main_v16, Cert.RwkvPrepRefIdeal.Read.val_main_v15, Cert.RwkvPrepRefIdeal.Read.val_main_call1_v0, Cert.RwkvPrepRefIdeal.Read.val_main_c_0, Cert.RwkvPrepRefIdeal.Read.val_main_v14, Cert.RwkvPrepRefIdeal.Read.val_main_v13, Cert.RwkvPrepRefIdeal.Read.val_main_v12, mixAt, rows512, mus512]
  by_cases hr : (i 0).val % 4096 = 0
  · simp only [if_pos hr, dif_neg (show ¬ ((i 0).val / 4096 < 4 ∧ 1 ≤ (i 0).val % 4096 ∧ (i 0).val % 4096 - 1 < 4096) by omega), fill_zero]
  · simp only [if_neg hr, dif_pos (show (i 0).val / 4096 < 4 ∧ 1 ≤ (i 0).val % 4096 ∧ (i 0).val % 4096 - 1 < 4096 by omega),
      show (i 0).val / 4096 * 4096 + ((i 0).val % 4096 - 1) = (i 0).val - 1 by omega]

/-- Where each window's block sits at a grid point. -/
theorem idx : ∀ t : Fin cfg0.N, win0_0.index t = ![t.val, 0] ∧ win0_1.index t = ![t.val * 8 - 1, 0] ∧ win0_2.index t = ![t.val, 0]
    ∧ win0_3.index t = ![t.val * 8 - 1, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ t.val < 128 :=
  (by decide +kernel : ∀ t : Fin grid0.N, _)

/-- The grid's one coordinate is the point's number. -/
theorem coord : ∀ t : Fin cfg0.N, (grid0.coords t 0).val = t.val :=
  (by decide +kernel : ∀ t : Fin grid0.N, _)

/-- What the host leaves in the call's operand. -/
theorem V_mu6144 (c : Dev nD) : V m c main_v1 = shapeCast S1x6144 (extractStridedSlice S6144 ![0] (m ((c : Thread nD τ).loc main_arg2)) slices_S6656_S6144_0) shapeCasts_S6144_S1x6144 := by
  unfold_abbrev_sides
  simp only [hostOps0, List.flatten_cons, List.flatten_nil, List.append_nil, List.cons_append, List.nil_append]
  after_reads_simp
  rfl

/-- What the host leaves in the call's operand. -/
theorem V_mu512 (c : Dev nD) : V m c main_v3 = shapeCast S1x512 (extractStridedSlice S512 ![6144] (m ((c : Thread nD τ).loc main_arg2)) slices_S6656_S512_6144) shapeCasts_S512_S1x512 := by
  unfold_abbrev_sides
  simp only [hostOps0, List.flatten_cons, List.flatten_nil, List.append_nil, List.cons_append, List.nil_append]
  after_reads_simp
  rfl

/-- What the host leaves in the call's operand. -/
theorem V_w0 (c : Dev nD) : V m c main_v4 = shapeCast S1x2048 (m ((c : Thread nD τ).loc main_arg3)) shapeCasts_S2048_S1x2048 := by
  unfold_abbrev_sides
  simp only [hostOps0, List.flatten_cons, List.flatten_nil, List.append_nil, List.cons_append, List.nil_append]
  after_reads_simp
  rfl

/-- What the host leaves in the call's operand. -/
theorem V_a0 (c : Dev nD) : V m c main_v5 = shapeCast S1x2048 (m ((c : Thread nD τ).loc main_arg5)) shapeCasts_S2048_S1x2048 := by
  unfold_abbrev_sides
  simp only [hostOps0, List.flatten_cons, List.flatten_nil, List.append_nil, List.cons_append, List.nil_append]
  after_reads_simp
  rfl

/-- What the host leaves in the call's operand. -/
theorem V_wup (c : Dev nD) : V m c main_v6 = (m ((c : Thread nD τ).loc main_arg4)) := by
  unfold_abbrev_sides
  simp only [hostOps0, List.flatten_cons, List.flatten_nil, List.append_nil, List.cons_append, List.nil_append]
  after_reads_simp
  rfl

/-- What the host leaves in the call's operand. -/
theorem V_aup (c : Dev nD) : V m c main_v7 = (m ((c : Thread nD τ).loc main_arg6)) := by
  unfold_abbrev_sides
  simp only [hostOps0, List.flatten_cons, List.flatten_nil, List.append_nil, List.cons_append, List.nil_append]
  after_reads_simp
  rfl

/-- What the host leaves in the call's operand. -/
theorem V_gup (c : Dev nD) : V m c main_v8 = (m ((c : Thread nD τ).loc main_arg7)) := by
  unfold_abbrev_sides
  simp only [hostOps0, List.flatten_cons, List.flatten_nil, List.append_nil, List.cons_append, List.nil_append]
  after_reads_simp
  rfl

/-- The shares as a one-row array, read at an index. -/
theorem mu6144_cast (mu : FVec Ideal S6656 .f32) (k : Fin 6144) :
    shapeCast S1x6144 (extractStridedSlice S6144 ![0] mu slices_S6656_S6144_0) shapeCasts_S6144_S1x6144 (ix2 0 k) = mus6144 mu k := by
  pointwise [mus6144]

/-- The narrow columns' shares as a one-row array, read at an index. -/
theorem mu512_cast (mu : FVec Ideal S6656 .f32) (k : Fin 512) :
    shapeCast S1x512 (extractStridedSlice S512 ![6144] mu slices_S6656_S512_6144) shapeCasts_S512_S1x512 (ix2 0 k) = mus512 mu k := by
  pointwise [mus512]

/-- A row as a one-row array, read at an index. -/
theorem row_cast (g : FVec Ideal S2048 .f32) (i : S1x2048.Idx) :
    shapeCast S1x2048 g shapeCasts_S2048_S1x2048 i = g (ix1 (i 1)) := by
  pointwise
  blk_ext

/-- At a grid point the body mixes the rows it was given: the 6144 columns. -/
theorem mixed6144 (c : Dev nD) (t : Fin cfg0.N) (r : Fin 128) (k : Fin 6144) :
    blockMix t.val (fun r k => iblk m c 0 t (ix2 r k)) (fun k => View.ld (iblk m c 1 t) r0_1 (ix2 0 k)) (fun k => iblk m c 4 t (ix2 0 k)) r k
      = mixAt (rows6144 (m ((c : Thread nD τ).loc main_arg0))) (mus6144 (m ((c : Thread nD τ).loc main_arg2))) ⟨t.val * 128 + r.val, by have := (idx t).2.2.2.2.2.2.2.2.2.2.2.2.2.2.2.2.2; omega⟩ k := by
  refine blockMix_eq _ _ _ (idx t).2.2.2.2.2.2.2.2.2.2.2.2.2.2.2.2.2 _ _ _ (fun r k => ?_) (fun h k => ?_) (fun k => ?_) r k
  · refine (congrFun (V_main_arg0 m c) _).trans (congrArg (m ((c : Thread nD τ).loc main_arg0)) ?_)
    blk_ext [idx t]
  · refine (congrFun (V_main_arg0 m c) _).trans (congrArg (m ((c : Thread nD τ).loc main_arg0)) ?_)
    have e0 : (r0_1.idx (ix2 0 k) 0).val = 15 := rfl
    have e1 : (r0_1.idx (ix2 0 k) 1).val = k.val := by show 0 + 1 * k.val = k.val; omega
    blk_ext [idx t]
    all_goals (try rw [e0]) <;> (try rw [e1]) <;> omega
  · refine (congrFun (V_mu6144 m c) _).trans (Eq.trans (congrArg _ ?_) (mu6144_cast _ k))
    blk_ext [idx t]

/-- At a grid point the body mixes the rows it was given: the 512 columns. -/
theorem mixed512 (c : Dev nD) (t : Fin cfg0.N) (r : Fin 128) (k : Fin 512) :
    blockMix t.val (fun r k => iblk m c 2 t (ix2 r k)) (fun k => View.ld (iblk m c 3 t) r0_5 (ix2 0 k)) (fun k => iblk m c 5 t (ix2 0 k)) r k
      = mixAt (rows512 (m ((c : Thread nD τ).loc main_arg1))) (mus512 (m ((c : Thread nD τ).loc main_arg2))) ⟨t.val * 128 + r.val, by have := (idx t).2.2.2.2.2.2.2.2.2.2.2.2.2.2.2.2.2; omega⟩ k := by
  refine blockMix_eq _ _ _ (idx t).2.2.2.2.2.2.2.2.2.2.2.2.2.2.2.2.2 _ _ _ (fun r k => ?_) (fun h k => ?_) (fun k => ?_) r k
  · refine (congrFun (V_main_arg1 m c) _).trans (congrArg (m ((c : Thread nD τ).loc main_arg1)) ?_)
    blk_ext [idx t]
  · refine (congrFun (V_main_arg1 m c) _).trans (congrArg (m ((c : Thread nD τ).loc main_arg1)) ?_)
    have e0 : (r0_5.idx (ix2 0 k) 0).val = 15 := rfl
    have e1 : (r0_5.idx (ix2 0 k) 1).val = k.val := by show 0 + 1 * k.val = k.val; omega
    blk_ext [idx t]
    all_goals (try rw [e0]) <;> (try rw [e1]) <;> omega
  · refine (congrFun (V_mu512 m c) _).trans (Eq.trans (congrArg _ ?_) (mu512_cast _ k))
    blk_ext [idx t]

/-- The body's receptance columns are 2048 of the mixed ones. -/
theorem payR_at (i : grid0.Coords) (x : Vec Ideal S128x6144 .bf16) (p : Vec Ideal S1x6144 .bf16) (g : Vec Ideal S1x6144 .f32) (j : S128x2048.Idx) :
    k0_pay5 i x p g j = k0_pay4 i x p g (ix2 (j 0) ⟨0 + (j 1).val, by have h : (j 1).val < 2048 := (j 1).isLt; omega⟩) := by
  pointwise [k0_pay5]

/-- The reference's receptance columns are 2048 of the mixed ones. -/
theorem refR_at (u : FVec Ideal Cert.RwkvPrepRefIdeal.S16384x6144 .bf16) (mu : FVec Ideal Cert.RwkvPrepRefIdeal.S6656 .f32) (i : Cert.RwkvPrepRefIdeal.S16384x2048.Idx) :
    Cert.RwkvPrepRefIdeal.Read.val_main_v54 (F := Ideal) u mu i
      = Cert.RwkvPrepRefIdeal.Read.val_main_v11 (F := Ideal) u mu (ix2 (i 0) ⟨0 + (i 1).val, by have h : (i 1).val < 2048 := (i 1).isLt; omega⟩) := by
  pointwise [Cert.RwkvPrepRefIdeal.Read.val_main_v54]

/-- What the body stores of the receptance columns at block index `j` is the reference's entry of the row and column the index stands for. -/
theorem storedR (c : Dev nD) (t : Fin cfg0.N) (j : S128x2048.Idx) (i : Cert.RwkvPrepRefIdeal.S16384x2048.Idx) (h0 : (i 0).val = t.val * 128 + (j 0).val) (h1 : (i 1).val = (j 1).val) :
    k0_pay5 (grid0.coords t) (iblk m c 0 t) (View.ld (iblk m c 1 t) r0_1) (iblk m c 4 t) j = Cert.RwkvPrepRefIdeal.Read.val_main_v54 (F := Ideal) (m ((c : Thread nD τ).loc main_arg0)) (m ((c : Thread nD τ).loc main_arg2)) i := by
  rw [payR_at, pay4_at, refR_at, ref6144_at, coord]
  refine (mixed6144 m c t _ _).trans (congrArg₂ (mixAt _ _) (Fin.ext h0.symm) (Fin.ext ?_))
  show 0 + (j 1).val = 0 + (i 1).val
  rw [h1]

/-- The same at the array index a block index sits at. -/
theorem pointR (c : Dev nD) (t : Fin cfg0.N) (y) :
    k0_pay5 (grid0.coords t) (iblk m c 0 t) (View.ld (iblk m c 1 t) r0_1) (iblk m c 4 t) y = Cert.RwkvPrepRefIdeal.Read.val_main_v54 (F := Ideal) (m ((c : Thread nD τ).loc main_arg0)) (m ((c : Thread nD τ).loc main_arg2)) (((cfg0.win 11).blk t).view.emb y) := by
  refine storedR m c t y _ ?_ ?_ <;> blk_simp [idx t]

/-- The receptance columns after the run are the reference's. -/
theorem finalR (c : Dev nD) : (dats m 0 c).arrAt 11 (cfgs 0).N = Cert.RwkvPrepRefIdeal.Read.val_main_v54 (F := Ideal) (m ((c : Thread nD τ).loc main_arg0)) (m ((c : Thread nD τ).loc main_arg2)) := by
  refine (dats m 0 c).arrAt_eq_of_covers 11 _ (by decide +kernel) fun t _ y => ?_
  blk_simp
  rw [after0_11]; frame_out
  exact pointR m c t y

/-- The body's key columns are 2048 of the mixed ones. -/
theorem payK_at (i : grid0.Coords) (x : Vec Ideal S128x6144 .bf16) (p : Vec Ideal S1x6144 .bf16) (g : Vec Ideal S1x6144 .f32) (j : S128x2048.Idx) :
    k0_pay6 i x p g j = k0_pay4 i x p g (ix2 (j 0) ⟨2048 + (j 1).val, by have h : (j 1).val < 2048 := (j 1).isLt; omega⟩) := by
  pointwise [k0_pay6]

/-- The reference's key columns are 2048 of the mixed ones. -/
theorem refK_at (u : FVec Ideal Cert.RwkvPrepRefIdeal.S16384x6144 .bf16) (mu : FVec Ideal Cert.RwkvPrepRefIdeal.S6656 .f32) (i : Cert.RwkvPrepRefIdeal.S16384x2048.Idx) :
    Cert.RwkvPrepRefIdeal.Read.val_main_v55 (F := Ideal) u mu i
      = Cert.RwkvPrepRefIdeal.Read.val_main_v11 (F := Ideal) u mu (ix2 (i 0) ⟨2048 + (i 1).val, by have h : (i 1).val < 2048 := (i 1).isLt; omega⟩) := by
  pointwise [Cert.RwkvPrepRefIdeal.Read.val_main_v55]

/-- What the body stores of the key columns at block index `j` is the reference's entry of the row and column the index stands for. -/
theorem storedK (c : Dev nD) (t : Fin cfg0.N) (j : S128x2048.Idx) (i : Cert.RwkvPrepRefIdeal.S16384x2048.Idx) (h0 : (i 0).val = t.val * 128 + (j 0).val) (h1 : (i 1).val = (j 1).val) :
    k0_pay6 (grid0.coords t) (iblk m c 0 t) (View.ld (iblk m c 1 t) r0_1) (iblk m c 4 t) j = Cert.RwkvPrepRefIdeal.Read.val_main_v55 (F := Ideal) (m ((c : Thread nD τ).loc main_arg0)) (m ((c : Thread nD τ).loc main_arg2)) i := by
  rw [payK_at, pay4_at, refK_at, ref6144_at, coord]
  refine (mixed6144 m c t _ _).trans (congrArg₂ (mixAt _ _) (Fin.ext h0.symm) (Fin.ext ?_))
  show 2048 + (j 1).val = 2048 + (i 1).val
  rw [h1]

/-- The same at the array index a block index sits at. -/
theorem pointK (c : Dev nD) (t : Fin cfg0.N) (y) :
    k0_pay6 (grid0.coords t) (iblk m c 0 t) (View.ld (iblk m c 1 t) r0_1) (iblk m c 4 t) y = Cert.RwkvPrepRefIdeal.Read.val_main_v55 (F := Ideal) (m ((c : Thread nD τ).loc main_arg0)) (m ((c : Thread nD τ).loc main_arg2)) (((cfg0.win 12).blk t).view.emb y) := by
  refine storedK m c t y _ ?_ ?_ <;> blk_simp [idx t]

/-- The key columns after the run are the reference's. -/
theorem finalK (c : Dev nD) : (dats m 0 c).arrAt 12 (cfgs 0).N = Cert.RwkvPrepRefIdeal.Read.val_main_v55 (F := Ideal) (m ((c : Thread nD τ).loc main_arg0)) (m ((c : Thread nD τ).loc main_arg2)) := by
  refine (dats m 0 c).arrAt_eq_of_covers 12 _ (by decide +kernel) fun t _ y => ?_
  blk_simp
  rw [after0_12]; frame_out
  exact pointK m c t y

/-- The body's value columns are 2048 of the mixed ones. -/
theorem payVal_at (i : grid0.Coords) (x : Vec Ideal S128x6144 .bf16) (p : Vec Ideal S1x6144 .bf16) (g : Vec Ideal S1x6144 .f32) (j : S128x2048.Idx) :
    k0_pay8 (k0_pay7 i x p g) j = k0_pay4 i x p g (ix2 (j 0) ⟨4096 + (j 1).val, by have h : (j 1).val < 2048 := (j 1).isLt; omega⟩) := by
  pointwise [k0_pay8, k0_pay7]

/-- The reference's value columns are 2048 of the mixed ones. -/
theorem refVal_at (u : FVec Ideal Cert.RwkvPrepRefIdeal.S16384x6144 .bf16) (mu : FVec Ideal Cert.RwkvPrepRefIdeal.S6656 .f32) (i : Cert.RwkvPrepRefIdeal.S16384x2048.Idx) :
    Cert.RwkvPrepRefIdeal.Read.val_main_v56 (F := Ideal) u mu i
      = Cert.RwkvPrepRefIdeal.Read.val_main_v11 (F := Ideal) u mu (ix2 (i 0) ⟨4096 + (i 1).val, by have h : (i 1).val < 2048 := (i 1).isLt; omega⟩) := by
  pointwise [Cert.RwkvPrepRefIdeal.Read.val_main_v56]

/-- What the body stores of the value columns at block index `j` is the reference's entry of the row and column the index stands for. -/
theorem storedVal (c : Dev nD) (t : Fin cfg0.N) (j : S128x2048.Idx) (i : Cert.RwkvPrepRefIdeal.S16384x2048.Idx) (h0 : (i 0).val = t.val * 128 + (j 0).val) (h1 : (i 1).val = (j 1).val) :
    k0_pay8 (k0_pay7 (grid0.coords t) (iblk m c 0 t) (View.ld (iblk m c 1 t) r0_1) (iblk m c 4 t)) j = Cert.RwkvPrepRefIdeal.Read.val_main_v56 (F := Ideal) (m ((c : Thread nD τ).loc main_arg0)) (m ((c : Thread nD τ).loc main_arg2)) i := by
  rw [payVal_at, pay4_at, refVal_at, ref6144_at, coord]
  refine (mixed6144 m c t _ _).trans (congrArg₂ (mixAt _ _) (Fin.ext h0.symm) (Fin.ext ?_))
  show 4096 + (j 1).val = 4096 + (i 1).val
  rw [h1]

/-- The same at the array index a block index sits at. -/
theorem pointVal (c : Dev nD) (t : Fin cfg0.N) (y) :
    k0_pay8 (k0_pay7 (grid0.coords t) (iblk m c 0 t) (View.ld (iblk m c 1 t) r0_1) (iblk m c 4 t)) y = Cert.RwkvPrepRefIdeal.Read.val_main_v56 (F := Ideal) (m ((c : Thread nD τ).loc main_arg0)) (m ((c : Thread nD τ).loc main_arg2)) (((cfg0.win 13).blk t).view.emb y) := by
  refine storedVal m c t y _ ?_ ?_ <;> blk_simp [idx t]

/-- The value columns after the run are the reference's. -/
theorem finalVal (c : Dev nD) : (dats m 0 c).arrAt 13 (cfgs 0).N = Cert.RwkvPrepRefIdeal.Read.val_main_v56 (F := Ideal) (m ((c : Thread nD τ).loc main_arg0)) (m ((c : Thread nD τ).loc main_arg2)) := by
  refine (dats m 0 c).arrAt_eq_of_covers 13 _ (by decide +kernel) fun t _ y => ?_
  blk_simp
  rw [after0_13]; frame_out
  exact pointVal m c t y

/-- The log decay of a row's mixed narrow columns: the literal times the logistic of the low-rank map. -/
noncomputable def decay (h : Fin 512 → EReal) (w : Fin 128 → EReal) (b : EReal) : EReal :=
  Ideal.ofBits .f32 0xBF1B4598#32 * sigma (b + ∑ k : Fin 128, Ideal.tanh (h ⟨k.val, by omega⟩) * w k)

/-- The rate of a row's mixed narrow columns: the logistic of the low-rank map. -/
noncomputable def rate (h : Fin 512 → EReal) (w : Fin 128 → EReal) (b : EReal) : EReal :=
  sigma (b + ∑ k : Fin 128, h ⟨128 + k.val, by omega⟩ * w k)

/-- The gate of a row's mixed narrow columns: the low-rank map of the logistics. -/
noncomputable def gate (h : Fin 512 → EReal) (w : Fin 256 → EReal) : EReal :=
  ∑ k : Fin 256, sigma (h ⟨256 + k.val, by omega⟩) * w k

/-- The body's decay at an index. -/
theorem payDecay_at (i : grid0.Coords) (x : Vec Ideal S128x512 .f32) (p : Vec Ideal S1x512 .f32) (g : Vec Ideal S1x512 .f32) (w : Vec Ideal S128x2048 .bf16) (b : Vec Ideal S1x2048 .f32) (j : S128x2048.Idx) :
    k0_pay1 (k0_pay12 (firstBit (i 0).val) x p g b w) k0_pay13 j = decay (fun k => k0_pay9 (firstBit (i 0).val) x p g (ix2 (j 0) k)) (fun k => w (ix2 k (j 1))) (b (ix2 0 (j 1))) := by
  pointwise [k0_pay1, k0_pay12, k0_pay13, decay, sigma]
  simp only [zero_sub]

/-- The reference's decay at an index. -/
theorem refDecay_at (u : FVec Ideal Cert.RwkvPrepRefIdeal.S16384x2048 .f32) (mu : FVec Ideal Cert.RwkvPrepRefIdeal.S6656 .f32) (w0 : FVec Ideal Cert.RwkvPrepRefIdeal.S2048 .f32) (w : FVec Ideal Cert.RwkvPrepRefIdeal.S128x2048 .f32) (i : Cert.RwkvPrepRefIdeal.S16384x2048.Idx) :
    Cert.RwkvPrepRefIdeal.Read.val_main_v36 (F := Ideal) u mu w0 w i
      = decay (fun k => Cert.RwkvPrepRefIdeal.Read.val_main_v22 (F := Ideal) u mu (ix2 (i 0) k)) (fun k => w (ix2 k (i 1))) (w0 (ix1 (i 1))) := by
  pointwise [Cert.RwkvPrepRefIdeal.Read.val_main_v36, Cert.RwkvPrepRefIdeal.Read.val_main_v35, Cert.RwkvPrepRefIdeal.Read.val_main_cst, Cert.RwkvPrepRefIdeal.Read.val_main_v34, Cert.RwkvPrepRefIdeal.Read.val_main_v33, Cert.RwkvPrepRefIdeal.Read.val_main_v32, Cert.RwkvPrepRefIdeal.Read.val_main_call2_v11, Cert.RwkvPrepRefIdeal.Read.val_main_call2_v10, Cert.RwkvPrepRefIdeal.Read.val_main_call2_v9, Cert.RwkvPrepRefIdeal.Read.val_main_call2_v8, Cert.RwkvPrepRefIdeal.Read.val_main_call2_v7, Cert.RwkvPrepRefIdeal.Read.val_main_call2_v6, Cert.RwkvPrepRefIdeal.Read.val_main_call2_v5, Cert.RwkvPrepRefIdeal.Read.val_main_call2_v4, Cert.RwkvPrepRefIdeal.Read.val_main_call2_v3, Cert.RwkvPrepRefIdeal.Read.val_main_call2_v2, Cert.RwkvPrepRefIdeal.Read.val_main_call2_v1, Cert.RwkvPrepRefIdeal.Read.val_main_call2_v0, Cert.RwkvPrepRefIdeal.Read.val_main_call2_cst, Cert.RwkvPrepRefIdeal.Read.val_main_v31, Cert.RwkvPrepRefIdeal.Read.val_main_v30, Cert.RwkvPrepRefIdeal.Read.val_main_v29, Cert.RwkvPrepRefIdeal.Read.val_main_v28, Cert.RwkvPrepRefIdeal.Read.val_main_v27, Cert.RwkvPrepRefIdeal.Read.val_main_v26, Cert.RwkvPrepRefIdeal.Read.val_main_v23, decay]
  simp only [ne_eq, not_true_eq_false, if_false]
  exact congrArg _ (exp_softplus _)

/-- What the body stores of the decays at block index `j` is the reference's entry of the row and column the index stands for. -/
theorem storedDecay (c : Dev nD) (t : Fin cfg0.N) (j : S128x2048.Idx) (i : Cert.RwkvPrepRefIdeal.S16384x2048.Idx) (h0 : (i 0).val = t.val * 128 + (j 0).val) (h1 : (i 1).val = (j 1).val) :
    k0_pay1 (k0_pay12 (firstBit (grid0.coords t 0).val) (iblk m c 2 t) (View.ld (iblk m c 3 t) r0_5) (iblk m c 5 t) (iblk m c 6 t) (iblk m c 8 t)) k0_pay13 j = Cert.RwkvPrepRefIdeal.Read.val_main_v36 (F := Ideal) (m ((c : Thread nD τ).loc main_arg1)) (m ((c : Thread nD τ).loc main_arg2)) (m ((c : Thread nD τ).loc main_arg3)) (m ((c : Thread nD τ).loc main_arg4)) i := by
  have hn : (grid0.coords t 0).val < 128 := by
    rw [coord]; exact (idx t).2.2.2.2.2.2.2.2.2.2.2.2.2.2.2.2.2
  rw [payDecay_at, refDecay_at]
  refine congr (congrArg₂ decay (funext fun k => ?_) (funext fun k => ?_)) ?_
  · rw [pay9_at _ hn, ref512_at, coord]
    exact (mixed512 m c t _ _).trans (congrArg₂ (mixAt _ _) (Fin.ext h0.symm) (Fin.ext rfl))
  · refine (congrFun (V_wup m c) _).trans (congrArg (m ((c : Thread nD τ).loc main_arg4)) ?_)
    blk_ext [idx t, h1]
  · refine (congrFun (V_w0 m c) _).trans ((row_cast _ _).trans (congrArg _ ?_))
    blk_ext [idx t, h1]

/-- The same at the array index a block index sits at. -/
theorem pointDecay (c : Dev nD) (t : Fin cfg0.N) (y) :
    k0_pay1 (k0_pay12 (firstBit (grid0.coords t 0).val) (iblk m c 2 t) (View.ld (iblk m c 3 t) r0_5) (iblk m c 5 t) (iblk m c 6 t) (iblk m c 8 t)) k0_pay13 y = Cert.RwkvPrepRefIdeal.Read.val_main_v36 (F := Ideal) (m ((c : Thread nD τ).loc main_arg1)) (m ((c : Thread nD τ).loc main_arg2)) (m ((c : Thread nD τ).loc main_arg3)) (m ((c : Thread nD τ).loc main_arg4)) (((cfg0.win 14).blk t).view.emb y) := by
  refine storedDecay m c t y _ ?_ ?_ <;> blk_simp [idx t]

/-- The decays after the run are the reference's. -/
theorem finalDecay (c : Dev nD) : (dats m 0 c).arrAt 14 (cfgs 0).N = Cert.RwkvPrepRefIdeal.Read.val_main_v36 (F := Ideal) (m ((c : Thread nD τ).loc main_arg1)) (m ((c : Thread nD τ).loc main_arg2)) (m ((c : Thread nD τ).loc main_arg3)) (m ((c : Thread nD τ).loc main_arg4)) := by
  refine (dats m 0 c).arrAt_eq_of_covers 14 _ (by decide +kernel) fun t _ y => ?_
  blk_simp
  rw [after0_14]; frame_out
  exact pointDecay m c t y

/-- The body's rate at an index. -/
theorem payRate_at (i : grid0.Coords) (x : Vec Ideal S128x512 .f32) (p : Vec Ideal S1x512 .f32) (g : Vec Ideal S1x512 .f32) (w : Vec Ideal S128x2048 .bf16) (b : Vec Ideal S1x2048 .f32) (j : S128x2048.Idx) :
    k0_pay2 (k0_pay10 (firstBit (i 0).val) x p g) b w j = rate (fun k => k0_pay9 (firstBit (i 0).val) x p g (ix2 (j 0) k)) (fun k => w (ix2 k (j 1))) (b (ix2 0 (j 1))) := by
  pointwise [k0_pay2, k0_pay10, rate, sigma]
  simp only [zero_sub]

/-- The reference's rate at an index. -/
theorem refRate_at (u : FVec Ideal Cert.RwkvPrepRefIdeal.S16384x2048 .f32) (mu : FVec Ideal Cert.RwkvPrepRefIdeal.S6656 .f32) (w0 : FVec Ideal Cert.RwkvPrepRefIdeal.S2048 .f32) (w : FVec Ideal Cert.RwkvPrepRefIdeal.S128x2048 .f32) (i : Cert.RwkvPrepRefIdeal.S16384x2048.Idx) :
    Cert.RwkvPrepRefIdeal.Read.val_main_v46 (F := Ideal) u mu w0 w i
      = rate (fun k => Cert.RwkvPrepRefIdeal.Read.val_main_v22 (F := Ideal) u mu (ix2 (i 0) k)) (fun k => w (ix2 k (i 1))) (w0 (ix1 (i 1))) := by
  pointwise [Cert.RwkvPrepRefIdeal.Read.val_main_v46, Cert.RwkvPrepRefIdeal.Read.val_main_v45, Cert.RwkvPrepRefIdeal.Read.val_main_cst_2, Cert.RwkvPrepRefIdeal.Read.val_main_v44, Cert.RwkvPrepRefIdeal.Read.val_main_v43, Cert.RwkvPrepRefIdeal.Read.val_main_cst_1, Cert.RwkvPrepRefIdeal.Read.val_main_v42, Cert.RwkvPrepRefIdeal.Read.val_main_v41, Cert.RwkvPrepRefIdeal.Read.val_main_v40, Cert.RwkvPrepRefIdeal.Read.val_main_v39, Cert.RwkvPrepRefIdeal.Read.val_main_v38, Cert.RwkvPrepRefIdeal.Read.val_main_v37, Cert.RwkvPrepRefIdeal.Read.val_main_v24, rate, sigma]

/-- What the body stores of the rates at block index `j` is the reference's entry of the row and column the index stands for. -/
theorem storedRate (c : Dev nD) (t : Fin cfg0.N) (j : S128x2048.Idx) (i : Cert.RwkvPrepRefIdeal.S16384x2048.Idx) (h0 : (i 0).val = t.val * 128 + (j 0).val) (h1 : (i 1).val = (j 1).val) :
    k0_pay2 (k0_pay10 (firstBit (grid0.coords t 0).val) (iblk m c 2 t) (View.ld (iblk m c 3 t) r0_5) (iblk m c 5 t)) (iblk m c 7 t) (iblk m c 9 t) j = Cert.RwkvPrepRefIdeal.Read.val_main_v46 (F := Ideal) (m ((c : Thread nD τ).loc main_arg1)) (m ((c : Thread nD τ).loc main_arg2)) (m ((c : Thread nD τ).loc main_arg5)) (m ((c : Thread nD τ).loc main_arg6)) i := by
  have hn : (grid0.coords t 0).val < 128 := by
    rw [coord]; exact (idx t).2.2.2.2.2.2.2.2.2.2.2.2.2.2.2.2.2
  rw [payRate_at, refRate_at]
  refine congr (congrArg₂ rate (funext fun k => ?_) (funext fun k => ?_)) ?_
  · rw [pay9_at _ hn, ref512_at, coord]
    exact (mixed512 m c t _ _).trans (congrArg₂ (mixAt _ _) (Fin.ext h0.symm) (Fin.ext rfl))
  · refine (congrFun (V_aup m c) _).trans (congrArg (m ((c : Thread nD τ).loc main_arg6)) ?_)
    blk_ext [idx t, h1]
  · refine (congrFun (V_a0 m c) _).trans ((row_cast _ _).trans (congrArg _ ?_))
    blk_ext [idx t, h1]

/-- The same at the array index a block index sits at. -/
theorem pointRate (c : Dev nD) (t : Fin cfg0.N) (y) :
    k0_pay2 (k0_pay10 (firstBit (grid0.coords t 0).val) (iblk m c 2 t) (View.ld (iblk m c 3 t) r0_5) (iblk m c 5 t)) (iblk m c 7 t) (iblk m c 9 t) y = Cert.RwkvPrepRefIdeal.Read.val_main_v46 (F := Ideal) (m ((c : Thread nD τ).loc main_arg1)) (m ((c : Thread nD τ).loc main_arg2)) (m ((c : Thread nD τ).loc main_arg5)) (m ((c : Thread nD τ).loc main_arg6)) (((cfg0.win 15).blk t).view.emb y) := by
  refine storedRate m c t y _ ?_ ?_ <;> blk_simp [idx t]

/-- The rates after the run are the reference's. -/
theorem finalRate (c : Dev nD) : (dats m 0 c).arrAt 15 (cfgs 0).N = Cert.RwkvPrepRefIdeal.Read.val_main_v46 (F := Ideal) (m ((c : Thread nD τ).loc main_arg1)) (m ((c : Thread nD τ).loc main_arg2)) (m ((c : Thread nD τ).loc main_arg5)) (m ((c : Thread nD τ).loc main_arg6)) := by
  refine (dats m 0 c).arrAt_eq_of_covers 15 _ (by decide +kernel) fun t _ y => ?_
  blk_simp
  rw [after0_15]; frame_out
  exact pointRate m c t y

/-- The body's gate at an index. -/
theorem payGate_at (i : grid0.Coords) (x : Vec Ideal S128x512 .f32) (p : Vec Ideal S1x512 .f32) (g : Vec Ideal S1x512 .f32) (w : Vec Ideal S256x2048 .bf16) (j : S128x2048.Idx) :
    k0_pay3 (k0_pay11 (firstBit (i 0).val) x p g) w j = gate (fun k => k0_pay9 (firstBit (i 0).val) x p g (ix2 (j 0) k)) (fun k => w (ix2 k (j 1))) := by
  pointwise [k0_pay3, k0_pay11, gate, sigma]
  simp only [zero_sub]

/-- The reference's gate at an index. -/
theorem refGate_at (u : FVec Ideal Cert.RwkvPrepRefIdeal.S16384x2048 .f32) (mu : FVec Ideal Cert.RwkvPrepRefIdeal.S6656 .f32) (w : FVec Ideal Cert.RwkvPrepRefIdeal.S256x2048 .f32) (i : Cert.RwkvPrepRefIdeal.S16384x2048.Idx) :
    Cert.RwkvPrepRefIdeal.Read.val_main_v57 (F := Ideal) u mu w i
      = gate (fun k => Cert.RwkvPrepRefIdeal.Read.val_main_v22 (F := Ideal) u mu (ix2 (i 0) k)) (fun k => w (ix2 k (i 1))) := by
  pointwise [Cert.RwkvPrepRefIdeal.Read.val_main_v57, Cert.RwkvPrepRefIdeal.Read.val_main_v53, Cert.RwkvPrepRefIdeal.Read.val_main_v52, Cert.RwkvPrepRefIdeal.Read.val_main_v51, Cert.RwkvPrepRefIdeal.Read.val_main_cst_4, Cert.RwkvPrepRefIdeal.Read.val_main_v50, Cert.RwkvPrepRefIdeal.Read.val_main_v49, Cert.RwkvPrepRefIdeal.Read.val_main_cst_3, Cert.RwkvPrepRefIdeal.Read.val_main_v48, Cert.RwkvPrepRefIdeal.Read.val_main_v47, Cert.RwkvPrepRefIdeal.Read.val_main_v25, gate, sigma]

/-- What the body stores of the gates at block index `j` is the reference's entry of the row and column the index stands for. -/
theorem storedGate (c : Dev nD) (t : Fin cfg0.N) (j : S128x2048.Idx) (i : Cert.RwkvPrepRefIdeal.S16384x2048.Idx) (h0 : (i 0).val = t.val * 128 + (j 0).val) (h1 : (i 1).val = (j 1).val) :
    k0_pay3 (k0_pay11 (firstBit (grid0.coords t 0).val) (iblk m c 2 t) (View.ld (iblk m c 3 t) r0_5) (iblk m c 5 t)) (iblk m c 10 t) j = Cert.RwkvPrepRefIdeal.Read.val_main_v57 (F := Ideal) (m ((c : Thread nD τ).loc main_arg1)) (m ((c : Thread nD τ).loc main_arg2)) (m ((c : Thread nD τ).loc main_arg7)) i := by
  have hn : (grid0.coords t 0).val < 128 := by
    rw [coord]; exact (idx t).2.2.2.2.2.2.2.2.2.2.2.2.2.2.2.2.2
  rw [payGate_at, refGate_at]
  refine congrArg₂ gate (funext fun k => ?_) (funext fun k => ?_)
  · rw [pay9_at _ hn, ref512_at, coord]
    exact (mixed512 m c t _ _).trans (congrArg₂ (mixAt _ _) (Fin.ext h0.symm) (Fin.ext rfl))
  · refine (congrFun (V_gup m c) _).trans (congrArg (m ((c : Thread nD τ).loc main_arg7)) ?_)
    blk_ext [idx t, h1]

/-- The same at the array index a block index sits at. -/
theorem pointGate (c : Dev nD) (t : Fin cfg0.N) (y) :
    k0_pay3 (k0_pay11 (firstBit (grid0.coords t 0).val) (iblk m c 2 t) (View.ld (iblk m c 3 t) r0_5) (iblk m c 5 t)) (iblk m c 10 t) y = Cert.RwkvPrepRefIdeal.Read.val_main_v57 (F := Ideal) (m ((c : Thread nD τ).loc main_arg1)) (m ((c : Thread nD τ).loc main_arg2)) (m ((c : Thread nD τ).loc main_arg7)) (((cfg0.win 16).blk t).view.emb y) := by
  refine storedGate m c t y _ ?_ ?_ <;> blk_simp [idx t]

/-- The gates after the run are the reference's. -/
theorem finalGate (c : Dev nD) : (dats m 0 c).arrAt 16 (cfgs 0).N = Cert.RwkvPrepRefIdeal.Read.val_main_v57 (F := Ideal) (m ((c : Thread nD τ).loc main_arg1)) (m ((c : Thread nD τ).loc main_arg2)) (m ((c : Thread nD τ).loc main_arg7)) := by
  refine (dats m 0 c).arrAt_eq_of_covers 16 _ (by decide +kernel) fun t _ y => ?_
  blk_simp
  rw [after0_16]; frame_out
  exact pointGate m c t y

end Cert.RwkvPrepIdeal.Value

end
-- ==== Proof.AttnFinite.lean ====
module

public import proofs.«01_k».proof.Pre_finite_scores
public import proofs.«01_k».proof.Proof.AttnRef
public import proofs.«01_k».proof.Proof.Gen.Pre_finite_scores

@[expose] public section

noncomputable section

open Idealize.ShloMosaic

/-! The precondition of the attention's equality, read back: the queries, the keys and the biases are real numbers. -/

namespace Cert.AttnFinite

/-- A number whose magnitude is below infinity is real. -/
theorem real_of_lt (x : EReal) (h : FloatOps.cmpf (F := Ideal) (φ := .f32) .olt (max x (-x)) (⊤ : EReal) = 1#1) : x = (x.toReal : EReal) := by
  have h' : max x (-x) < ⊤ := by
    by_contra hc
    have : FloatOps.cmpf (F := Ideal) (φ := .f32) .olt (max x (-x)) (⊤ : EReal) = BitVec.ofBool (decide (max x (-x) < ⊤)) := rfl
    rw [this, decide_eq_false hc] at h
    exact absurd h (by decide)
  rw [max_lt_iff] at h'
  refine (EReal.coe_toReal h'.1.ne ?_).symm
  rintro rfl
  exact absurd h'.2 (by simp)

/-- The infinities of the two formats. -/
theorem inf_bf16 : Ideal.ofBits .bf16 32640#16 = ⊤ := by
  simp [Ideal.ofBits, Ideal.ieee]

theorem inf_f32 : Ideal.ofBits .f32 2139095040#32 = ⊤ := by
  simp [Ideal.ofBits, Ideal.ieee]

/-- The precondition says that the scores' parts are real. -/
theorem real_of_pre (u : FVec Ideal Cert.ReferenceIdeal.S4x4096x6144 .bf16) (rb : FVec Ideal Cert.ReferenceIdeal.S16x513 .f32)
    (h : (Cert.Pre_finite_scores.fn (F := Ideal) u rb).1 = (fun _ => 1#1) ∧ (Cert.Pre_finite_scores.fn (F := Ideal) u rb).2 = (fun _ => 1#1)) :
    Cert.AttnRef.Real u rb where
  qk b t e he := by
    have := congrFun h.1 (ix3 b t ⟨e.val, he⟩)
    unfold Cert.Pre_finite_scores.fn at this
    refine real_of_lt _ (Eq.trans ?_ this)
    pointwise []
    rw [inf_bf16]
    rfl
  rb hd e := by
    have := congrFun h.2 (ix2 hd e)
    unfold Cert.Pre_finite_scores.fn at this
    refine real_of_lt _ (Eq.trans ?_ this)
    pointwise []
    rw [inf_f32]
    rfl

end Cert.AttnFinite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.AttnValue
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.FfnUpValue
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.FfnDownValue
public import proofs.«01_k».proof.Proof.Gen.ProjA
public import proofs.«01_k».proof.Proof.Gen.ProjA.Skeleton
public import proofs.«01_k».proof.Proof.Gen.ProjA.Launch
public import proofs.«01_k».proof.Proof.Gen.ProjA.Points
public import proofs.«01_k».proof.Proof.Gen.ProjA.Frame
public import proofs.«01_k».proof.Proof.Gen.ProjAIdeal
public import proofs.«01_k».proof.Proof.Gen.ProjAIdeal.Skeleton
public import proofs.«01_k».proof.Proof.Gen.ProjAIdeal.Launch
public import proofs.«01_k».proof.Proof.Gen.ProjAIdeal.Points
public import proofs.«01_k».proof.Proof.Gen.ProjAIdeal.Frame
public import proofs.«01_k».proof.Proof.Gen.ProjARefIdeal
public import proofs.«01_k».proof.Proof.Gen.ProjARefIdeal.Run
public import proofs.«01_k».proof.Proof.Gen.ProjARefIdeal.Read
public import proofs.«01_k».proof.Proof.ProjAValue
public import proofs.«01_k».proof.Proof.Gen.ProjQ
public import proofs.«01_k».proof.Proof.Gen.ProjQ.Skeleton
public import proofs.«01_k».proof.Proof.Gen.ProjQ.Launch
public import proofs.«01_k».proof.Proof.Gen.ProjQ.Points
public import proofs.«01_k».proof.Proof.Gen.ProjQ.Frame
public import proofs.«01_k».proof.Proof.Gen.ProjQIdeal
public import proofs.«01_k».proof.Proof.Gen.ProjQIdeal.Skeleton
public import proofs.«01_k».proof.Proof.Gen.ProjQIdeal.Launch
public import proofs.«01_k».proof.Proof.Gen.ProjQIdeal.Points
public import proofs.«01_k».proof.Proof.Gen.ProjQIdeal.Frame
public import proofs.«01_k».proof.Proof.Gen.ProjQRefIdeal
public import proofs.«01_k».proof.Proof.Gen.ProjQRefIdeal.Run
public import proofs.«01_k».proof.Proof.Gen.ProjQRefIdeal.Read
public import proofs.«01_k».proof.Proof.ProjQValue
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import proofs.«01_k».proof.Proof.Gen.ProjSRefIdeal.Run
public import proofs.«01_k».proof.Proof.Gen.ProjSRefIdeal.Read
public import proofs.«01_k».proof.Proof.ProjSValue
public import proofs.«01_k».proof.Proof.Gen.ProjRkv
public import proofs.«01_k».proof.Proof.Gen.ProjRkv.Skeleton
public import proofs.«01_k».proof.Proof.Gen.ProjRkv.Launch
public import proofs.«01_k».proof.Proof.Gen.ProjRkv.Points
public import proofs.«01_k».proof.Proof.Gen.ProjRkv.Frame
public import proofs.«01_k».proof.Proof.Gen.ProjRkvIdeal
public import proofs.«01_k».proof.Proof.Gen.ProjRkvIdeal.Skeleton
public import proofs.«01_k».proof.Proof.Gen.ProjRkvIdeal.Launch
public import proofs.«01_k».proof.Proof.Gen.ProjRkvIdeal.Points
public import proofs.«01_k».proof.Proof.Gen.ProjRkvIdeal.Frame
public import proofs.«01_k».proof.Proof.Gen.ProjRkvRefIdeal
public import proofs.«01_k».proof.Proof.Gen.ProjRkvRefIdeal.Run
public import proofs.«01_k».proof.Proof.Gen.ProjRkvRefIdeal.Read
public import proofs.«01_k».proof.Proof.ProjRkvValue
public import proofs.«01_k».proof.Proof.Gen.ProjLo
public import proofs.«01_k».proof.Proof.Gen.ProjLo.Skeleton
public import proofs.«01_k».proof.Proof.Gen.ProjLo.Launch
public import proofs.«01_k».proof.Proof.Gen.ProjLo.Points
public import proofs.«01_k».proof.Proof.Gen.ProjLo.Frame
public import proofs.«01_k».proof.Proof.Gen.ProjLoIdeal
public import proofs.«01_k».proof.Proof.Gen.ProjLoIdeal.Skeleton
public import proofs.«01_k».proof.Proof.Gen.ProjLoIdeal.Launch
public import proofs.«01_k».proof.Proof.Gen.ProjLoIdeal.Points
public import proofs.«01_k».proof.Proof.Gen.ProjLoIdeal.Frame
public import proofs.«01_k».proof.Proof.Gen.ProjLoRefIdeal
public import proofs.«01_k».proof.Proof.Gen.ProjLoRefIdeal.Run
public import proofs.«01_k».proof.Proof.Gen.ProjLoRefIdeal.Read
public import proofs.«01_k».proof.Proof.ProjLoValue
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.OutProjValue
public import proofs.«01_k».proof.Proof.Gen.UpQ
public import proofs.«01_k».proof.Proof.Gen.UpQ.Skeleton
public import proofs.«01_k».proof.Proof.Gen.UpQ.Launch
public import proofs.«01_k».proof.Proof.Gen.UpQ.Points
public import proofs.«01_k».proof.Proof.Gen.UpQ.Frame
public import proofs.«01_k».proof.Proof.Gen.UpQIdeal
public import proofs.«01_k».proof.Proof.Gen.UpQIdeal.Skeleton
public import proofs.«01_k».proof.Proof.Gen.UpQIdeal.Launch
public import proofs.«01_k».proof.Proof.Gen.UpQIdeal.Points
public import proofs.«01_k».proof.Proof.Gen.UpQIdeal.Frame
public import proofs.«01_k».proof.Proof.Gen.UpQRefIdeal
public import proofs.«01_k».proof.Proof.Gen.UpQRefIdeal.Run
public import proofs.«01_k».proof.Proof.Gen.UpQRefIdeal.Read
public import proofs.«01_k».proof.Proof.UpQValue
public import proofs.«01_k».proof.Proof.Gen.UpKv
public import proofs.«01_k».proof.Proof.Gen.UpKv.Skeleton
public import proofs.«01_k».proof.Proof.Gen.UpKv.Launch
public import proofs.«01_k».proof.Proof.Gen.UpKv.Points
public import proofs.«01_k».proof.Proof.Gen.UpKv.Frame
public import proofs.«01_k».proof.Proof.Gen.UpKvIdeal
public import proofs.«01_k».proof.Proof.Gen.UpKvIdeal.Skeleton
public import proofs.«01_k».proof.Proof.Gen.UpKvIdeal.Launch
public import proofs.«01_k».proof.Proof.Gen.UpKvIdeal.Points
public import proofs.«01_k».proof.Proof.Gen.UpKvIdeal.Frame
public import proofs.«01_k».proof.Proof.Gen.UpKvRefIdeal
public import proofs.«01_k».proof.Proof.Gen.UpKvRefIdeal.Run
public import proofs.«01_k».proof.Proof.Gen.UpKvRefIdeal.Read
public import proofs.«01_k».proof.Proof.UpKvValue
public import proofs.«01_k».proof.Proof.Gen.NormMod
public import proofs.«01_k».proof.Proof.Gen.NormMod.Skeleton
public import proofs.«01_k».proof.Proof.Gen.NormMod.Launch
public import proofs.«01_k».proof.Proof.Gen.NormMod.Points
public import proofs.«01_k».proof.Proof.Gen.NormMod.Frame
public import proofs.«01_k».proof.Proof.Gen.NormModIdeal
public import proofs.«01_k».proof.Proof.Gen.NormModIdeal.Skeleton
public import proofs.«01_k».proof.Proof.Gen.NormModIdeal.Launch
public import proofs.«01_k».proof.Proof.Gen.NormModIdeal.Points
public import proofs.«01_k».proof.Proof.Gen.NormModIdeal.Frame
public import proofs.«01_k».proof.Proof.Gen.NormModRefIdeal
public import proofs.«01_k».proof.Proof.Gen.NormModRefIdeal.Run
public import proofs.«01_k».proof.Proof.Gen.NormModRefIdeal.Read
public import proofs.«01_k».proof.Proof.NormModValue
public import proofs.«01_k».proof.Proof.Gen.NormPlain
public import proofs.«01_k».proof.Proof.Gen.NormPlain.Skeleton
public import proofs.«01_k».proof.Proof.Gen.NormPlain.Launch
public import proofs.«01_k».proof.Proof.Gen.NormPlain.Points
public import proofs.«01_k».proof.Proof.Gen.NormPlain.Frame
public import proofs.«01_k».proof.Proof.Gen.NormPlainIdeal
public import proofs.«01_k».proof.Proof.Gen.NormPlainIdeal.Skeleton
public import proofs.«01_k».proof.Proof.Gen.NormPlainIdeal.Launch
public import proofs.«01_k».proof.Proof.Gen.NormPlainIdeal.Points
public import proofs.«01_k».proof.Proof.Gen.NormPlainIdeal.Frame
public import proofs.«01_k».proof.Proof.Gen.NormPlainRefIdeal
public import proofs.«01_k».proof.Proof.Gen.NormPlainRefIdeal.Run
public import proofs.«01_k».proof.Proof.Gen.NormPlainRefIdeal.Read
public import proofs.«01_k».proof.Proof.NormPlainValue
public import proofs.«01_k».proof.Proof.Gen.Cond
public import proofs.«01_k».proof.Proof.Gen.Cond.Skeleton
public import proofs.«01_k».proof.Proof.Gen.Cond.Launch
public import proofs.«01_k».proof.Proof.Gen.Cond.Points
public import proofs.«01_k».proof.Proof.Gen.Cond.Frame
public import proofs.«01_k».proof.Proof.Gen.CondIdeal
public import proofs.«01_k».proof.Proof.Gen.CondIdeal.Skeleton
public import proofs.«01_k».proof.Proof.Gen.CondIdeal.Launch
public import proofs.«01_k».proof.Proof.Gen.CondIdeal.Points
public import proofs.«01_k».proof.Proof.Gen.CondIdeal.Frame
public import proofs.«01_k».proof.Proof.Gen.CondRefIdeal
public import proofs.«01_k».proof.Proof.Gen.CondRefIdeal.Run
public import proofs.«01_k».proof.Proof.Gen.CondRefIdeal.Read
public import proofs.«01_k».proof.Proof.CondValue
public import proofs.«01_k».proof.Proof.Gen.MlaPrep
public import proofs.«01_k».proof.Proof.Gen.MlaPrep.Skeleton
public import proofs.«01_k».proof.Proof.Gen.MlaPrep.Launch
public import proofs.«01_k».proof.Proof.Gen.MlaPrep.Points
public import proofs.«01_k».proof.Proof.Gen.MlaPrep.Frame
public import proofs.«01_k».proof.Proof.Gen.MlaPrepIdeal
public import proofs.«01_k».proof.Proof.Gen.MlaPrepIdeal.Skeleton
public import proofs.«01_k».proof.Proof.Gen.MlaPrepIdeal.Launch
public import proofs.«01_k».proof.Proof.Gen.MlaPrepIdeal.Points
public import proofs.«01_k».proof.Proof.Gen.MlaPrepIdeal.Frame
public import proofs.«01_k».proof.Proof.Gen.MlaPrepRefIdeal
public import proofs.«01_k».proof.Proof.Gen.MlaPrepRefIdeal.Run
public import proofs.«01_k».proof.Proof.Gen.MlaPrepRefIdeal.Read
public import proofs.«01_k».proof.Proof.MlaPrepValue
public import proofs.«01_k».proof.Proof.Gen.RwkvPrep
public import proofs.«01_k».proof.Proof.Gen.RwkvPrep.Skeleton
public import proofs.«01_k».proof.Proof.Gen.RwkvPrep.Launch
public import proofs.«01_k».proof.Proof.Gen.RwkvPrep.Points
public import proofs.«01_k».proof.Proof.Gen.RwkvPrep.Frame
public import proofs.«01_k».proof.Proof.Gen.RwkvPrepIdeal
public import proofs.«01_k».proof.Proof.Gen.RwkvPrepIdeal.Skeleton
public import proofs.«01_k».proof.Proof.Gen.RwkvPrepIdeal.Launch
public import proofs.«01_k».proof.Proof.Gen.RwkvPrepIdeal.Points
public import proofs.«01_k».proof.Proof.Gen.RwkvPrepIdeal.Frame
public import proofs.«01_k».proof.Proof.Gen.RwkvPrepRefIdeal
public import proofs.«01_k».proof.Proof.Gen.RwkvPrepRefIdeal.Run
public import proofs.«01_k».proof.Proof.Gen.RwkvPrepRefIdeal.Read
public import proofs.«01_k».proof.Proof.RwkvPrepValue
public import proofs.«01_k».proof.Proof.Gen.Pre_finite_scores
public import proofs.«01_k».proof.Proof.AttnFinite
public import Idealize.ShloMosaic.Adequacy
public import Idealize.ShloMosaic.Init
public import Idealize.ShloMosaic.Lib.Claim

@[expose] public section

noncomputable section

open Idealize.ShloMosaic Idealize.ShloMosaic.TcCoe Idealize.SL.Sem

namespace Cert.Proof

/-! ### The band attention -/

theorem frame_Kernel : Cert.quiescent_Kernel := fun m ρ _ => Cert.Kernel.Gen.frame m ρ
theorem frame_KernelIdeal : Cert.quiescent_KernelIdeal := fun m ρ _ => Cert.KernelIdeal.Gen.frame m ρ
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ledger's entries: the query factor, the base-two factor and the mask, each named. -/
theorem preserves_Kernel : Cert.preserves_Kernel_KernelIdeal :=
  ⟨IdealRules.named_const.statement Cert.KernelIdeal.κ "q_factor" .f32 0x3E0293EE#32 _ rfl,
    IdealRules.named_const.statement Cert.KernelIdeal.κ "log2_e" .f32 0x3FB8AA3B#32 _ rfl,
    IdealRules.named_const.statement Cert.KernelIdeal.κ "mask" .f32 0xF149F2CA#32 ⊥ rfl⟩

theorem frame_KernelIdeal_pre : Cert.quiescent_KernelIdeal_pre_finite_scores := fun m ρ _ => Cert.KernelIdeal.Gen.frame m ρ
theorem frame_ReferenceIdeal_pre : Cert.quiescent_ReferenceIdeal_pre_finite_scores := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The call's result array is the reference's, for finite queries, keys and table entries. -/
theorem algebraic_Kernel : Cert.algebraic_KernelIdeal_ReferenceIdeal_pre_finite_scores := by
  pair_intro
  · run_from Cert.KernelIdeal.Gen.run_main m g
    exact Cert.KernelIdeal.BandBias.V_arg1 m c
  · run_from Cert.ReferenceIdeal.Value.run m' g'
    exact (Cert.ReferenceIdeal.Read.val_main_v59_eq ..).trans ((congrArg₂ (Cert.ReferenceIdeal.Read.val_main_v59 (F := Ideal)) (hagree c).1 (hagree c).2).trans
      (Cert.KernelIdeal.AttnValue.final m c (Cert.AttnFinite.real_of_pre _ _ (hpre c))).symm)

/-! ### The MLP up projection -/

theorem frame_FfnUp : Cert.quiescent_FfnUp := fun m ρ _ => Cert.FfnUp.Gen.frame m ρ
theorem frame_FfnUpIdeal : Cert.quiescent_FfnUpIdeal := fun m ρ _ => Cert.FfnUpIdeal.Gen.frame m ρ
theorem frame_FfnUpRefIdeal : Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run (F := Ideal) m ρ)
theorem preserves_FfnUp : Cert.preserves_FfnUp_FfnUpIdeal := trivial

/-- The call's result array is the reference's. -/
theorem algebraic_FfnUp : Cert.algebraic_FfnUpIdeal_FfnUpRefIdeal := by
  pair_intro
  · run_from Cert.FfnUpIdeal.Gen.run_main m g
  · run_from Cert.FfnUpRefIdeal.Value.run m' g'
    exact (Cert.FfnUpRefIdeal.Read.val_main_v6_eq ..).trans (Cert.FfnUpIdeal.UpValue.final m c).symm

/-! ### The MLP down projection -/

theorem frame_FfnDown : Cert.quiescent_FfnDown := fun m ρ _ => Cert.FfnDown.Gen.frame m ρ
theorem frame_FfnDownIdeal : Cert.quiescent_FfnDownIdeal := fun m ρ _ => Cert.FfnDownIdeal.Gen.frame m ρ
theorem frame_FfnDownRefIdeal : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)
theorem preserves_FfnDown : Cert.preserves_FfnDown_FfnDownIdeal := trivial

/-- The call's result array is the reference's. -/
theorem algebraic_FfnDown : Cert.algebraic_FfnDownIdeal_FfnDownRefIdeal := by
  pair_intro
  · run_from Cert.FfnDownIdeal.Gen.run_main m g
  · run_from Cert.FfnDownRefIdeal.Value.run m' g'
    exact (Cert.FfnDownRefIdeal.Read.val_main_v10_eq ..).trans (Cert.FfnDownIdeal.DownValue.final m c).symm

/-! ### The wide input projection of the first mixer -/

theorem frame_ProjA : Cert.quiescent_ProjA := fun m ρ _ => Cert.ProjA.Gen.frame m ρ
theorem frame_ProjAIdeal : Cert.quiescent_ProjAIdeal := fun m ρ _ => Cert.ProjAIdeal.Gen.frame m ρ
theorem frame_ProjARefIdeal : Cert.quiescent_ProjARefIdeal := fun m ρ _ =>
  (θ_run Cert.ProjARefIdeal.defs _ _).mono (fun r h => ⟨fun c => (h c).2, sem_eq_zero_of_no_sems (by decide) r.2⟩)
    (Cert.ProjARefIdeal.Value.run (F := Ideal) m ρ)
theorem preserves_ProjA : Cert.preserves_ProjA_ProjAIdeal := trivial

/-- The call's result array is the reference's. -/
theorem algebraic_ProjA : Cert.algebraic_ProjAIdeal_ProjARefIdeal := by
  pair_intro
  · run_from Cert.ProjAIdeal.Gen.run_main m g
  · run_from Cert.ProjARefIdeal.Value.run m' g'
    exact (Cert.ProjARefIdeal.Read.val_main_v3_eq ..).trans (Cert.ProjAIdeal.Value.final m c).symm

/-! ### The query and indexer projection of the first mixer -/

theorem frame_ProjQ : Cert.quiescent_ProjQ := fun m ρ _ => Cert.ProjQ.Gen.frame m ρ
theorem frame_ProjQIdeal : Cert.quiescent_ProjQIdeal := fun m ρ _ => Cert.ProjQIdeal.Gen.frame m ρ
theorem frame_ProjQRefIdeal : Cert.quiescent_ProjQRefIdeal := fun m ρ _ =>
  (θ_run Cert.ProjQRefIdeal.defs _ _).mono (fun r h => ⟨fun c => (h c).2, sem_eq_zero_of_no_sems (by decide) r.2⟩)
    (Cert.ProjQRefIdeal.Value.run (F := Ideal) m ρ)
theorem preserves_ProjQ : Cert.preserves_ProjQ_ProjQIdeal := trivial

/-- The call's result array is the reference's. -/
theorem algebraic_ProjQ : Cert.algebraic_ProjQIdeal_ProjQRefIdeal := by
  pair_intro
  · run_from Cert.ProjQIdeal.Gen.run_main m g
  · run_from Cert.ProjQRefIdeal.Value.run m' g'
    exact (Cert.ProjQRefIdeal.Read.val_main_v7_eq ..).trans (Cert.ProjQIdeal.Value.final m c).symm

/-! ### The narrow projection of the first mixer -/

theorem frame_ProjS : Cert.quiescent_ProjS := fun m ρ _ => Cert.ProjS.Gen.frame m ρ
theorem frame_ProjSIdeal : Cert.quiescent_ProjSIdeal := fun m ρ _ => Cert.ProjSIdeal.Gen.frame m ρ
theorem frame_ProjSRefIdeal : Cert.quiescent_ProjSRefIdeal := fun m ρ _ =>
  (θ_run Cert.ProjSRefIdeal.defs _ _).mono (fun r h => ⟨fun c => (h c).2, sem_eq_zero_of_no_sems (by decide) r.2⟩)
    (Cert.ProjSRefIdeal.Value.run (F := Ideal) m ρ)
theorem preserves_ProjS : Cert.preserves_ProjS_ProjSIdeal := trivial

/-- The call's result array is the reference's. -/
theorem algebraic_ProjS : Cert.algebraic_ProjSIdeal_ProjSRefIdeal := by
  pair_intro
  · run_from Cert.ProjSIdeal.Gen.run_main m g
    exact Cert.ProjSIdeal.Value.V_arg1 m c
  · run_from Cert.ProjSRefIdeal.Value.run m' g'
    exact (Cert.ProjSRefIdeal.Read.val_main_v5_eq ..).trans (Cert.ProjSIdeal.Value.final m c).symm

/-! ### The input projection of the second mixer -/

theorem frame_ProjRkv : Cert.quiescent_ProjRkv := fun m ρ _ => Cert.ProjRkv.Gen.frame m ρ
theorem frame_ProjRkvIdeal : Cert.quiescent_ProjRkvIdeal := fun m ρ _ => Cert.ProjRkvIdeal.Gen.frame m ρ
theorem frame_ProjRkvRefIdeal : Cert.quiescent_ProjRkvRefIdeal := fun m ρ _ =>
  (θ_run Cert.ProjRkvRefIdeal.defs _ _).mono (fun r h => ⟨fun c => (h c).2, sem_eq_zero_of_no_sems (by decide) r.2⟩)
    (Cert.ProjRkvRefIdeal.Value.run (F := Ideal) m ρ)
theorem preserves_ProjRkv : Cert.preserves_ProjRkv_ProjRkvIdeal := trivial

/-- The call's result array is the reference's. -/
theorem algebraic_ProjRkv : Cert.algebraic_ProjRkvIdeal_ProjRkvRefIdeal := by
  pair_intro
  · run_from Cert.ProjRkvIdeal.Gen.run_main m g
  · run_from Cert.ProjRkvRefIdeal.Value.run m' g'
    exact (Cert.ProjRkvRefIdeal.Read.val_main_v3_eq ..).trans (Cert.ProjRkvIdeal.Value.final m c).symm

/-! ### The narrow projections of the second mixer -/

theorem frame_ProjLo : Cert.quiescent_ProjLo := fun m ρ _ => Cert.ProjLo.Gen.frame m ρ
theorem frame_ProjLoIdeal : Cert.quiescent_ProjLoIdeal := fun m ρ _ => Cert.ProjLoIdeal.Gen.frame m ρ
theorem frame_ProjLoRefIdeal : Cert.quiescent_ProjLoRefIdeal := fun m ρ _ =>
  (θ_run Cert.ProjLoRefIdeal.defs _ _).mono (fun r h => ⟨fun c => (h c).2, sem_eq_zero_of_no_sems (by decide) r.2⟩)
    (Cert.ProjLoRefIdeal.Value.run (F := Ideal) m ρ)
theorem preserves_ProjLo : Cert.preserves_ProjLo_ProjLoIdeal := trivial

/-- The call's result array is the reference's. -/
theorem algebraic_ProjLo : Cert.algebraic_ProjLoIdeal_ProjLoRefIdeal := by
  pair_intro
  · run_from Cert.ProjLoIdeal.Gen.run_main m g
    exact Cert.ProjLoIdeal.Value.V_arg1 m c
  · run_from Cert.ProjLoRefIdeal.Value.run m' g'
    exact (Cert.ProjLoRefIdeal.Read.val_main_v3_eq ..).trans (Cert.ProjLoIdeal.Value.final m c).symm

/-! ### The out projection -/

theorem frame_OutProj : Cert.quiescent_OutProj := fun m ρ _ => Cert.OutProj.Gen.frame m ρ
theorem frame_OutProjIdeal : Cert.quiescent_OutProjIdeal := fun m ρ _ => Cert.OutProjIdeal.Gen.frame m ρ
theorem frame_OutProjRefIdeal : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)
theorem preserves_OutProj : Cert.preserves_OutProj_OutProjIdeal := trivial

/-- The call's result array is the reference's. -/
theorem algebraic_OutProj : Cert.algebraic_OutProjIdeal_OutProjRefIdeal := by
  pair_intro
  · run_from Cert.OutProjIdeal.Gen.run_main m g
  · run_from Cert.OutProjRefIdeal.Value.run m' g'
    exact (Cert.OutProjRefIdeal.Read.val_main_v11_eq ..).trans (Cert.OutProjIdeal.Value.final m c).symm

/-! ### The query up projection -/

theorem frame_UpQ : Cert.quiescent_UpQ := fun m ρ _ => Cert.UpQ.Gen.frame m ρ
theorem frame_UpQIdeal : Cert.quiescent_UpQIdeal := fun m ρ _ => Cert.UpQIdeal.Gen.frame m ρ
theorem frame_UpQRefIdeal : Cert.quiescent_UpQRefIdeal := fun m ρ _ =>
  (θ_run Cert.UpQRefIdeal.defs _ _).mono (fun r h => ⟨fun c => (h c).2, sem_eq_zero_of_no_sems (by decide) r.2⟩)
    (Cert.UpQRefIdeal.Value.run (F := Ideal) m ρ)
theorem preserves_UpQ : Cert.preserves_UpQ_UpQIdeal := trivial

/-- The call's result array is the reference's. -/
theorem algebraic_UpQ : Cert.algebraic_UpQIdeal_UpQRefIdeal := by
  pair_intro
  · run_from Cert.UpQIdeal.Gen.run_main m g
    exact Cert.UpQIdeal.Value.V_arg1 m c
  · run_from Cert.UpQRefIdeal.Value.run m' g'
    exact (Cert.UpQRefIdeal.Read.val_main_v7_eq ..).trans (Cert.UpQIdeal.Value.final m c).symm

/-! ### The key and value up projection -/

theorem frame_UpKv : Cert.quiescent_UpKv := fun m ρ _ => Cert.UpKv.Gen.frame m ρ
theorem frame_UpKvIdeal : Cert.quiescent_UpKvIdeal := fun m ρ _ => Cert.UpKvIdeal.Gen.frame m ρ
theorem frame_UpKvRefIdeal : Cert.quiescent_UpKvRefIdeal := fun m ρ _ =>
  (θ_run Cert.UpKvRefIdeal.defs _ _).mono (fun r h => ⟨fun c => (h c).2, sem_eq_zero_of_no_sems (by decide) r.2⟩)
    (Cert.UpKvRefIdeal.Value.run (F := Ideal) m ρ)
theorem preserves_UpKv : Cert.preserves_UpKv_UpKvIdeal := trivial

/-- The call's result array is the reference's. -/
theorem algebraic_UpKv : Cert.algebraic_UpKvIdeal_UpKvRefIdeal := by
  pair_intro
  · run_from Cert.UpKvIdeal.Gen.run_main m g
  · run_from Cert.UpKvRefIdeal.Value.run m' g'
    exact (Cert.UpKvRefIdeal.Read.val_main_v4_eq ..).trans (Cert.UpKvIdeal.Value.final m c).symm

/-! ### The modulated norm -/

theorem frame_NormMod : Cert.quiescent_NormMod := fun m ρ _ => Cert.NormMod.Gen.frame m ρ
theorem frame_NormModIdeal : Cert.quiescent_NormModIdeal := fun m ρ _ => Cert.NormModIdeal.Gen.frame m ρ
theorem frame_NormModRefIdeal : Cert.quiescent_NormModRefIdeal := fun m ρ _ =>
  (θ_run Cert.NormModRefIdeal.defs _ _).mono (fun r h => ⟨fun c => (h c).2, sem_eq_zero_of_no_sems (by decide) r.2⟩)
    (Cert.NormModRefIdeal.Value.run (F := Ideal) m ρ)
theorem preserves_NormMod : Cert.preserves_NormMod_NormModIdeal := trivial

/-- The call's result array is the reference's. -/
theorem algebraic_NormMod : Cert.algebraic_NormModIdeal_NormModRefIdeal := by
  pair_intro
  · run_from Cert.NormModIdeal.Gen.run_main m g
  · run_from Cert.NormModRefIdeal.Value.run m' g'
    exact (Cert.NormModRefIdeal.Read.val_main_v23_eq ..).trans (Cert.NormModIdeal.Value.final m c).symm

/-! ### The plain norm -/

theorem frame_NormPlain : Cert.quiescent_NormPlain := fun m ρ _ => Cert.NormPlain.Gen.frame m ρ
theorem frame_NormPlainIdeal : Cert.quiescent_NormPlainIdeal := fun m ρ _ => Cert.NormPlainIdeal.Gen.frame m ρ
theorem frame_NormPlainRefIdeal : Cert.quiescent_NormPlainRefIdeal := fun m ρ _ =>
  (θ_run Cert.NormPlainRefIdeal.defs _ _).mono (fun r h => ⟨fun c => (h c).2, sem_eq_zero_of_no_sems (by decide) r.2⟩)
    (Cert.NormPlainRefIdeal.Value.run (F := Ideal) m ρ)
theorem preserves_NormPlain : Cert.preserves_NormPlain_NormPlainIdeal := trivial

/-- The call's result array is the reference's. -/
theorem algebraic_NormPlain : Cert.algebraic_NormPlainIdeal_NormPlainRefIdeal := by
  pair_intro
  · run_from Cert.NormPlainIdeal.Gen.run_main m g
  · run_from Cert.NormPlainRefIdeal.Value.run m' g'
    exact (Cert.NormPlainRefIdeal.Read.val_main_v12_eq ..).trans (Cert.NormPlainIdeal.Value.final m c).symm

/-! ### The conditioning's projection -/

theorem frame_Cond : Cert.quiescent_Cond := fun m ρ _ => Cert.Cond.Gen.frame m ρ
theorem frame_CondIdeal : Cert.quiescent_CondIdeal := fun m ρ _ => Cert.CondIdeal.Gen.frame m ρ
theorem frame_CondRefIdeal : Cert.quiescent_CondRefIdeal := fun m ρ _ =>
  (θ_run Cert.CondRefIdeal.defs _ _).mono (fun r h => ⟨fun c => (h c).2, sem_eq_zero_of_no_sems (by decide) r.2⟩)
    (Cert.CondRefIdeal.Value.run (F := Ideal) m ρ)
theorem preserves_Cond : Cert.preserves_Cond_CondIdeal := trivial

/-- The call's result array is the reference's. -/
theorem algebraic_Cond : Cert.algebraic_CondIdeal_CondRefIdeal := by
  pair_intro
  · run_from Cert.CondIdeal.Gen.run_main m g
    exact Cert.CondIdeal.Gen.W_main_arg0 m _ c
  · run_from Cert.CondRefIdeal.Value.run m' g'
    exact (Cert.CondRefIdeal.Read.val_main_v2_eq ..).trans (Cert.CondIdeal.Value.final m c).symm

/-! ### The latent attention's preparation -/

theorem frame_MlaPrep : Cert.quiescent_MlaPrep := fun m ρ _ => Cert.MlaPrep.Gen.frame m ρ
theorem frame_MlaPrepIdeal : Cert.quiescent_MlaPrepIdeal := fun m ρ _ => Cert.MlaPrepIdeal.Gen.frame m ρ
theorem frame_MlaPrepRefIdeal : Cert.quiescent_MlaPrepRefIdeal := fun m ρ _ =>
  (θ_run Cert.MlaPrepRefIdeal.defs _ _).mono (fun r h => ⟨fun c => (h c).2.2.2, sem_eq_zero_of_no_sems (by decide) r.2⟩)
    (Cert.MlaPrepRefIdeal.Value.run (F := Ideal) m ρ)
theorem preserves_MlaPrep : Cert.preserves_MlaPrep_MlaPrepIdeal := trivial

/-- The call's three result arrays are the reference's. -/
theorem algebraic_MlaPrep : Cert.algebraic_MlaPrepIdeal_MlaPrepRefIdeal := by
  pair_intro
  · run_from Cert.MlaPrepIdeal.Gen.run_main m g
  · run_from Cert.MlaPrepRefIdeal.Value.run m' g'
    · exact (Cert.MlaPrepRefIdeal.Read.val_main_v35_eq ..).trans (Cert.MlaPrepIdeal.Value.finalQ m c).symm
    · exact (Cert.MlaPrepRefIdeal.Read.val_main_v50_eq ..).trans (Cert.MlaPrepIdeal.Value.finalKv m c).symm
    · exact (Cert.MlaPrepRefIdeal.Read.val_main_v51_eq ..).trans ((congrArg₂ (Cert.MlaPrepRefIdeal.Read.val_main_v51 (F := Ideal) _) (hagree c).2.2.2.1 (hagree c).2.2.2.2).trans (Cert.MlaPrepIdeal.Value.finalPe m c).symm)

/-! ### The time mixing's preparation -/

theorem frame_RwkvPrep : Cert.quiescent_RwkvPrep := fun m ρ _ => Cert.RwkvPrep.Gen.frame m ρ
theorem frame_RwkvPrepIdeal : Cert.quiescent_RwkvPrepIdeal := fun m ρ _ => Cert.RwkvPrepIdeal.Gen.frame m ρ
theorem frame_RwkvPrepRefIdeal : Cert.quiescent_RwkvPrepRefIdeal := fun m ρ _ =>
  (θ_run Cert.RwkvPrepRefIdeal.defs _ _).mono (fun r h => ⟨fun c => (h c).2.2.2.2.2.2, sem_eq_zero_of_no_sems (by decide) r.2⟩)
    (Cert.RwkvPrepRefIdeal.Value.run (F := Ideal) m ρ)
theorem preserves_RwkvPrep : Cert.preserves_RwkvPrep_RwkvPrepIdeal := trivial

set_option maxHeartbeats 4000000 in  -- seventeen windows are looked through for six results
/-- The call's six result arrays are the reference's. -/
theorem algebraic_RwkvPrep : Cert.algebraic_RwkvPrepIdeal_RwkvPrepRefIdeal := by
  pair_intro
  · run_from Cert.RwkvPrepIdeal.Gen.run_main m g
    exact hc.1 16
  · run_from Cert.RwkvPrepRefIdeal.Value.run m' g'
    · exact (Cert.RwkvPrepRefIdeal.Read.val_main_v54_eq ..).trans (Cert.RwkvPrepIdeal.Value.finalR m c).symm
    · exact (Cert.RwkvPrepRefIdeal.Read.val_main_v55_eq ..).trans (Cert.RwkvPrepIdeal.Value.finalK m c).symm
    · exact (Cert.RwkvPrepRefIdeal.Read.val_main_v56_eq ..).trans (Cert.RwkvPrepIdeal.Value.finalVal m c).symm
    · rw [Cert.RwkvPrepRefIdeal.Read.val_main_v36_eq, (hagree c).2.1, (hagree c).2.2.1, (hagree c).2.2.2.1, (hagree c).2.2.2.2.1]
      exact (Cert.RwkvPrepIdeal.Value.finalDecay m c).symm
    · exact (Cert.RwkvPrepRefIdeal.Read.val_main_v46_eq ..).trans (Cert.RwkvPrepIdeal.Value.finalRate m c).symm
    · exact (Cert.RwkvPrepRefIdeal.Read.val_main_v57_eq ..).trans (Cert.RwkvPrepIdeal.Value.finalGate m c).symm

theorem claim : Cert.Claim :=
  ⟨Cert.Kernel.Gen.facts, Cert.KernelIdeal.Gen.facts, Cert.ReferenceIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.ProjA.Gen.facts, Cert.ProjAIdeal.Gen.facts, Cert.ProjARefIdeal.Gen.facts, Cert.ProjQ.Gen.facts, Cert.ProjQIdeal.Gen.facts, Cert.ProjQRefIdeal.Gen.facts, Cert.ProjS.Gen.facts, Cert.ProjSIdeal.Gen.facts, Cert.ProjSRefIdeal.Gen.facts, Cert.ProjRkv.Gen.facts, Cert.ProjRkvIdeal.Gen.facts, Cert.ProjRkvRefIdeal.Gen.facts, Cert.ProjLo.Gen.facts, Cert.ProjLoIdeal.Gen.facts, Cert.ProjLoRefIdeal.Gen.facts, Cert.OutProj.Gen.facts, Cert.OutProjIdeal.Gen.facts, Cert.OutProjRefIdeal.Gen.facts, Cert.UpQ.Gen.facts, Cert.UpQIdeal.Gen.facts, Cert.UpQRefIdeal.Gen.facts, Cert.UpKv.Gen.facts, Cert.UpKvIdeal.Gen.facts, Cert.UpKvRefIdeal.Gen.facts, Cert.NormMod.Gen.facts, Cert.NormModIdeal.Gen.facts, Cert.NormModRefIdeal.Gen.facts, Cert.NormPlain.Gen.facts, Cert.NormPlainIdeal.Gen.facts, Cert.NormPlainRefIdeal.Gen.facts, Cert.Cond.Gen.facts, Cert.CondIdeal.Gen.facts, Cert.CondRefIdeal.Gen.facts, Cert.MlaPrep.Gen.facts, Cert.MlaPrepIdeal.Gen.facts, Cert.MlaPrepRefIdeal.Gen.facts, Cert.RwkvPrep.Gen.facts, Cert.RwkvPrepIdeal.Gen.facts, Cert.RwkvPrepRefIdeal.Gen.facts, Cert.Pre_finite_scores.Gen.facts,
    frame_Kernel,
    frame_KernelIdeal,
    frame_KernelIdeal_pre,
    frame_ReferenceIdeal,
    frame_ReferenceIdeal_pre,
    frame_FfnUp,
    frame_FfnUpIdeal,
    frame_FfnUpRefIdeal,
    frame_FfnDown,
    frame_FfnDownIdeal,
    frame_FfnDownRefIdeal,
    frame_ProjA,
    frame_ProjAIdeal,
    frame_ProjARefIdeal,
    frame_ProjQ,
    frame_ProjQIdeal,
    frame_ProjQRefIdeal,
    frame_ProjS,
    frame_ProjSIdeal,
    frame_ProjSRefIdeal,
    frame_ProjRkv,
    frame_ProjRkvIdeal,
    frame_ProjRkvRefIdeal,
    frame_ProjLo,
    frame_ProjLoIdeal,
    frame_ProjLoRefIdeal,
    frame_OutProj,
    frame_OutProjIdeal,
    frame_OutProjRefIdeal,
    frame_UpQ,
    frame_UpQIdeal,
    frame_UpQRefIdeal,
    frame_UpKv,
    frame_UpKvIdeal,
    frame_UpKvRefIdeal,
    frame_NormMod,
    frame_NormModIdeal,
    frame_NormModRefIdeal,
    frame_NormPlain,
    frame_NormPlainIdeal,
    frame_NormPlainRefIdeal,
    frame_Cond,
    frame_CondIdeal,
    frame_CondRefIdeal,
    frame_MlaPrep,
    frame_MlaPrepIdeal,
    frame_MlaPrepRefIdeal,
    frame_RwkvPrep,
    frame_RwkvPrepIdeal,
    frame_RwkvPrepRefIdeal,
    preserves_Kernel,
    algebraic_Kernel,
    preserves_FfnUp,
    algebraic_FfnUp,
    preserves_FfnDown,
    algebraic_FfnDown,
    preserves_ProjA,
    algebraic_ProjA,
    preserves_ProjQ,
    algebraic_ProjQ,
    preserves_ProjS,
    algebraic_ProjS,
    preserves_ProjRkv,
    algebraic_ProjRkv,
    preserves_ProjLo,
    algebraic_ProjLo,
    preserves_OutProj,
    algebraic_OutProj,
    preserves_UpQ,
    algebraic_UpQ,
    preserves_UpKv,
    algebraic_UpKv,
    preserves_NormMod,
    algebraic_NormMod,
    preserves_NormPlain,
    algebraic_NormPlain,
    preserves_Cond,
    algebraic_Cond,
    preserves_MlaPrep,
    algebraic_MlaPrep,
    preserves_RwkvPrep,
    algebraic_RwkvPrep⟩

end Cert.Proof

end
